-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9)
      ∧ r.2.mem ((c.tc : Thread Cert.OutprojRefIdeal.nD Cert.OutprojRefIdeal.τ).loc Cert.OutprojRefIdeal.main_arg10) = m ((c.tc : Thread Cert.OutprojRefIdeal.nD Cert.OutprojRefIdeal.τ).loc Cert.OutprojRefIdeal.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)
      ∧ m' ((c.tc : Thread Cert.OutprojRefIdeal.nD Cert.OutprojRefIdeal.τ).loc Cert.OutprojRefIdeal.main_arg10) = m ((c.tc : Thread Cert.OutprojIdeal.nD Cert.OutprojIdeal.τ).loc Cert.OutprojIdeal.main_arg10)) →
    ∃ (v0 : (c : Dev Cert.OutprojIdeal.nD) → Buf (Elt Ideal) ((c.tc : Thread Cert.OutprojIdeal.nD Cert.OutprojIdeal.τ).loc Cert.OutprojIdeal.main_v10)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v10) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v60) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9)
          ∧ r.2.mem ((c.tc : Thread Cert.OutprojRefIdeal.nD Cert.OutprojRefIdeal.τ).loc Cert.OutprojRefIdeal.main_arg10) = m' ((c.tc : Thread Cert.OutprojRefIdeal.nD Cert.OutprojRefIdeal.τ).loc Cert.OutprojRefIdeal.main_arg10))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5_0) = v0 c
          ∧ r.2.mem ((c.tc : Thread Cert.InprojIdeal.nD Cert.InprojIdeal.τ).loc Cert.InprojIdeal.main_v5_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v31) = v0 c
          ∧ r.2.mem ((c.tc : Thread Cert.InprojRefIdeal.nD Cert.InprojRefIdeal.τ).loc Cert.InprojRefIdeal.main_v32) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def Claim : Prop :=
  ∃ (hKernel : Cert.Kernel.Facts) (hKernelIdeal : Cert.KernelIdeal.Facts) (hReferenceIdeal : Cert.ReferenceIdeal.Facts) (hOutproj : Cert.Outproj.Facts) (hOutprojIdeal : Cert.OutprojIdeal.Facts) (hOutprojRefIdeal : Cert.OutprojRefIdeal.Facts) (hInproj : Cert.Inproj.Facts) (hInprojIdeal : Cert.InprojIdeal.Facts) (hInprojRefIdeal : Cert.InprojRefIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Inproj (hInproj := hInproj)
    ∧ quiescent_InprojIdeal (hInprojIdeal := hInprojIdeal)
    ∧ quiescent_InprojRefIdeal (hInprojRefIdeal := hInprojRefIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Outproj_OutprojIdeal
    ∧ algebraic_OutprojIdeal_OutprojRefIdeal (hOutprojIdeal := hOutprojIdeal) (hOutprojRefIdeal := hOutprojRefIdeal)
    ∧ preserves_Inproj_InprojIdeal
    ∧ algebraic_InprojIdeal_InprojRefIdeal (hInprojIdeal := hInprojIdeal) (hInprojRefIdeal := hInprojRefIdeal)
-- ==== Pre_scores_finite.lean ====
abbrev S4x4096x8x128 : Shape := ⟨4, ![4, 4096, 8, 128]⟩
abbrev S4x4096x2x128 : Shape := ⟨4, ![4, 4096, 2, 128]⟩
abbrev S4x4096x6656 : Shape := ⟨3, ![4, 4096, 6656]⟩
abbrev S4x256x2x128 : Shape := ⟨4, ![4, 256, 2, 128]⟩
abbrev S4x256x6656 : Shape := ⟨3, ![4, 256, 6656]⟩
abbrev S_ : Shape := ⟨0, ![]⟩

class Facts : Prop where
  bcast_S_S4x4096x8x128 : S_.BroadcastsInDim S4x4096x8x128 (![] : Fin 0 → Fin S4x4096x8x128.rank)
  bcast_S_S4x4096x2x128 : S_.BroadcastsInDim S4x4096x2x128 (![] : Fin 0 → Fin S4x4096x2x128.rank)
  bcast_S_S4x256x2x128 : S_.BroadcastsInDim S4x256x2x128 (![] : Fin 0 → Fin S4x256x2x128.rank)

variable [Facts]

def fn {F : FTy → Type} [FloatOps F] (main_arg0 : FVec F S4x4096x8x128 .f32) (main_arg1 : FVec F S4x4096x2x128 .f32) (main_arg2 : FVec F S4x4096x6656 .bf16) (main_arg3 : FVec F S4x256x2x128 .f32) (main_arg4 : FVec F S4x256x6656 .bf16) : IVec S4x4096x8x128 1 × IVec S4x4096x2x128 1 × IVec S4x256x2x128 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_v3 : FVec F S4x4096x2x128 .f32 := Host.absf main_arg1
  let main_cst_0 : FVec F S_ .f32 := constant S_ .f32 0x7F800000#32
  let main_v4 : FVec F S4x4096x2x128 .f32 := broadcastInDim S4x4096x2x128 ![] bcast_S_S4x4096x2x128 main_cst_0
  let main_v5 : IVec S4x4096x2x128 1 := cmpf .olt main_v3 main_v4
  let main_v6 : FVec F S4x256x2x128 .f32 := Host.absf main_arg3
  let main_cst_1 : FVec F S_ .f32 := constant S_ .f32 0x7F800000#32
  let main_v7 : FVec F S4x256x2x128 .f32 := broadcastInDim S4x256x2x128 ![] bcast_S_S4x256x2x128 main_cst_1
  let main_v8 : IVec S4x256x2x128 1 := cmpf .olt main_v6 main_v7
  (main_v2, main_v5, main_v8)
-- ==== Kernel.lean ====
abbrev S4x4096x8x128 : Shape := ⟨4, ![4, 4096, 8, 128]⟩
abbrev S4x4096x2x128 : Shape := ⟨4, ![4, 4096, 2, 128]⟩
abbrev S4x4096x6656 : Shape := ⟨3, ![4, 4096, 6656]⟩
abbrev S4x256x2x128 : Shape := ⟨4, ![4, 256, 2, 128]⟩
abbrev S4x256x6656 : Shape := ⟨3, ![4, 256, 6656]⟩
abbrev S_ : Shape := ⟨0, ![]⟩
abbrev S4x4096x1024 : Shape := ⟨3, ![4, 4096, 1024]⟩
abbrev S4x4096x256 : Shape := ⟨3, ![4, 4096, 256]⟩
abbrev S4x256x256 : Shape := ⟨3, ![4, 256, 256]⟩
abbrev S1x256x512 : Shape := ⟨3, ![1, 256, 512]⟩
abbrev S1x256x128 : Shape := ⟨3, ![1, 256, 128]⟩
abbrev S1x4096x128 : Shape := ⟨3, ![1, 4096, 128]⟩
abbrev S1024x128 : Shape := ⟨2, ![1024, 128]⟩
abbrev S1024x1024 : Shape := ⟨2, ![1024, 1024]⟩
abbrev S1024x256 : Shape := ⟨2, ![1024, 256]⟩
abbrev S256x128 : Shape := ⟨2, ![256, 128]⟩
abbrev S1x1024x128 : Shape := ⟨3, ![1, 1024, 128]⟩
abbrev S512x128 : Shape := ⟨2, ![512, 128]⟩
abbrev S512x1024 : Shape := ⟨2, ![512, 1024]⟩
abbrev S16x128 : Shape := ⟨2, ![16, 128]⟩
abbrev S16 : Shape := ⟨1, ![16]⟩
abbrev S16x1 : Shape := ⟨2, ![16, 1]⟩
abbrev S512x256 : Shape := ⟨2, ![512, 256]⟩
abbrev S1024 : Shape := ⟨1, ![1024]⟩
abbrev S1024x1 : Shape := ⟨2, ![1024, 1]⟩

abbrev nBuf : Space → Nat
  | .hbm => 21
  | .vmem => 21
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x6656, .bf16⟩
  | .hbm, ⟨3, _⟩ => ⟨S4x256x2x128, .f32⟩
  | .hbm, ⟨4, _⟩ => ⟨S4x256x6656, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x8x128, .f32⟩
  | .hbm, ⟨13, _⟩ => ⟨S4x4096x8x128, .f32⟩
  | .hbm, ⟨14, _⟩ => ⟨S4x4096x8x128, .bf16⟩
  | .hbm, ⟨15, _⟩ => ⟨S4x4096x1024, .bf16⟩
  | .hbm, ⟨16, _⟩ => ⟨S4x4096x2x128, .bf16⟩
  | .hbm, ⟨17, _⟩ => ⟨S4x4096x256, .bf16⟩
  | .hbm, ⟨18, _⟩ => ⟨S4x256x2x128, .bf16⟩
  | .hbm, ⟨19, _⟩ => ⟨S4x256x256, .bf16⟩
  | .hbm, ⟨20, _⟩ => ⟨S4x4096x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x256x512, .bf16⟩
  | .local _ .vmem, ⟨11, _⟩ => ⟨S1x256x512, .bf16⟩
  | .local _ .vmem, ⟨12, _⟩ => ⟨S1024x128, .bf16⟩
  | .local _ .vmem, ⟨13, _⟩ => ⟨S1024x1024, .f32⟩
  | .local _ .vmem, ⟨14, _⟩ => ⟨S1024x1024, .f32⟩
  | .local _ .vmem, ⟨15, _⟩ => ⟨S1024x256, .f32⟩
  | .local _ .vmem, ⟨16, _⟩ => ⟨S1024x1024, .bf16⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

def k0_mult1 : BitVec 32 :=
  let c0_i32 : BitVec 32 := 0#32
  c0_i32
def k0_mult2 : BitVec 32 :=
  let c0_i32_29 : BitVec 32 := 0#32
  c0_i32_29
def k0_mult3 : BitVec 32 :=
  let c2_i32 : BitVec 32 := 2#32
  let c0_i32_37 : BitVec 32 := 0#32
  let v50 : BitVec 32 := Scalar.muli c2_i32 c0_i32_37
  let c1024_i32 : BitVec 32 := 1024#32
  let v51 : BitVec 32 := Scalar.muli v50 c1024_i32
  v51
def k0_off1 : Fin 3 → Nat :=
  let c0_38 : Index := 0#32
  let c2_i32 : BitVec 32 := 2#32
  let c0_i32_37 : BitVec 32 := 0#32
  let v50 : BitVec 32 := Scalar.muli c2_i32 c0_i32_37
  let c1024_i32 : BitVec 32 := 1024#32
  let v51 : BitVec 32 := Scalar.muli v50 c1024_i32
  let v52 : BitVec 32 := v51
  let v53 : Index := Scalar.indexCast v52
  let c0_39 : Index := 0#32
  ![0, v53.toNat, 0]
def k0_mult4 : BitVec 32 :=
  let c2_i32 : BitVec 32 := 2#32
  let c0_i32_37 : BitVec 32 := 0#32
  let v50 : BitVec 32 := Scalar.muli c2_i32 c0_i32_37
  let c1_i32 : BitVec 32 := 1#32
  let v56 : BitVec 32 := Scalar.addi v50 c1_i32
  let c1024_i32_40 : BitVec 32 := 1024#32
  let v57 : BitVec 32 := Scalar.muli v56 c1024_i32_40
  v57
def k0_off2 (c1_i32 : BitVec 32) : Fin 3 → Nat :=
  let c0_41 : Index := 0#32
  let c2_i32 : BitVec 32 := 2#32
  let c0_i32_37 : BitVec 32 := 0#32
  let v50 : BitVec 32 := Scalar.muli c2_i32 c0_i32_37
  let v56 : BitVec 32 := Scalar.addi v50 c1_i32
  let c1024_i32_40 : BitVec 32 := 1024#32
  let v57 : BitVec 32 := Scalar.muli v56 c1024_i32_40
  let v58 : BitVec 32 := v57
  let v59 : Index := Scalar.indexCast v58
  let c0_42 : Index := 0#32
  ![0, v59.toNat, 0]
def k0_mult5 : BitVec 32 :=
  let c2_i32 : BitVec 32 := 2#32
  let c0_i32_37 : BitVec 32 := 0#32
  let v50 : BitVec 32 := Scalar.muli c2_i32 c0_i32_37
  let c1_i32_2765 : BitVec 32 := 1#32
  let v5786 : BitVec 32 := Scalar.addi v50 c1_i32_2765
  let c1024_i32_2766 : BitVec 32 := 1024#32
  let v5787 : BitVec 32 := Scalar.muli v5786 c1024_i32_2766
  v5787
def k0_mult6 : BitVec 32 :=
  let c2_i32 : BitVec 32 := 2#32
  let c0_i32_37 : BitVec 32 := 0#32
  let v50 : BitVec 32 := Scalar.muli c2_i32 c0_i32_37
  let c2_i32_2769 : BitVec 32 := 2#32
  let v5792 : BitVec 32 := Scalar.addi v50 c2_i32_2769
  let c1024_i32_2770 : BitVec 32 := 1024#32
  let v5793 : BitVec 32 := Scalar.muli v5792 c1024_i32_2770
  v5793
def k0_mult7 : BitVec 32 :=
  let c2048_i32 : BitVec 32 := 2048#32
  c2048_i32
def k0_mult8 : BitVec 32 :=
  let c3072_i32 : BitVec 32 := 3072#32
  c3072_i32
def k0_mult9 : BitVec 32 :=
  let c3072_i32_8338 : BitVec 32 := 3072#32
  c3072_i32_8338
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x8x128 : Shape := ⟨4, ![4, 4096, 8, 128]⟩
abbrev S4x4096x2x128 : Shape := ⟨4, ![4, 4096, 2, 128]⟩
abbrev S4x4096x6656 : Shape := ⟨3, ![4, 4096, 6656]⟩
abbrev S4x256x2x128 : Shape := ⟨4, ![4, 256, 2, 128]⟩
abbrev S4x256x6656 : Shape := ⟨3, ![4, 256, 6656]⟩
abbrev S4x4096x256 : Shape := ⟨3, ![4, 4096, 256]⟩
abbrev S4x256x256 : Shape := ⟨3, ![4, 256, 256]⟩
abbrev S4x4352x2x128 : Shape := ⟨4, ![4, 4352, 2, 128]⟩
abbrev S4x4096x2x4x128 : Shape := ⟨5, ![4, 4096, 2, 4, 128]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x1024 : Shape := ⟨3, ![4, 4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x6656, .bf16⟩
  | .hbm, ⟨3, _⟩ => ⟨S4x256x2x128, .f32⟩
  | .hbm, ⟨4, _⟩ => ⟨S4x256x6656, .bf16⟩
  | .hbm, ⟨5, _⟩ => ⟨S4x4096x256, .bf16⟩
  | .hbm, ⟨6, _⟩ => ⟨S4x4096x256, .f32⟩
  | .hbm, ⟨7, _⟩ => ⟨S4x4096x2x128, .f32⟩
  | .hbm, ⟨8, _⟩ => ⟨S4x256x256, .bf16⟩
  | .hbm, ⟨9, _⟩ => ⟨S4x256x256, .f32⟩
  | .hbm, ⟨10, _⟩ => ⟨S4x256x2x128, .f32⟩
  | .hbm, ⟨11, _⟩ => ⟨S4x4352x2x128, .f32⟩
  | .hbm, ⟨12, _⟩ => ⟨S4x4352x2x128, .f32⟩
  | .hbm, ⟨13, _⟩ => ⟨S4x4096x2x4x128, .f32⟩
  | .hbm, ⟨14, _⟩ => ⟨S4x2x4352x4096x4, .f32⟩
  | .hbm, ⟨15, _⟩ => ⟨S4x2x4x4096x4352, .f32⟩
  | .hbm, ⟨16, _⟩ => ⟨S_, .f32⟩
  | .hbm, ⟨17, _⟩ => ⟨S_, .f32⟩
  | .hbm, ⟨18, _⟩ => ⟨S4x2x4x4096x4352, .f32⟩
  | .hbm, ⟨19, _⟩ => ⟨S4x2x4x4096x4352, .f32⟩
  | .hbm, ⟨20, _⟩ => ⟨S_, .f32⟩
  | .hbm, ⟨21, _⟩ => ⟨S4x2x4x4096, .f32⟩
  | .hbm, ⟨22, _⟩ => ⟨S_, .f32⟩
  | .hbm, ⟨23, _⟩ => ⟨S4x2x4x4096, .f32⟩
  | .hbm, ⟨24, _⟩ => ⟨S4x2x4x4096, .f32⟩
  | .hbm, ⟨25, _⟩ => ⟨S4x2x4x4096x1, .f32⟩
  | .hbm, ⟨26, _⟩ => ⟨S4x2x4x4096x4352, .f32⟩
  | .hbm, ⟨27, _⟩ => ⟨S4x2x4x4096x4352, .f32⟩
  | .hbm, ⟨28, _⟩ => ⟨S4x2x4x4096x4352, .f32⟩
  | .hbm, ⟨29, _⟩ => ⟨S_, .f32⟩
  | .hbm, ⟨30, _⟩ => ⟨S4x2x4x4096, .f32⟩
  | .hbm, ⟨31, _⟩ => ⟨S4x2x4x4096x1, .f32⟩
  | .hbm, ⟨32, _⟩ => ⟨S4x2x4x4096x4352, .f32⟩
  | .hbm, ⟨33, _⟩ => ⟨S4x2x4x4096x4352, .f32⟩
  | .hbm, ⟨34, _⟩ => ⟨S4x2x128x4x4096, .f32⟩
  | .hbm, ⟨35, _⟩ => ⟨S4x4096x2x4x128, .f32⟩
  | .hbm, ⟨36, _⟩ => ⟨S4x4096x1024, .f32⟩
  | .hbm, ⟨37, _⟩ => ⟨S4x4096x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Outproj.lean ====
abbrev S4x4096x2048 : Shape := ⟨3, ![4, 4096, 2048]⟩
abbrev S8x6144 : Shape := ⟨2, ![8, 6144]⟩
abbrev S4x4096x1024 : Shape := ⟨3, ![4, 4096, 1024]⟩
abbrev S16384x6656 : Shape := ⟨2, ![16384, 6656]⟩
abbrev S4x4096x512 : Shape := ⟨3, ![4, 4096, 512]⟩
abbrev S128 : Shape := ⟨1, ![128]⟩
abbrev S2048x2048 : Shape := ⟨2, ![2048, 2048]⟩
abbrev S2048 : Shape := ⟨1, ![2048]⟩
abbrev S16384x2048 : Shape := ⟨2, ![16384, 2048]⟩
abbrev S8x1x6144 : Shape := ⟨3, ![8, 1, 6144]⟩
abbrev S16384x1024 : Shape := ⟨2, ![16384, 1024]⟩
abbrev S16384x512 : Shape := ⟨2, ![16384, 512]⟩
abbrev S1x128 : Shape := ⟨2, ![1, 128]⟩
abbrev S1x2048 : Shape := ⟨2, ![1, 2048]⟩
abbrev S512x2048 : Shape := ⟨2, ![512, 2048]⟩
abbrev S1x1x2048 : Shape := ⟨3, ![1, 1, 2048]⟩
abbrev S512x1024 : Shape := ⟨2, ![512, 1024]⟩
abbrev S512x512 : Shape := ⟨2, ![512, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x2048 : Shape := ⟨2, ![256, 2048]⟩

abbrev nBuf : Space → Nat
  | .hbm => 22
  | .vmem => 28
  | .smem => 0
  | _ => 0

abbrev bufTy : (tb : Table) → Fin (tcTables nBuf tb) → BufTy
  | .hbm, ⟨0, _⟩ => ⟨S4x4096x2048, .f32⟩
  | .hbm, ⟨1, _⟩ => ⟨S8x6144, .f32⟩
  | .hbm, ⟨2, _⟩ => ⟨S4x4096x1024, .bf16⟩
  | .hbm, ⟨3, _⟩ => ⟨S16384x6656, .bf16⟩
  | .hbm, ⟨4, _⟩ => ⟨S4x4096x512, .bf16⟩
  | .hbm, ⟨5, _⟩ => ⟨S4x4096x512, .f32⟩
  | .hbm, ⟨6, _⟩ => ⟨S4x4096x512, .f32⟩
  | .hbm, ⟨7, _⟩ => ⟨S128, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S16384x2048, .f32⟩
  | .hbm, ⟨12, _⟩ => ⟨S8x1x6144, .f32⟩
  | .hbm, ⟨13, _⟩ => ⟨S16384x1024, .bf16⟩
  | .hbm, ⟨14, _⟩ => ⟨S16384x512, .bf16⟩
  | .hbm, ⟨15, _⟩ => ⟨S16384x512, .f32⟩
  | .hbm, ⟨16, _⟩ => ⟨S16384x512, .f32⟩
  | .hbm, ⟨17, _⟩ => ⟨S2048x2048, .bf16⟩
  | .hbm, ⟨18, _⟩ => ⟨S1x128, .f32⟩
  | .hbm, ⟨19, _⟩ => ⟨S1x2048, .f32⟩
  | .hbm, ⟨20, _⟩ => ⟨S1x2048, .f32⟩
  | .hbm, ⟨21, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S1x128, .f32⟩
  | .local _ .vmem, ⟨21, _⟩ => ⟨S2048x2048, .bf16⟩
  | .local _ .vmem, ⟨22, _⟩ => ⟨S1x2048, .f32⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | .local _ .vmem, ⟨27, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutprojRefIdeal.lean ====
abbrev S4x4096x2048 : Shape := ⟨3, ![4, 4096, 2048]⟩
abbrev S8x6144 : Shape := ⟨2, ![8, 6144]⟩
abbrev S4x4096x1024 : Shape := ⟨3, ![4, 4096, 1024]⟩
abbrev S16384x6656 : Shape := ⟨2, ![16384, 6656]⟩
abbrev S4x4096x512 : Shape := ⟨3, ![4, 4096, 512]⟩
abbrev S128 : Shape := ⟨1, ![128]⟩
abbrev S2048x2048 : Shape := ⟨2, ![2048, 2048]⟩
abbrev S2048 : Shape := ⟨1, ![2048]⟩
abbrev S4x2048 : Shape := ⟨2, ![4, 2048]⟩
abbrev S4x4096x6656 : Shape := ⟨3, ![4, 4096, 6656]⟩
abbrev S_ : Shape := ⟨0, ![]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 105
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8x6144, .f32⟩
  | .hbm, ⟨2, _⟩ => ⟨S4x4096x1024, .bf16⟩
  | .hbm, ⟨3, _⟩ => ⟨S16384x6656, .bf16⟩
  | .hbm, ⟨4, _⟩ => ⟨S4x4096x512, .bf16⟩
  | .hbm, ⟨5, _⟩ => ⟨S4x4096x512, .f32⟩
  | .hbm, ⟨6, _⟩ => ⟨S4x4096x512, .f32⟩
  | .hbm, ⟨7, _⟩ => ⟨S128, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S4x2048, .f32⟩
  | .hbm, ⟨12, _⟩ => ⟨S16384x6656, .f32⟩
  | .hbm, ⟨13, _⟩ => ⟨S4x4096x6656, .f32⟩
  | .hbm, ⟨14, _⟩ => ⟨S4x4096x1024, .f32⟩
  | .hbm, ⟨15, _⟩ => ⟨S4x4096x512, .f32⟩
  | .hbm, ⟨16, _⟩ => ⟨S4x4096x512, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S_, .f32⟩
  | .hbm, ⟨32, _⟩ => ⟨S4x4096x512, .f32⟩
  | .hbm, ⟨33, _⟩ => ⟨S4x4096x512, .f32⟩
  | .hbm, ⟨34, _⟩ => ⟨S_, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S4x4096x4x128, .f32⟩
  | .hbm, ⟨41, _⟩ => ⟨S4x4096x4x128, .f32⟩
  | .hbm, ⟨42, _⟩ => ⟨S_, .f32⟩
  | .hbm, ⟨43, _⟩ => ⟨S4x4096x4, .f32⟩
  | .hbm, ⟨44, _⟩ => ⟨S4x4096x4x1, .f32⟩
  | .hbm, ⟨45, _⟩ => ⟨S_, .f32⟩
  | .hbm, ⟨46, _⟩ => ⟨S4x4096x4x1, .f32⟩
  | .hbm, ⟨47, _⟩ => ⟨S4x4096x4x1, .f32⟩
  | .hbm, ⟨48, _⟩ => ⟨S_, .f32⟩
  | .hbm, ⟨49, _⟩ => ⟨S4x4096x4x1, .f32⟩
  | .hbm, ⟨50, _⟩ => ⟨S4x4096x4x1, .f32⟩
  | .hbm, ⟨51, _⟩ => ⟨S4x4096x4x1, .f32⟩
  | .hbm, ⟨52, _⟩ => ⟨S4x4096x4x128, .f32⟩
  | .hbm, ⟨53, _⟩ => ⟨S4x4096x4x128, .f32⟩
  | .hbm, ⟨54, _⟩ => ⟨S1x1x1x128, .f32⟩
  | .hbm, ⟨55, _⟩ => ⟨S4x4096x4x128, .f32⟩
  | .hbm, ⟨56, _⟩ => ⟨S4x4096x4x128, .f32⟩
  | .hbm, ⟨57, _⟩ => ⟨S4x4096x512, .f32⟩
  | .hbm, ⟨58, _⟩ => ⟨S4x4096x512, .f32⟩
  | .hbm, ⟨59, _⟩ => ⟨S4x4096x512, .f32⟩
  | .hbm, ⟨60, _⟩ => ⟨S_, .f32⟩
  | .hbm, ⟨61, _⟩ => ⟨S4x4096x512, .f32⟩
  | .hbm, ⟨62, _⟩ => ⟨S4x4096x512, .f32⟩
  | .hbm, ⟨63, _⟩ => ⟨S_, .f32⟩
  | .hbm, ⟨64, _⟩ => ⟨S4x4096x512, .f32⟩
  | .hbm, ⟨65, _⟩ => ⟨S4x4096x512, .f32⟩
  | .hbm, ⟨66, _⟩ => ⟨S4x4096x512, .f32⟩
  | .hbm, ⟨67, _⟩ => ⟨S4x4096x512, .f32⟩
  | .hbm, ⟨68, _⟩ => ⟨S4x4096x2048, .f32⟩
  | .hbm, ⟨69, _⟩ => ⟨S4x4096x2048, .f32⟩
  | .hbm, ⟨70, _⟩ => ⟨S_, .f32⟩
  | .hbm, ⟨71, _⟩ => ⟨S4x4096x2048, .f32⟩
  | .hbm, ⟨72, _⟩ => ⟨S4x4096x2048, .f32⟩
  | .hbm, ⟨73, _⟩ => ⟨S4x1x2048, .f32⟩
  | .hbm, ⟨74, _⟩ => ⟨S4x4096x2048, .f32⟩
  | .hbm, ⟨75, _⟩ => ⟨S4x4096x2048, .f32⟩
  | .hbm, ⟨76, _⟩ => ⟨S4x4096x2048, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S_, .f32⟩
  | .hbm, ⟨81, _⟩ => ⟨S4x4096x1, .f32⟩
  | .hbm, ⟨82, _⟩ => ⟨S4x4096x1, .f32⟩
  | .hbm, ⟨83, _⟩ => ⟨S4x4096x2048, .f32⟩
  | .hbm, ⟨84, _⟩ => ⟨S4x4096x2048, .f32⟩
  | .hbm, ⟨85, _⟩ => ⟨S4x4096x2048, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S_, .f32⟩
  | .hbm, ⟨93, _⟩ => ⟨S4x4096x1, .f32⟩
  | .hbm, ⟨94, _⟩ => ⟨S4x4096x1, .f32⟩
  | .hbm, ⟨95, _⟩ => ⟨S4x4096x1, .f32⟩
  | .hbm, ⟨96, _⟩ => ⟨S4x4096x2048, .f32⟩
  | .hbm, ⟨97, _⟩ => ⟨S4x4096x2048, .f32⟩
  | .hbm, ⟨98, _⟩ => ⟨S1x1x2048, .f32⟩
  | .hbm, ⟨99, _⟩ => ⟨S4x4096x2048, .f32⟩
  | .hbm, ⟨100, _⟩ => ⟨S4x4096x2048, .f32⟩
  | .hbm, ⟨101, _⟩ => ⟨S1x1x2048, .f32⟩
  | .hbm, ⟨102, _⟩ => ⟨S4x4096x2048, .f32⟩
  | .hbm, ⟨103, _⟩ => ⟨S4x4096x2048, .f32⟩
  | .hbm, ⟨104, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩
abbrev main_v18 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_2 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_3 : Ref sig .tc := ⟨.hbm, 77, rfl⟩
abbrev main_v38 : Ref sig .tc := ⟨.hbm, 78, rfl⟩
abbrev main_v39 : Ref sig .tc := ⟨.hbm, 79, rfl⟩
abbrev main_cst_4 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_5 : Ref sig .tc := ⟨.hbm, 86, rfl⟩
abbrev main_v45 : Ref sig .tc := ⟨.hbm, 87, rfl⟩
abbrev main_v46 : Ref sig .tc := ⟨.hbm, 88, rfl⟩
abbrev main_cst_6 : Ref sig .tc := ⟨.hbm, 89, rfl⟩
abbrev main_v47 : Ref sig .tc := ⟨.hbm, 90, rfl⟩
abbrev main_v48 : Ref sig .tc := ⟨.hbm, 91, rfl⟩
abbrev main_cst_7 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩

abbrev nD : Nat := 1
abbrev τ : Topo := Topo.v7x

variable {F : FTy → Type} [FloatOps F]
-- ==== Inproj.lean ====
abbrev S4x4096x2048 : Shape := ⟨3, ![4, 4096, 2048]⟩
abbrev S8x6144 : Shape := ⟨2, ![8, 6144]⟩
abbrev S2048x6672 : Shape := ⟨2, ![2048, 6672]⟩
abbrev S2048x16 : Shape := ⟨2, ![2048, 16]⟩
abbrev S_ : Shape := ⟨0, ![]⟩
abbrev S2048x128 : Shape := ⟨2, ![2048, 128]⟩
abbrev S16384x2048 : Shape := ⟨2, ![16384, 2048]⟩
abbrev S8x1x6144 : Shape := ⟨3, ![8, 1, 6144]⟩
abbrev S16384x6656 : Shape := ⟨2, ![16384, 6656]⟩
abbrev S16384x128 : Shape := ⟨2, ![16384, 128]⟩
abbrev S2048x2048 : Shape := ⟨2, ![2048, 2048]⟩
abbrev S1x1x2048 : Shape := ⟨3, ![1, 1, 2048]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S256x128 : Shape := ⟨2, ![256, 128]⟩
abbrev S256x512 : Shape := ⟨2, ![256, 512]⟩

abbrev nBuf : Space → Nat
  | .hbm => 12
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S8x6144, .f32⟩
  | .hbm, ⟨2, _⟩ => ⟨S2048x6672, .f32⟩
  | .hbm, ⟨3, _⟩ => ⟨S2048x6672, .bf16⟩
  | .hbm, ⟨4, _⟩ => ⟨S2048x16, .bf16⟩
  | .hbm, ⟨5, _⟩ => ⟨S_, .i32⟩
  | .hbm, ⟨6, _⟩ => ⟨S_, .bf16⟩
  | .hbm, ⟨7, _⟩ => ⟨S2048x128, .bf16⟩
  | .hbm, ⟨8, _⟩ => ⟨S16384x2048, .f32⟩
  | .hbm, ⟨9, _⟩ => ⟨S8x1x6144, .f32⟩
  | .hbm, ⟨10, _⟩ => ⟨S16384x6656, .bf16⟩
  | .hbm, ⟨11, _⟩ => ⟨S16384x128, .f32⟩
  | .local _ .vmem, ⟨0, _⟩ => ⟨S2048x2048, .f32⟩
  | .local _ .vmem, ⟨1, _⟩ => ⟨S2048x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x128, .bf16⟩
  | .local _ .vmem, ⟨9, _⟩ => ⟨S2048x512, .bf16⟩
  | .local _ .vmem, ⟨10, _⟩ => ⟨S2048x512, .bf16⟩
  | .local _ .vmem, ⟨11, _⟩ => ⟨S2048x128, .f32⟩
  | .local _ .vmem, ⟨12, _⟩ => ⟨S2048x128, .f32⟩
  | .local _ .vmem, ⟨13, _⟩ => ⟨S2048x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InprojRefIdeal.lean ====
abbrev S4x4096x2048 : Shape := ⟨3, ![4, 4096, 2048]⟩
abbrev S8x6144 : Shape := ⟨2, ![8, 6144]⟩
abbrev S2048x6672 : Shape := ⟨2, ![2048, 6672]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S4x1x2048 : Shape := ⟨3, ![4, 1, 2048]⟩
abbrev S4x4096x6672 : Shape := ⟨3, ![4, 4096, 6672]⟩
abbrev S4x4096x6656 : Shape := ⟨3, ![4, 4096, 6656]⟩
abbrev S4x4096x16 : Shape := ⟨3, ![4, 4096, 16]⟩
abbrev S4x4096x128 : Shape := ⟨3, ![4, 4096, 128]⟩
abbrev S16384x6656 : Shape := ⟨2, ![16384, 6656]⟩
abbrev S16384x128 : Shape := ⟨2, ![16384, 128]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8x6144, .f32⟩
  | .hbm, ⟨2, _⟩ => ⟨S2048x6672, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x1x2048, .f32⟩
  | .hbm, ⟨33, _⟩ => ⟨S4x4096x2048, .f32⟩
  | .hbm, ⟨34, _⟩ => ⟨S4x4096x2048, .f32⟩
  | .hbm, ⟨35, _⟩ => ⟨S4x4096x6672, .f32⟩
  | .hbm, ⟨36, _⟩ => ⟨S4x4096x6656, .f32⟩
  | .hbm, ⟨37, _⟩ => ⟨S4x4096x16, .f32⟩
  | .hbm, ⟨38, _⟩ => ⟨S_, .i32⟩
  | .hbm, ⟨39, _⟩ => ⟨S_, .f32⟩
  | .hbm, ⟨40, _⟩ => ⟨S4x4096x128, .f32⟩
  | .hbm, ⟨41, _⟩ => ⟨S16384x6656, .f32⟩
  | .hbm, ⟨42, _⟩ => ⟨S16384x6656, .bf16⟩
  | .hbm, ⟨43, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Gqa.Same.lean ====
/-
  The two kernel programs have the same text, so their body tables are equal.
-/
module

public import proofs.«01_k».proof.Proof.Gen.Kernel
public import proofs.«01_k».proof.Proof.Gen.KernelIdeal
public import Idealize.ShloMosaic.Lib.Tactic

@[expose] public section

set_option maxRecDepth 100000

noncomputable section

namespace Cert.Proof

open Idealize.ShloMosaic Idealize.SL.Sem

theorem defs_same {F : FTy → Type} [FloatOps F] : Cert.KernelIdeal.defs (F := F) = Cert.Kernel.defs (F := F) := by sl_kernel_rfl

end Cert.Proof

end
-- ==== Proof.Gqa.Windows.lean ====
/-
  What the pipeline's windows stage: the arrays after the host's operations, the blocks read off them, and the buffers the body works in.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- core `c`'s buffers once the host's operations before the call have run -/
abbrev V (c : Dev nD) (b : Ref sig .tc) : Buf (Elt F) ((c : Thread nD τ).loc b) := StableHlo.after hostOps0 (fun b => m (c, b)) b

set_option maxHeartbeats 800000 in
theorem main_runs : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub
    (by simp only [List.Forall]; repeat' constructor) main_chain

/-- a buffer that no host operation writes is as launched -/
theorem V_kept (c : Dev nD) (b : Ref sig .tc) (h : ∀ op ∈ (hostOps0 : List (HloOp τ sig (Elt F))), Proc.devRef .tc b ∉ op.writes) :
    V m c b = m ((c : Thread nD τ).loc b) :=
  StableHlo.after_of_forall_not_mem (b := Proc.devRef .tc b) _ _ h

theorem written : (hostOps0 : List (HloOp τ sig (Elt F))).map (·.writes) =
    [{Proc.devRef .tc main_cst}, {Proc.devRef .tc main_v0}, {Proc.devRef .tc main_cst_0}, {Proc.devRef .tc main_v1}, {Proc.devRef .tc main_v2},
      {Proc.devRef .tc main_cst_1}, {Proc.devRef .tc main_v3}, {Proc.devRef .tc main_v4}, {Proc.devRef .tc main_v5}, {Proc.devRef .tc main_v6},
      {Proc.devRef .tc main_v7}, {Proc.devRef .tc main_v8}, {Proc.devRef .tc main_v9}, {Proc.devRef .tc main_v10}, {Proc.devRef .tc main_v11}] := rfl

theorem arg_kept (c : Dev nD) (b : Ref sig .tc)
    (hb : b ∉ [main_cst, main_v0, main_cst_0, main_v1, main_v2, main_cst_1, main_v3, main_v4, main_v5, main_v6, main_v7, main_v8, main_v9, main_v10, main_v11]) :
    V m c b = m ((c : Thread nD τ).loc b) :=
  V_kept m c b fun op hop hw => by
    have hm := List.mem_map_of_mem (f := (·.writes)) hop
    rw [written] at hm
    refine hb ?_
    simp only [List.mem_cons, List.not_mem_nil, or_false] at hm ⊢
    have key : ∀ r : Ref sig .tc, op.writes = {Proc.devRef .tc r} → b = r := fun r hr => by
      rw [hr, Finset.mem_singleton] at hw
      by_contra hne
      exact StableHlo.devRef_ne_of_ne hne hw
    rcases hm with h | h | h | h | h | h | h | h | h | h | h | h | h | h | h <;> simp only [key _ h, true_or, or_true]

/-- the block of window `w` at point `t` -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- a window's staging buffer at point `t` -/
abbrev st0 (t : Fin cfg0.N) : Memref sig .tc .vmem S1x256x512 .bf16 := win0_0.stage (cfg0.slots t 0)
abbrev st1 (t : Fin cfg0.N) : Memref sig .tc .vmem S1x256x128 .bf16 := win0_1.stage (cfg0.slots t 1)
abbrev st2 (t : Fin cfg0.N) : Memref sig .tc .vmem S1x256x128 .bf16 := win0_2.stage (cfg0.slots t 2)
abbrev st3 (t : Fin cfg0.N) : Memref sig .tc .vmem S1x4096x128 .bf16 := win0_3.stage (cfg0.slots t 3)
abbrev st4 (t : Fin cfg0.N) : Memref sig .tc .vmem S1x4096x128 .bf16 := win0_4.stage (cfg0.slots t 4)
abbrev st5 (t : Fin cfg0.N) : Memref sig .tc .vmem S1x256x512 .bf16 := win0_5.stage (cfg0.slots t 5)

/-- the buffers between points, at any contents, and the generator's register -/
theorem carried (c : Dev nD) : (Pipeline.ΦA spec0 c : sProp 𝕄)
    = iprop(iprop((∃ d, owns (c : Thread nD τ) (Memref.whole cc0_scratch0 : Memref sig .tc .vmem S1024x128 .bf16) fullShare d)
      ∗ (∃ d, owns (c : Thread nD τ) (Memref.whole cc0_scratch1 : Memref sig .tc .vmem S1024x1024 .f32) fullShare d)
      ∗ (∃ d, owns (c : Thread nD τ) (Memref.whole cc0_scratch2 : Memref sig .tc .vmem S1024x1024 .f32) fullShare d)
      ∗ (∃ d, owns (c : Thread nD τ) (Memref.whole cc0_scratch3 : Memref sig .tc .vmem S1024x256 .f32) fullShare d)
      ∗ (∃ d, owns (c : Thread nD τ) (Memref.whole cc0_scratch4 : Memref sig .tc .vmem S1024x1024 .bf16) fullShare d)
      ∗ (∃ d, owns (c : Thread nD τ) (Memref.whole cc0_scratch5 : Memref sig .tc .vmem S1024x128 .f32) fullShare d)
      ∗ (∃ d, owns (c : Thread nD τ) (Memref.whole cc0_scratch6 : Memref sig .tc .vmem S1024x128 .f32) fullShare d)
      ∗ (∃ d, owns (c : Thread nD τ) (Memref.whole cc0_scratch7 : Memref sig .tc .vmem S1024x128 .f32) fullShare d)
      ∗ (∃ d, owns (c : Thread nD τ) (Memref.whole cc0_scratch8 : Memref sig .tc .vmem S1024x128 .f32) fullShare d)) ∗ (∃ r, prngReg c r)) := by
  unfold Pipeline.ΦA; rw [scopedRest0_eq]; simp only [owns_whole]; try rfl

end Cert.KernelIdeal.Attn

end
-- ==== Proof.Gqa.Mine.lean ====
/-
  The attention kernel's body as a structured program: the same effects in the same order as the printed straight line, written once
  for each kind of step (issue the scores of half a chunk, the softmax update of 16 rows, accumulate half a chunk, finish) in
  continuation-passing style and with the row offset as a parameter.
-/
module

public import Idealize.ShloMosaic.Lib.Pipeline
public import Idealize.ShloMosaic.Lib.Scf
public import Idealize.ShloMosaic.Lib.Sig
public import Idealize.ShloMosaic.PureOps

@[expose] public section

noncomputable section

namespace Gqa

open Idealize.ShloMosaic Idealize.SL.Sem

abbrev Q3 : Shape := ⟨3, ![1, 256, 512]⟩
abbrev C3 : Shape := ⟨3, ![1, 256, 128]⟩
abbrev L3 : Shape := ⟨3, ![1, 4096, 128]⟩
abbrev K3 : Shape := ⟨3, ![1, 1024, 128]⟩
abbrev A2 : Shape := ⟨2, ![1024, 128]⟩
abbrev S2 : Shape := ⟨2, ![1024, 1024]⟩
abbrev X2 : Shape := ⟨2, ![1024, 256]⟩
abbrev C2 : Shape := ⟨2, ![256, 128]⟩
abbrev H2 : Shape := ⟨2, ![512, 128]⟩
abbrev HS : Shape := ⟨2, ![512, 1024]⟩
abbrev HX : Shape := ⟨2, ![512, 256]⟩
abbrev T2 : Shape := ⟨2, ![16, 128]⟩
abbrev T1 : Shape := ⟨1, ![16]⟩
abbrev T11 : Shape := ⟨2, ![16, 1]⟩
abbrev R1 : Shape := ⟨1, ![1024]⟩
abbrev R11 : Shape := ⟨2, ![1024, 1]⟩

/-- queries · keysᵀ of half a chunk -/
def dQK : DotDims H2 A2 HS where
  lhsContracting := [1]
  rhsContracting := [1]
  lhsNonContracting := [0]
  rhsNonContracting := [0]
  lhsBatch := []
  rhsBatch := []
  wf := by decide
/-- probabilities · values -/
def dPV : DotDims HS A2 H2 where
  lhsContracting := [1]
  rhsContracting := [0]
  lhsNonContracting := [0]
  rhsNonContracting := [1]
  lhsBatch := []
  rhsBatch := []
  wf := by decide
/-- the same two for the context -/
def dQKc : DotDims H2 C2 HX where
  lhsContracting := [1]
  rhsContracting := [1]
  lhsNonContracting := [0]
  rhsNonContracting := [0]
  lhsBatch := []
  rhsBatch := []
  wf := by decide
def dPVc : DotDims HX C2 H2 where
  lhsContracting := [1]
  rhsContracting := [0]
  lhsNonContracting := [0]
  rhsNonContracting := [1]
  lhsBatch := []
  rhsBatch := []
  wf := by decide

theorem inb2 {a b c d : Nat} (r k : Nat) (h0 : r + c ≤ a) (h1 : k + d ≤ b) :
    ∀ x, (![r, k] : Fin 2 → Nat) x + (⟨2, ![c, d]⟩ : Shape).size x ≤ (⟨2, ![a, b]⟩ : Shape).size x := by
  intro x; match x with
  | ⟨0, _⟩ => exact h0
  | ⟨1, _⟩ => exact h1

theorem packed2 {a b c d : Nat} (r k : Nat) (hi) (h0 : 2 ∣ r) (h1 : 2 ∣ c) :
    (Rect.unit (s := (⟨2, ![a, b]⟩ : Shape)) ![r, k] (⟨2, ![c, d]⟩ : Shape).size hi).PackedRows (EltTy.packing .bf16) :=
  .inr ⟨le_refl 2, rfl, .inl ⟨h0, h1⟩⟩

variable {F : FTy → Type} [FloatOps F]
variable {nD : Nat} {τ : Topo} {sig : RefSig} {Λ : Labels}

theorem posT : 0 < T2.numel := by decide
theorem posH : 0 < H2.numel := by decide
theorem posA : 0 < A2.numel := by decide
theorem posC3 : 0 < C3.numel := by decide
theorem posC : 0 < C2.numel := by decide
theorem posK3 : 0 < K3.numel := by decide
theorem posHS : 0 < HS.numel := by decide
theorem posHX : 0 < HX.numel := by decide

variable (nD τ sig Λ F) in
/-- the programs of the body -/
abbrev PR : Type 1 := Prog (TpuEff nD τ sig (Elt F) Λ .tc) PUnit

/-! ## One load, one store -/

/-- rows `r …` and lanes `k …` of a matrix -/
abbrev rc {a b : Nat} (c d r k : Nat) (h0 : r + c ≤ a) (h1 : k + d ≤ b) : Rect (⟨2, ![a, b]⟩ : Shape) :=
  Rect.unit (s := (⟨2, ![a, b]⟩ : Shape)) ![r, k] (⟨2, ![c, d]⟩ : Shape).size (inb2 r k h0 h1)

variable {a b : Nat} {e : EltTy}

def ld2 (m : Memref sig .tc .vmem (⟨2, ![a, b]⟩ : Shape) e) (c d r k : Nat) (h0 : r + c ≤ a) (h1 : k + d ≤ b)
    (hp : 0 < (⟨2, ![c, d]⟩ : Shape).numel) (K : Vec F (⟨2, ![c, d]⟩ : Shape) e → PR F nD τ sig Λ) : PR F nD τ sig Λ :=
  .op (.load m (rc c d r k h0 h1).toLoadRect (View.loadsAt_vmem hp)) K

/-- what is stored goes in the place of a dead load of what was there -/
def st2 (m : Memref sig .tc .vmem (⟨2, ![a, b]⟩ : Shape) .f32) (c d r k : Nat) (h0 : r + c ≤ a) (h1 : k + d ≤ b)
    (hp : 0 < (⟨2, ![c, d]⟩ : Shape).numel) (w : FVec F (⟨2, ![c, d]⟩ : Shape) .f32) (hs : (⟨2, ![c, d]⟩ : Shape).ShapeCasts ⟨2, ![c, d]⟩)
    (K : PR F nD τ sig Λ) : PR F nD τ sig Λ :=
  .op (.load m (rc c d r k h0 h1).toLoadRect (View.loadsAt_vmem hp)) fun _ =>
  .op (.store m (rc c d r k h0 h1) (shapeCast ⟨2, ![c, d]⟩ w hs) Finset.univ (View.stores_vmem_bits_univ hp rfl) (.inl rfl)) fun _ => K

def stb (m : Memref sig .tc .vmem (⟨2, ![a, b]⟩ : Shape) .bf16) (hm : m.IsWhole) (c d r k : Nat) (h0 : r + c ≤ a) (h1 : k + d ≤ b)
    (hr : 2 ∣ r) (hc : 2 ∣ c) (hp : 0 < (⟨2, ![c, d]⟩ : Shape).numel) (w : FVec F (⟨2, ![c, d]⟩ : Shape) .bf16)
    (hs : (⟨2, ![c, d]⟩ : Shape).ShapeCasts ⟨2, ![c, d]⟩) (K : PR F nD τ sig Λ) : PR F nD τ sig Λ :=
  .op (.load m (rc c d r k h0 h1).toLoadRect (View.loadsAt_vmem hp)) fun _ =>
  .op (.store m (rc c d r k h0 h1) (shapeCast ⟨2, ![c, d]⟩ w hs) Finset.univ
    (View.stores_vmem hp (hm.storeExact_slice rfl _ (packed2 r k _ hr hc)) (fun _ => rfl)) (.inl rfl)) fun _ => K

/-! ## The softmax update of 16 rows -/

theorem scT : T2.ShapeCasts T2 := by decide
theorem redT : T2.Reduces [1] T1 := by decide
theorem scT1 : T1.ShapeCasts T11 := by decide
theorem bcT : T11.Broadcasts T2 := by decide
theorem bitsLt : FTy.bits .bf16 < FTy.bits .f32 := by decide

/-- the running maximum's new value, from the old one and the lane-wise maximum of the scores -/
def newMax (m v : FVec F T2 .f32) : FVec F T2 .f32 :=
  maximumf m (broadcastTo T2 (shapeCast T11 (multiReduction .maximumf [1] T1 v 0xFF800000#32 redT (.inl rfl) rfl) scT1) bcT)

section
variable (m l al : Memref sig .tc .vmem A2 .f32) (p : Memref sig .tc .vmem S2 .bf16) (hp : p.IsWhole)

/-- 16 rows' probabilities of one 128-lane column -/
def stp (r k : Nat) (h0 : r + 16 ≤ 1024) (h1 : k + 128 ≤ 1024) (hr : 2 ∣ r) (w : FVec F T2 .f32) (K : PR F nD τ sig Λ) : PR F nD τ sig Λ :=
  stb p hp 16 128 r k h0 h1 hr (by decide) posT (truncf .bf16 w bitsLt) scT K

/-- the statistics of 16 rows -/
def stats (r : Nat) (h0 : r + 16 ≤ 1024) (mx ax sum : FVec F T2 .f32) (K : PR F nD τ sig Λ) : PR F nD τ sig Λ :=
  st2 m 16 128 r 0 h0 (by decide) posT mx scT <|
  st2 al 16 128 r 0 h0 (by decide) posT ax scT <|
  ld2 l 16 128 r 0 h0 (by decide) posT fun vl =>
  st2 l 16 128 r 0 h0 (by decide) posT (addf (mulf ax vl) sum) scT K

def unit8 (s : Memref sig .tc .vmem S2 .f32) (r : Nat) (h0 : r + 16 ≤ 1024) (hr : 2 ∣ r) (K : PR F nD τ sig Λ) : PR F nD τ sig Λ :=
  ld2 s 16 128 r 0 h0 (by decide) posT fun v0 =>
  ld2 s 16 128 r 128 h0 (by decide) posT fun v1 =>
  ld2 s 16 128 r 256 h0 (by decide) posT fun v2 =>
  ld2 s 16 128 r 384 h0 (by decide) posT fun v3 =>
  ld2 s 16 128 r 512 h0 (by decide) posT fun v4 =>
  ld2 s 16 128 r 640 h0 (by decide) posT fun v5 =>
  ld2 s 16 128 r 768 h0 (by decide) posT fun v6 =>
  ld2 s 16 128 r 896 h0 (by decide) posT fun v7 =>
  ld2 m 16 128 r 0 h0 (by decide) posT fun vm =>
  let mx := newMax vm (maximumf (maximumf (maximumf (maximumf (maximumf (maximumf (maximumf v0 v1) v2) v3) v4) v5) v6) v7)
  let ax := exp2 (subf vm mx)
  let p0 := exp2 (subf v0 mx)
  let p1 := exp2 (subf v1 mx)
  let p2 := exp2 (subf v2 mx)
  let p3 := exp2 (subf v3 mx)
  let p4 := exp2 (subf v4 mx)
  let p5 := exp2 (subf v5 mx)
  let p6 := exp2 (subf v6 mx)
  let p7 := exp2 (subf v7 mx)
  stp p hp r 0 h0 (by decide) hr p0 <|
  stp p hp r 128 h0 (by decide) hr p1 <|
  stp p hp r 256 h0 (by decide) hr p2 <|
  stp p hp r 384 h0 (by decide) hr p3 <|
  stp p hp r 512 h0 (by decide) hr p4 <|
  stp p hp r 640 h0 (by decide) hr p5 <|
  stp p hp r 768 h0 (by decide) hr p6 <|
  stp p hp r 896 h0 (by decide) hr p7 <|
  stats m l al r h0 mx ax (addf (addf (addf (addf (addf (addf (addf p0 p1) p2) p3) p4) p5) p6) p7) K

def unit2 (s : Memref sig .tc .vmem X2 .f32) (r : Nat) (h0 : r + 16 ≤ 1024) (hr : 2 ∣ r) (K : PR F nD τ sig Λ) : PR F nD τ sig Λ :=
  ld2 s 16 128 r 0 h0 (by decide) posT fun v0 =>
  ld2 s 16 128 r 128 h0 (by decide) posT fun v1 =>
  ld2 m 16 128 r 0 h0 (by decide) posT fun vm =>
  let mx := newMax vm (maximumf v0 v1)
  let ax := exp2 (subf vm mx)
  let p0 := exp2 (subf v0 mx)
  let p1 := exp2 (subf v1 mx)
  stp p hp r 0 h0 (by decide) hr p0 <|
  stp p hp r 128 h0 (by decide) hr p1 <|
  stats m l al r h0 mx ax (addf p0 p1) K

theorem row_lt {n r : Nat} (h : r + 16 * (n + 1) ≤ 1024) : r + 16 ≤ 1024 := by omega
theorem row_next {n r : Nat} (h : r + 16 * (n + 1) ≤ 1024) : r + 16 + 16 * n ≤ 1024 := by omega
theorem row_even {r : Nat} (h : 2 ∣ r) : 2 ∣ r + 16 := by omega

/-- `n` units from row `r` on -/
def rows8 (s : Memref sig .tc .vmem S2 .f32) (n r : Nat) (h : r + 16 * n ≤ 1024) (hr : 2 ∣ r) (K : PR F nD τ sig Λ) :
    PR F nD τ sig Λ :=
  Nat.rec (motive := fun n => (r : Nat) → r + 16 * n ≤ 1024 → 2 ∣ r → PR F nD τ sig Λ) (fun _ _ _ => K)
    (fun _ ih r h hr => unit8 m l al p hp s r (row_lt h) hr (ih (r + 16) (row_next h) (row_even hr))) n r h hr

def rows2 (s : Memref sig .tc .vmem X2 .f32) (n r : Nat) (h : r + 16 * n ≤ 1024) (hr : 2 ∣ r) (K : PR F nD τ sig Λ) :
    PR F nD τ sig Λ :=
  Nat.rec (motive := fun n => (r : Nat) → r + 16 * n ≤ 1024 → 2 ∣ r → PR F nD τ sig Λ) (fun _ _ _ => K)
    (fun _ ih r h hr => unit2 m l al p hp s r (row_lt h) hr (ih (r + 16) (row_next h) (row_even hr))) n r h hr

end

/-! ## Half a chunk's scores and its accumulation -/

theorem scHS : HS.ShapeCasts HS := by decide
theorem scHX : HX.ShapeCasts HX := by decide
theorem scH : H2.ShapeCasts H2 := by decide

def issue8 (q : Memref sig .tc .vmem A2 .bf16) (s : Memref sig .tc .vmem S2 .f32) (o : Nat) (h0 : o + 512 ≤ 1024)
    (k : FVec F A2 .bf16) (K : PR F nD τ sig Λ) : PR F nD τ sig Λ :=
  ld2 q 512 128 o 0 h0 (by decide) posH fun vq =>
  st2 s 512 1024 o 0 h0 (by decide) posHS (matmul dQK none vq k (constant HS .f32 0x00000000#32)) scHS K

def issue2 (q : Memref sig .tc .vmem A2 .bf16) (s : Memref sig .tc .vmem X2 .f32) (o : Nat) (h0 : o + 512 ≤ 1024)
    (k : FVec F C2 .bf16) (K : PR F nD τ sig Λ) : PR F nD τ sig Λ :=
  ld2 q 512 128 o 0 h0 (by decide) posH fun vq =>
  st2 s 512 256 o 0 h0 (by decide) posHX (matmul dQKc none vq k (constant HX .f32 0x00000000#32)) scHX K

def accum8 (p : Memref sig .tc .vmem S2 .bf16) (al acc : Memref sig .tc .vmem A2 .f32) (o : Nat) (h0 : o + 512 ≤ 1024)
    (v : FVec F A2 .bf16) (K : PR F nD τ sig Λ) : PR F nD τ sig Λ :=
  ld2 p 512 1024 o 0 h0 (by decide) posHS fun vp =>
  ld2 acc 512 128 o 0 h0 (by decide) posH fun vacc =>
  ld2 al 512 128 o 0 h0 (by decide) posH fun va =>
  st2 acc 512 128 o 0 h0 (by decide) posH
    (addf (mulf vacc va) (matmul dPV none vp v (constant H2 .f32 0x00000000#32))) scH K

def accum2 (p : Memref sig .tc .vmem S2 .bf16) (al acc : Memref sig .tc .vmem A2 .f32) (o : Nat) (h0 : o + 512 ≤ 1024)
    (v : FVec F C2 .bf16) (K : PR F nD τ sig Λ) : PR F nD τ sig Λ :=
  ld2 p 512 256 o 0 h0 (by decide) posHX fun vp =>
  ld2 acc 512 128 o 0 h0 (by decide) posH fun vacc =>
  ld2 al 512 128 o 0 h0 (by decide) posH fun va =>
  st2 acc 512 128 o 0 h0 (by decide) posH
    (addf (mulf vacc va) (matmul dPVc none vp v (constant H2 .f32 0x00000000#32))) scH K

theorem scK3 : K3.ShapeCasts A2 := by decide
theorem scC3 : C3.ShapeCasts C2 := by decide
theorem scC : C2.ShapeCasts C2 := by decide
theorem scA : A2.ShapeCasts A2 := by decide

/-- 1024 rows of the latents' keys or values -/
def ldL (m : Memref sig .tc .vmem L3 .bf16) (off : Fin 3 → Nat) (h : ∀ x, off x + K3.size x ≤ L3.size x)
    (K : FVec F A2 .bf16 → PR F nD τ sig Λ) : PR F nD τ sig Λ :=
  .op (.load m (Rect.unit (s := L3) off K3.size h).toLoadRect (View.loadsAt_vmem posK3)) fun v =>
    K (shapeCast A2 v scK3)

theorem inbC : ∀ x, (![0, 0, 0] : Fin 3 → Nat) x + C3.size x ≤ C3.size x := by decide

def ldC (m : Memref sig .tc .vmem C3 .bf16) (K : FVec F C2 .bf16 → PR F nD τ sig Λ) : PR F nD τ sig Λ :=
  .op (.load m (Rect.unit (s := C3) ![0, 0, 0] C3.size inbC).toLoadRect (View.loadsAt_vmem posC3)) fun v =>
    K (shapeCast C2 v scC3)

/-- a chunk of 1024 keys, with the issue of the next chunk's scores before each half -/
def chunk8 (m l al acc : Memref sig .tc .vmem A2 .f32) (p : Memref sig .tc .vmem S2 .bf16) (hp : p.IsWhole)
    (s : Memref sig .tc .vmem S2 .f32) (v : FVec F A2 .bf16) (iss : (o : Nat) → o + 512 ≤ 1024 → PR F nD τ sig Λ → PR F nD τ sig Λ)
    (K : PR F nD τ sig Λ) : PR F nD τ sig Λ :=
  iss 0 (by decide) <|
  rows8 m l al p hp s 32 0 (by decide) (by decide) <| accum8 p al acc 0 (by decide) v <|
  iss 512 (by decide) <|
  rows8 m l al p hp s 32 512 (by decide) (by decide) <| accum8 p al acc 512 (by decide) v K

def chunk2 (m l al acc : Memref sig .tc .vmem A2 .f32) (p : Memref sig .tc .vmem S2 .bf16) (hp : p.IsWhole)
    (s : Memref sig .tc .vmem X2 .f32) (v : FVec F C2 .bf16) (K : PR F nD τ sig Λ) : PR F nD τ sig Λ :=
  rows2 m l al p hp s 32 0 (by decide) (by decide) <| accum2 p al acc 0 (by decide) v <|
  rows2 m l al p hp s 32 512 (by decide) (by decide) <| accum2 p al acc 512 (by decide) v K

/-! ## The start and the end -/

theorem inbQ (k : Nat) (hk : k + 128 ≤ 512) : ∀ x, (![0, 0, k] : Fin 3 → Nat) x + C3.size x ≤ Q3.size x := by
  intro x; match x with
  | ⟨0, _⟩ => exact le_refl 1
  | ⟨1, _⟩ => exact le_refl 256
  | ⟨2, _⟩ => exact hk

/-- one head's queries go to its rows -/
def stq (x : Memref sig .tc .vmem Q3 .bf16) (q : Memref sig .tc .vmem A2 .bf16) (hq : q.IsWhole) (k r : Nat) (hk : k + 128 ≤ 512)
    (h0 : r + 256 ≤ 1024) (hr : 2 ∣ r) (K : PR F nD τ sig Λ) : PR F nD τ sig Λ :=
  .op (.load x (Rect.unit (s := Q3) ![0, 0, k] C3.size (inbQ k hk)).toLoadRect (View.loadsAt_vmem posC3)) fun v =>
  stb q hq 256 128 r 0 h0 (by decide) hr (by decide) posC (shapeCast C2 v scC3) scC K

def start (x : Memref sig .tc .vmem Q3 .bf16) (q : Memref sig .tc .vmem A2 .bf16) (hq : q.IsWhole)
    (m l acc : Memref sig .tc .vmem A2 .f32) (K : PR F nD τ sig Λ) : PR F nD τ sig Λ :=
  stq x q hq 0 0 (by decide) (by decide) (by decide) <|
  stq x q hq 128 256 (by decide) (by decide) (by decide) <|
  stq x q hq 256 512 (by decide) (by decide) (by decide) <|
  stq x q hq 384 768 (by decide) (by decide) (by decide) <|
  st2 m 1024 128 0 0 (by decide) (by decide) posA (broadcast A2 (Scalar.ofBits .f32 0xFF800000#32 : F .f32)) scA <|
  st2 l 1024 128 0 0 (by decide) (by decide) posA (broadcast A2 (Scalar.ofBits .f32 0x00000000#32 : F .f32)) scA <|
  st2 acc 1024 128 0 0 (by decide) (by decide) posA (broadcast A2 (Scalar.ofBits .f32 0x00000000#32 : F .f32)) scA K

theorem redA : A2.Reduces [1] R1 := by decide
theorem scR1 : R1.ShapeCasts R11 := by decide
theorem bcA : R11.Broadcasts A2 := by decide
theorem scC23 : C2.ShapeCasts C3 := by decide

theorem packedQ (k : Nat) (hi) :
    (Rect.unit (s := Q3) ![0, 0, k] C3.size hi).PackedRows (EltTy.packing .bf16) :=
  .inr ⟨by decide, rfl, .inl ⟨⟨0, rfl⟩, ⟨128, rfl⟩⟩⟩

/-- one head's rows go to its lanes of the output block -/
def sto (y : Memref sig .tc .vmem Q3 .bf16) (hy : y.IsWhole) (k : Nat) (hk : k + 128 ≤ 512) (w : FVec F C2 .f32)
    (K : PR F nD τ sig Λ) : PR F nD τ sig Λ :=
  .op (.load y (Rect.unit (s := Q3) ![0, 0, k] C3.size (inbQ k hk)).toLoadRect (View.loadsAt_vmem posC3)) fun _ =>
  .op (.store y (Rect.unit (s := Q3) ![0, 0, k] C3.size (inbQ k hk)) (shapeCast C3 (truncf .bf16 w bitsLt) scC23) Finset.univ
    (View.stores_vmem posC3 (hy.storeExact_slice rfl _ (packedQ k _)) (fun _ => rfl)) (.inl rfl)) fun _ => K

def finish (acc l : Memref sig .tc .vmem A2 .f32) (y : Memref sig .tc .vmem Q3 .bf16) (hy : y.IsWhole) : PR F nD τ sig Λ :=
  ld2 acc 1024 128 0 0 (by decide) (by decide) posA fun va =>
  ld2 l 1024 128 0 0 (by decide) (by decide) posA fun vl =>
  let w : FVec F A2 .f32 := divf va (broadcastTo A2 (shapeCast R11 (multiReduction .add [1] R1 vl 0x00000000#32 redA (.inl rfl) rfl) scR1) bcA)
  sto y hy 0 (by decide) (extractStridedSlice C2 ![0, 0] w (by decide)) <|
  sto y hy 128 (by decide) (extractStridedSlice C2 ![256, 0] w (by decide)) <|
  sto y hy 256 (by decide) (extractStridedSlice C2 ![512, 0] w (by decide)) <|
  sto y hy 384 (by decide) (extractStridedSlice C2 ![768, 0] w (by decide)) <|
  .ret ⟨⟩

theorem inbL (o : Nat) (h : o + 1024 ≤ 4096) : ∀ x, (![0, o, 0] : Fin 3 → Nat) x + K3.size x ≤ L3.size x := by
  intro x; match x with
  | ⟨0, _⟩ => exact le_refl 1
  | ⟨1, _⟩ => exact h
  | ⟨2, _⟩ => exact le_refl 128

/-! ## The body, in pieces that end between chunks -/

section
variable (x : Memref sig .tc .vmem Q3 .bf16) (kc vc : Memref sig .tc .vmem C3 .bf16) (kl vl : Memref sig .tc .vmem L3 .bf16)
  (y : Memref sig .tc .vmem Q3 .bf16) (hy : y.IsWhole) (q : Memref sig .tc .vmem A2 .bf16) (hq : q.IsWhole)
  (s0 s1 : Memref sig .tc .vmem S2 .f32) (sc : Memref sig .tc .vmem X2 .f32) (p : Memref sig .tc .vmem S2 .bf16) (hp : p.IsWhole)
  (m l al acc : Memref sig .tc .vmem A2 .f32)

/-- the start, with the first chunk's scores -/
def piece0 (K : PR F nD τ sig Λ) : PR F nD τ sig Λ :=
  start x q hq m l acc <|
  ldL kl ![0, 0, 0] (inbL 0 (by decide)) fun k => issue8 q s0 0 (by decide) k <|
  ldL kl ![0, 0, 0] (inbL 0 (by decide)) fun k => issue8 q s0 512 (by decide) k K

/-- a chunk whose scores are in `s`; the next one's, from row `o + 1024` on, go to `s'` -/
def piece (s s' : Memref sig .tc .vmem S2 .f32) (o : Nat) (h : o + 2048 ≤ 4096) (K : PR F nD τ sig Λ) : PR F nD τ sig Λ :=
  ldL vl ![0, o, 0] (inbL o (by omega)) fun v =>
  ldL kl ![0, o + 1024, 0] (inbL (o + 1024) h) fun k =>
  chunk8 m l al acc p hp s v (fun o h K => issue8 q s' o h k K) K

/-- the last chunk of latents; the context's scores are issued in it -/
def pieceL (s : Memref sig .tc .vmem S2 .f32) (K : PR F nD τ sig Λ) : PR F nD τ sig Λ :=
  ldL vl ![0, 3072, 0] (inbL 3072 (by decide)) fun v =>
  ldC kc fun k =>
  chunk8 m l al acc p hp s v (fun o h K => issue2 q sc o h k K) K

/-- the context and the end -/
def pieceC : PR F nD τ sig Λ :=
  ldC vc fun v => chunk2 m l al acc p hp sc v <| finish acc l y hy

def body : PR F nD τ sig Λ :=
  piece0 x kl q hq s0 m l acc <|
  piece kl vl q p hp m l al acc s0 s1 0 (by decide) <|
  piece kl vl q p hp m l al acc s1 s0 1024 (by decide) <|
  piece kl vl q p hp m l al acc s0 s1 2048 (by decide) <|
  pieceL kc vl q sc p hp m l al acc s1 <|
  pieceC vc y hy sc p hp m l al acc

end

end Gqa
-- ==== Proof.Gqa.Eq.lean ====
module

public import proofs.«01_k».proof.KernelIdeal
public import proofs.«01_k».proof.Proof.Gqa.Mine
public import Idealize.ShloMosaic.Lib.Tactic

@[expose] public section

set_option maxRecDepth 100000
noncomputable section
namespace Cert.KernelIdeal
open Idealize.ShloMosaic Idealize.SL.Sem

variable {F : FTy → Type} [FloatOps F] [Facts]

theorem body_eq (i : grid0.Coords) (arg3 : Memref sig .tc .vmem S1x256x512 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x256x512 .bf16) (harg8 : arg8.IsWhole) (arg9 : Memref sig .tc .vmem S1024x128 .bf16) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x256 .f32) (harg12 : arg12.IsWhole) (arg13 : Memref sig .tc .vmem S1024x1024 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) :
    cc0_gqa (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
      = Gqa.body arg3 arg4 arg5 arg6 arg7 arg8 harg8 arg9 harg9 arg10 arg11 arg12 arg13 harg13 arg14 arg15 arg16 arg17 := by
  sl_kernel_rfl
end Cert.KernelIdeal
-- ==== Proof.Gqa.Step.lean ====
/-
  One load and one store of the structured program, over the whole contents of the memref it touches.
-/
module

public import proofs.«01_k».proof.Proof.Gqa.Mine
public import Idealize.ShloMosaic.Rules.Step
public import Idealize.ShloMosaic.Lib.Memref
public import Idealize.ShloMosaic.Lib.WritesUnit
public import Idealize.ShloMosaic.Lib.Pipeline.Value

@[expose] public section

noncomputable section

namespace Gqa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Contents -/

section Pure
variable {s : Shape} {α : Type}

/-- what a rectangle reads -/
def rd (r : Rect s) (X : s.Idx → α) : r.shape.Idx → α := fun x => X (r.emb x)

/-- the contents after a unit-stride rectangle was stored -/
def wr (off size : Fin s.rank → Nat) (inb : ∀ a, off a + size a ≤ s.size a) (w : (Rect.unit off size inb).shape.Idx → α)
    (X : s.Idx → α) : s.Idx → α :=
  fun y => if h : ∀ a, off a ≤ (y a).val ∧ (y a).val < off a + size a then w (Rect.unitLocal (s := s) (off := off) (size := size) y h) else X y

end Pure

variable {F : FTy → Type} [FloatOps F]
variable {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} {𝒱 : Variants} {c : Dev nD} {bd : Option 𝒱.V} {E : Set Name}
  {Q : PUnit → sProp (MT nD τ sig Ix (Elt F) Name U Lvl)}
variable {s : Shape} {e : EltTy}

theorem wp_ldr {m : Memref sig .tc .vmem s e} {X : s.Idx → Elt F e} {r : Rect s} {hl : m.view.LoadsAt r.toLoadRect}
    {K : (r.shape.Idx → Elt F e) → PR F nD τ sig Λ} :
    (owns (c : Thread nD τ) m fullShare X : sProp 𝕄)
      ⊢ iprop((owns (c : Thread nD τ) m fullShare X -∗ wp frame (wpE defs 𝒱 c bd) E (K (rd r X)) Q)
        -∗ wp frame (wpE defs 𝒱 c bd) E (.op (.load m r.toLoadRect hl) K) Q) := by
  unfold owns
  iintro ⟨%f, %hf, H⟩ Hk
  subst hf
  iapply (wp_load (defs := defs) 𝒱 (c : Thread nD τ) bd E (Γ := .empty) (m := m) (r := r.toLoadRect) (hl := hl) (k := K) (Q := Q)
    (S := m.view.set) (q := fullShare) (f := f) (by show m.view.setOn r.set ⊆ m.view.set; have h := View.set_slice_subset m.view r; rwa [View.set_slice] at h)) $$ H
  iintro H
  iapply Hk
  iexists f
  isplitr
  · ipureintro; rfl
  iexact H

theorem wp_str {m : Memref sig .tc .vmem s e} {X : s.Idx → Elt F e} {off size : Fin s.rank → Nat}
    {inb : ∀ a, off a + size a ≤ s.size a} {w : (Rect.unit off size inb).shape.Idx → Elt F e}
    {hx : (m.access (Rect.unit off size inb)).Stores Finset.univ} {hm} {K : PUnit → PR F nD τ sig Λ} :
    (owns (c : Thread nD τ) m fullShare X : sProp 𝕄)
      ⊢ iprop((owns (c : Thread nD τ) m fullShare (wr off size inb w X) -∗ wp frame (wpE defs 𝒱 c bd) E (K ⟨⟩) Q)
        -∗ wp frame (wpE defs 𝒱 c bd) E (.op (.store m (Rect.unit off size inb) w Finset.univ hx hm) K) Q) := by
  unfold owns
  iintro ⟨%f, %hf, H⟩ Hk
  subst hf
  iapply (wp_store (defs := defs) 𝒱 (c : Thread nD τ) bd E (Γ := .empty) (m := m) (r := Rect.unit off size inb) (w := w) (hx := hx) (hm := hm)
    (k := K) (Q := Q) (S := m.view.set) (f := f) (View.set_slice_subset _ _)) $$ H
  iintro H
  iapply Hk
  iexists _
  isplitr; rotate_left
  · iexact H
  ipureintro
  funext y
  exact View.read_writes_cons_unit m.view f inb w [] y rfl

end Gqa
-- ==== Proof.Gqa.Run.lean ====
/-
  The run of the structured program: what each kind of step leaves, as functions of the contents it found.
-/
module

public import proofs.«01_k».proof.Proof.Gqa.Step

@[expose] public section

noncomputable section

namespace Gqa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the steps compute -/

section Pure
variable {a b : Nat} {α : Type}

abbrev rd2 (c d r k : Nat) (h0 : r + c ≤ a) (h1 : k + d ≤ b) (X : (⟨2, ![a, b]⟩ : Shape).Idx → α) : (⟨2, ![c, d]⟩ : Shape).Idx → α :=
  rd (rc c d r k h0 h1) X

abbrev wr2 (c d r k : Nat) (h0 : r + c ≤ a) (h1 : k + d ≤ b) (w : (⟨2, ![c, d]⟩ : Shape).Idx → α)
    (X : (⟨2, ![a, b]⟩ : Shape).Idx → α) : (⟨2, ![a, b]⟩ : Shape).Idx → α :=
  wr (s := (⟨2, ![a, b]⟩ : Shape)) ![r, k] (⟨2, ![c, d]⟩ : Shape).size (inb2 r k h0 h1) w X

end Pure

variable (F) in
/-- the running statistics and the probabilities -/
structure Stat : Type where
  m : FVec F A2 .f32
  l : FVec F A2 .f32
  al : FVec F A2 .f32
  p : FVec F S2 .bf16

/-- 16 rows of scores, lanes `k …` -/
abbrev sT {b : Nat} (S : FVec F (⟨2, ![1024, b]⟩ : Shape) .f32) (r k : Nat) (h0 : r + 16 ≤ 1024) (h1 : k + 128 ≤ b) : FVec F T2 .f32 :=
  rd2 16 128 r k h0 h1 S

abbrev mT (M : FVec F A2 .f32) (r : Nat) (h0 : r + 16 ≤ 1024) : FVec F T2 .f32 := rd2 16 128 r 0 h0 (by decide) M

abbrev ux8 (S : FVec F S2 .f32) (M : FVec F A2 .f32) (r : Nat) (h0 : r + 16 ≤ 1024) : FVec F T2 .f32 :=
  newMax (mT M r h0) (maximumf (maximumf (maximumf (maximumf (maximumf (maximumf (maximumf (sT S r 0 h0 (by decide)) (sT S r 128 h0 (by decide)))
    (sT S r 256 h0 (by decide))) (sT S r 384 h0 (by decide))) (sT S r 512 h0 (by decide))) (sT S r 640 h0 (by decide)))
    (sT S r 768 h0 (by decide))) (sT S r 896 h0 (by decide)))

abbrev ux2 (S : FVec F X2 .f32) (M : FVec F A2 .f32) (r : Nat) (h0 : r + 16 ≤ 1024) : FVec F T2 .f32 :=
  newMax (mT M r h0) (maximumf (sT S r 0 h0 (by decide)) (sT S r 128 h0 (by decide)))

/-- the probabilities of one column, and the decay -/
abbrev pT (v mx : FVec F T2 .f32) : FVec F T2 .f32 := exp2 (subf v mx)

abbrev us8 (S : FVec F S2 .f32) (mx : FVec F T2 .f32) (r : Nat) (h0 : r + 16 ≤ 1024) : FVec F T2 .f32 :=
  addf (addf (addf (addf (addf (addf (addf (pT (sT S r 0 h0 (by decide)) mx) (pT (sT S r 128 h0 (by decide)) mx))
    (pT (sT S r 256 h0 (by decide)) mx)) (pT (sT S r 384 h0 (by decide)) mx)) (pT (sT S r 512 h0 (by decide)) mx))
    (pT (sT S r 640 h0 (by decide)) mx)) (pT (sT S r 768 h0 (by decide)) mx)) (pT (sT S r 896 h0 (by decide)) mx)

abbrev us2 (S : FVec F X2 .f32) (mx : FVec F T2 .f32) (r : Nat) (h0 : r + 16 ≤ 1024) : FVec F T2 .f32 :=
  addf (pT (sT S r 0 h0 (by decide)) mx) (pT (sT S r 128 h0 (by decide)) mx)

abbrev wP (r k : Nat) (h0 : r + 16 ≤ 1024) (h1 : k + 128 ≤ 1024) (w : FVec F T2 .f32) (P : FVec F S2 .bf16) : FVec F S2 .bf16 :=
  wr2 16 128 r k h0 h1 (truncf .bf16 w bitsLt) P

def wA (r : Nat) (h0 : r + 16 ≤ 1024) (w : FVec F T2 .f32) (X : FVec F A2 .f32) : FVec F A2 .f32 :=
  wr2 16 128 r 0 h0 (by decide) w X

abbrev up8 (S : FVec F S2 .f32) (mx : FVec F T2 .f32) (r : Nat) (h0 : r + 16 ≤ 1024) (P : FVec F S2 .bf16) : FVec F S2 .bf16 :=
  wP r 896 h0 (by decide) (pT (sT S r 896 h0 (by decide)) mx) <| wP r 768 h0 (by decide) (pT (sT S r 768 h0 (by decide)) mx) <|
  wP r 640 h0 (by decide) (pT (sT S r 640 h0 (by decide)) mx) <| wP r 512 h0 (by decide) (pT (sT S r 512 h0 (by decide)) mx) <|
  wP r 384 h0 (by decide) (pT (sT S r 384 h0 (by decide)) mx) <| wP r 256 h0 (by decide) (pT (sT S r 256 h0 (by decide)) mx) <|
  wP r 128 h0 (by decide) (pT (sT S r 128 h0 (by decide)) mx) <| wP r 0 h0 (by decide) (pT (sT S r 0 h0 (by decide)) mx) P

abbrev up2 (S : FVec F X2 .f32) (mx : FVec F T2 .f32) (r : Nat) (h0 : r + 16 ≤ 1024) (P : FVec F S2 .bf16) : FVec F S2 .bf16 :=
  wP r 128 h0 (by decide) (pT (sT S r 128 h0 (by decide)) mx) <| wP r 0 h0 (by decide) (pT (sT S r 0 h0 (by decide)) mx) P

/-- the statistics after 16 rows -/
def sts (mx sum : FVec F T2 .f32) (r : Nat) (h0 : r + 16 ≤ 1024) (P : FVec F S2 .bf16) (t : Stat F) : Stat F where
  m := wA r h0 mx t.m
  l := wA r h0 (addf (mulf (pT (mT t.m r h0) mx) (mT t.l r h0)) sum) t.l
  al := wA r h0 (pT (mT t.m r h0) mx) t.al
  p := P

abbrev step8 (S : FVec F S2 .f32) (r : Nat) (h0 : r + 16 ≤ 1024) (t : Stat F) : Stat F :=
  sts (ux8 S t.m r h0) (us8 S (ux8 S t.m r h0) r h0) r h0 (up8 S (ux8 S t.m r h0) r h0 t.p) t

abbrev step2 (S : FVec F X2 .f32) (r : Nat) (h0 : r + 16 ≤ 1024) (t : Stat F) : Stat F :=
  sts (ux2 S t.m r h0) (us2 S (ux2 S t.m r h0) r h0) r h0 (up2 S (ux2 S t.m r h0) r h0 t.p) t

def runs (f : (r : Nat) → r + 16 ≤ 1024 → Stat F → Stat F) : (n r : Nat) → r + 16 * n ≤ 1024 → Stat F → Stat F
  | 0, _, _, t => t
  | n + 1, r, h, t => runs f n (r + 16) (row_next h) (f r (row_lt h) t)

def iss8 (q : FVec F A2 .bf16) (o : Nat) (h0 : o + 512 ≤ 1024) (k : FVec F A2 .bf16) (S : FVec F S2 .f32) : FVec F S2 .f32 :=
  wr2 512 1024 o 0 h0 (by decide) (matmul dQK none (rd2 512 128 o 0 h0 (by decide) q) k (constant HS .f32 0x00000000#32)) S

def iss2 (q : FVec F A2 .bf16) (o : Nat) (h0 : o + 512 ≤ 1024) (k : FVec F C2 .bf16) (S : FVec F X2 .f32) : FVec F X2 .f32 :=
  wr2 512 256 o 0 h0 (by decide) (matmul dQKc none (rd2 512 128 o 0 h0 (by decide) q) k (constant HX .f32 0x00000000#32)) S

def acc8 (t : Stat F) (o : Nat) (h0 : o + 512 ≤ 1024) (v : FVec F A2 .bf16) (A : FVec F A2 .f32) : FVec F A2 .f32 :=
  wr2 512 128 o 0 h0 (by decide) (addf (mulf (rd2 512 128 o 0 h0 (by decide) A) (rd2 512 128 o 0 h0 (by decide) t.al))
    (matmul dPV none (rd2 512 1024 o 0 h0 (by decide) t.p) v (constant H2 .f32 0x00000000#32))) A

def acc2 (t : Stat F) (o : Nat) (h0 : o + 512 ≤ 1024) (v : FVec F C2 .bf16) (A : FVec F A2 .f32) : FVec F A2 .f32 :=
  wr2 512 128 o 0 h0 (by decide) (addf (mulf (rd2 512 128 o 0 h0 (by decide) A) (rd2 512 128 o 0 h0 (by decide) t.al))
    (matmul dPVc none (rd2 512 256 o 0 h0 (by decide) t.p) v (constant H2 .f32 0x00000000#32))) A

/-- 1024 rows of keys or values -/
def lL (X : FVec F L3 .bf16) (off : Fin 3 → Nat) (h : ∀ x, off x + K3.size x ≤ L3.size x) : FVec F A2 .bf16 :=
  shapeCast A2 (rd (Rect.unit (s := L3) off K3.size h) X) scK3

def lC (X : FVec F C3 .bf16) : FVec F C2 .bf16 := shapeCast C2 (rd (Rect.unit (s := C3) ![0, 0, 0] C3.size inbC) X) scC3

def stat1 (S : FVec F S2 .f32) (t : Stat F) : Stat F := runs (step8 S) 32 0 (by decide) t
def stat2 (S : FVec F S2 .f32) (t : Stat F) : Stat F := runs (step8 S) 32 512 (by decide) (stat1 S t)
def stat1c (S : FVec F X2 .f32) (t : Stat F) : Stat F := runs (step2 S) 32 0 (by decide) t
def stat2c (S : FVec F X2 .f32) (t : Stat F) : Stat F := runs (step2 S) 32 512 (by decide) (stat1c S t)
def chA (S : FVec F S2 .f32) (t : Stat F) (v : FVec F A2 .bf16) (A : FVec F A2 .f32) : FVec F A2 .f32 :=
  acc8 (stat2 S t) 512 (by decide) v (acc8 (stat1 S t) 0 (by decide) v A)
def chC (S : FVec F X2 .f32) (t : Stat F) (v : FVec F C2 .bf16) (A : FVec F A2 .f32) : FVec F A2 .f32 :=
  acc2 (stat2c S t) 512 (by decide) v (acc2 (stat1c S t) 0 (by decide) v A)
def isL (q k : FVec F A2 .bf16) (S : FVec F S2 .f32) : FVec F S2 .f32 := iss8 q 512 (by decide) k (iss8 q 0 (by decide) k S)
def isC (q : FVec F A2 .bf16) (k : FVec F C2 .bf16) (S : FVec F X2 .f32) : FVec F X2 .f32 := iss2 q 512 (by decide) k (iss2 q 0 (by decide) k S)

/-- one head's queries -/
def wQ (x : FVec F Q3 .bf16) (k r : Nat) (hk : k + 128 ≤ 512) (h0 : r + 256 ≤ 1024) (q : FVec F A2 .bf16) : FVec F A2 .bf16 :=
  wr2 256 128 r 0 h0 (by decide) (shapeCast C2 (rd (Rect.unit (s := Q3) ![0, 0, k] C3.size (inbQ k hk)) x) scC3) q

def qs (x : FVec F Q3 .bf16) (q : FVec F A2 .bf16) : FVec F A2 .bf16 :=
  wQ x 384 768 (by decide) (by decide) <| wQ x 256 512 (by decide) (by decide) <| wQ x 128 256 (by decide) (by decide) <|
  wQ x 0 0 (by decide) (by decide) q

/-- a whole matrix written -/
def wF (w X : FVec F A2 .f32) : FVec F A2 .f32 := wr2 1024 128 0 0 (by decide) (by decide) w X
def rF (X : FVec F A2 .f32) : FVec F A2 .f32 := rd2 1024 128 0 0 (by decide) (by decide) X

def negInf : FVec F A2 .f32 := broadcast A2 (Scalar.ofBits .f32 0xFF800000#32 : F .f32)
def zeros : FVec F A2 .f32 := broadcast A2 (Scalar.ofBits .f32 0x00000000#32 : F .f32)

/-- one head's rows of the result -/
def wO (k : Nat) (hk : k + 128 ≤ 512) (w : FVec F C2 .f32) (y : FVec F Q3 .bf16) : FVec F Q3 .bf16 :=
  wr (s := Q3) ![0, 0, k] C3.size (inbQ k hk) (shapeCast C3 (truncf .bf16 w bitsLt) scC23) y

def quo (A L : FVec F A2 .f32) : FVec F A2 .f32 :=
  divf A (broadcastTo A2 (shapeCast R11 (multiReduction .add [1] R1 L 0x00000000#32 redA (.inl rfl) rfl) scR1) bcA)

def ys (w : FVec F A2 .f32) (y : FVec F Q3 .bf16) : FVec F Q3 .bf16 :=
  wO 384 (by decide) (extractStridedSlice C2 ![768, 0] w (by decide)) <| wO 256 (by decide) (extractStridedSlice C2 ![512, 0] w (by decide)) <|
  wO 128 (by decide) (extractStridedSlice C2 ![256, 0] w (by decide)) <| wO 0 (by decide) (extractStridedSlice C2 ![0, 0] w (by decide)) y

/-! ## The run -/

variable {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} {𝒱 : Variants} {c : Dev nD} {bd : Option 𝒱.V} {E : Set Name}
  {Q : PUnit → sProp (MT nD τ sig Ix (Elt F) Name U Lvl)}

section
variable {a b : Nat} {e : EltTy}

theorem wp_ld2 {m : Memref sig .tc .vmem (⟨2, ![a, b]⟩ : Shape) e} {X : Vec F (⟨2, ![a, b]⟩ : Shape) e} {c' d r k : Nat} {h0 : r + c' ≤ a} {h1 : k + d ≤ b}
    {hp : 0 < (⟨2, ![c', d]⟩ : Shape).numel} {K : Vec F (⟨2, ![c', d]⟩ : Shape) e → PR F nD τ sig Λ} :
    (owns (c : Thread nD τ) m fullShare X : sProp 𝕄)
      ⊢ iprop((owns (c : Thread nD τ) m fullShare X -∗ wp frame (wpE defs 𝒱 c bd) E (K (rd2 c' d r k h0 h1 X)) Q)
        -∗ wp frame (wpE defs 𝒱 c bd) E (ld2 m c' d r k h0 h1 hp K) Q) := wp_ldr

theorem wp_st2 {m : Memref sig .tc .vmem (⟨2, ![a, b]⟩ : Shape) .f32} {X : Vec F (⟨2, ![a, b]⟩ : Shape) .f32} {c' d r k : Nat} {h0 : r + c' ≤ a} {h1 : k + d ≤ b}
    {hp : 0 < (⟨2, ![c', d]⟩ : Shape).numel} {w : FVec F (⟨2, ![c', d]⟩ : Shape) .f32} {hs} {K : PR F nD τ sig Λ} :
    (owns (c : Thread nD τ) m fullShare X : sProp 𝕄)
      ⊢ iprop((owns (c : Thread nD τ) m fullShare (wr2 c' d r k h0 h1 w X) -∗ wp frame (wpE defs 𝒱 c bd) E K Q)
        -∗ wp frame (wpE defs 𝒱 c bd) E (st2 m c' d r k h0 h1 hp w hs K) Q) := by
  unfold st2
  rw [shapeCast_self]
  iintro H Hk
  iapply wp_ldr $$ H; iintro H
  iapply wp_str $$ H; iintro H
  iapply Hk $$ H

theorem wp_stb {m : Memref sig .tc .vmem (⟨2, ![a, b]⟩ : Shape) .bf16} {hm : m.IsWhole} {X : Vec F (⟨2, ![a, b]⟩ : Shape) .bf16} {c' d r k : Nat} {h0 : r + c' ≤ a} {h1 : k + d ≤ b}
    {hr : 2 ∣ r} {hc : 2 ∣ c'}
    {hp : 0 < (⟨2, ![c', d]⟩ : Shape).numel} {w : FVec F (⟨2, ![c', d]⟩ : Shape) .bf16} {hs} {K : PR F nD τ sig Λ} :
    (owns (c : Thread nD τ) m fullShare X : sProp 𝕄)
      ⊢ iprop((owns (c : Thread nD τ) m fullShare (wr2 c' d r k h0 h1 w X) -∗ wp frame (wpE defs 𝒱 c bd) E K Q)
        -∗ wp frame (wpE defs 𝒱 c bd) E (stb m hm c' d r k h0 h1 hr hc hp w hs K) Q) := by
  unfold stb
  rw [shapeCast_self]
  iintro H Hk
  iapply wp_ldr $$ H; iintro H
  iapply wp_str $$ H; iintro H
  iapply Hk $$ H

end

theorem wp_stp {p : Memref sig .tc .vmem S2 .bf16} {hp : p.IsWhole} {P : FVec F S2 .bf16} {r k : Nat} {h0 : r + 16 ≤ 1024} {h1 : k + 128 ≤ 1024}
    {hr : 2 ∣ r} {w : FVec F T2 .f32} {K : PR F nD τ sig Λ} :
    (owns (c : Thread nD τ) p fullShare P : sProp 𝕄)
      ⊢ iprop((owns (c : Thread nD τ) p fullShare (wP r k h0 h1 w P) -∗ wp frame (wpE defs 𝒱 c bd) E K Q)
        -∗ wp frame (wpE defs 𝒱 c bd) E (stp p hp r k h0 h1 hr w K) Q) := wp_stb

section
variable {m l al : Memref sig .tc .vmem A2 .f32} {p : Memref sig .tc .vmem S2 .bf16} {hp : p.IsWhole}

variable (c m l al p) in
/-- the statistics' memrefs hold `t` -/
def held (t : Stat F) : sProp 𝕄 :=
  iprop(owns (c : Thread nD τ) m fullShare t.m ∗ owns (c : Thread nD τ) l fullShare t.l ∗ owns (c : Thread nD τ) al fullShare t.al
    ∗ owns (c : Thread nD τ) p fullShare t.p)

theorem held_eq (t : Stat F) : (held c m l al p t : sProp 𝕄)
    = iprop(owns (c : Thread nD τ) m fullShare t.m ∗ owns (c : Thread nD τ) l fullShare t.l ∗ owns (c : Thread nD τ) al fullShare t.al
      ∗ owns (c : Thread nD τ) p fullShare t.p) := rfl

theorem wp_stats {t : Stat F} {P : FVec F S2 .bf16} {r : Nat} {h0 : r + 16 ≤ 1024} {mx sum : FVec F T2 .f32} {K : PR F nD τ sig Λ} :
    (iprop(owns (c : Thread nD τ) m fullShare t.m ∗ owns (c : Thread nD τ) l fullShare t.l ∗ owns (c : Thread nD τ) al fullShare t.al
      ∗ owns (c : Thread nD τ) p fullShare P) : sProp 𝕄)
      ⊢ iprop((held c m l al p (sts mx sum r h0 P t) -∗ wp frame (wpE defs 𝒱 c bd) E K Q)
        -∗ wp frame (wpE defs 𝒱 c bd) E (stats m l al r h0 mx (pT (mT t.m r h0) mx) sum K) Q) := by
  unfold stats held
  iintro ⟨Hm, Hl, Ha, Hp⟩ Hk
  iapply wp_st2 $$ Hm; iintro Hm
  iapply wp_st2 $$ Ha; iintro Ha
  iapply wp_ld2 $$ Hl; iintro Hl
  iapply wp_st2 $$ Hl; iintro Hl
  iapply Hk
  isplitl [Hm]; · iexact Hm
  isplitl [Hl]; · iexact Hl
  isplitl [Ha]; · iexact Ha
  iexact Hp

theorem wp_unit8 {s : Memref sig .tc .vmem S2 .f32} {S : FVec F S2 .f32} {t : Stat F} {r : Nat} {h0 : r + 16 ≤ 1024} {hr : 2 ∣ r} {K : PR F nD τ sig Λ} :
    (iprop(owns (c : Thread nD τ) s fullShare S ∗ held c m l al p t) : sProp 𝕄)
      ⊢ iprop((iprop(owns (c : Thread nD τ) s fullShare S ∗ held c m l al p (step8 S r h0 t)) -∗ wp frame (wpE defs 𝒱 c bd) E K Q)
        -∗ wp frame (wpE defs 𝒱 c bd) E (unit8 m l al p hp s r h0 hr K) Q) := by
  rw [held_eq t]
  unfold unit8
  iintro ⟨Hs, Ht⟩ Hk
  icases Ht with ⟨Hm, Hl, Ha, Hp⟩
  iapply wp_ld2 $$ Hs; iintro Hs
  iapply wp_ld2 $$ Hs; iintro Hs
  iapply wp_ld2 $$ Hs; iintro Hs
  iapply wp_ld2 $$ Hs; iintro Hs
  iapply wp_ld2 $$ Hs; iintro Hs
  iapply wp_ld2 $$ Hs; iintro Hs
  iapply wp_ld2 $$ Hs; iintro Hs
  iapply wp_ld2 $$ Hs; iintro Hs
  iapply wp_ld2 $$ Hm; iintro Hm
  dsimp only
  iapply wp_stp $$ Hp; iintro Hp
  iapply wp_stp $$ Hp; iintro Hp
  iapply wp_stp $$ Hp; iintro Hp
  iapply wp_stp $$ Hp; iintro Hp
  iapply wp_stp $$ Hp; iintro Hp
  iapply wp_stp $$ Hp; iintro Hp
  iapply wp_stp $$ Hp; iintro Hp
  iapply wp_stp $$ Hp; iintro Hp
  iapply (wp_stats (c := c) (m := m) (l := l) (al := al) (p := p) (t := t)) $$ [Hm Hl Ha Hp]
  · isplitl [Hm]; · iexact Hm
    isplitl [Hl]; · iexact Hl
    isplitl [Ha]; · iexact Ha
    iexact Hp
  iintro Ht
  iapply Hk
  isplitl [Hs]; · iexact Hs
  iexact Ht

theorem wp_unit2 {s : Memref sig .tc .vmem X2 .f32} {S : FVec F X2 .f32} {t : Stat F} {r : Nat} {h0 : r + 16 ≤ 1024} {hr : 2 ∣ r} {K : PR F nD τ sig Λ} :
    (iprop(owns (c : Thread nD τ) s fullShare S ∗ held c m l al p t) : sProp 𝕄)
      ⊢ iprop((iprop(owns (c : Thread nD τ) s fullShare S ∗ held c m l al p (step2 S r h0 t)) -∗ wp frame (wpE defs 𝒱 c bd) E K Q)
        -∗ wp frame (wpE defs 𝒱 c bd) E (unit2 m l al p hp s r h0 hr K) Q) := by
  rw [held_eq t]
  unfold unit2
  iintro ⟨Hs, Ht⟩ Hk
  icases Ht with ⟨Hm, Hl, Ha, Hp⟩
  iapply wp_ld2 $$ Hs; iintro Hs
  iapply wp_ld2 $$ Hs; iintro Hs
  iapply wp_ld2 $$ Hm; iintro Hm
  dsimp only
  iapply wp_stp $$ Hp; iintro Hp
  iapply wp_stp $$ Hp; iintro Hp
  iapply (wp_stats (c := c) (m := m) (l := l) (al := al) (p := p) (t := t)) $$ [Hm Hl Ha Hp]
  · isplitl [Hm]; · iexact Hm
    isplitl [Hl]; · iexact Hl
    isplitl [Ha]; · iexact Ha
    iexact Hp
  iintro Ht
  iapply Hk
  isplitl [Hs]; · iexact Hs
  iexact Ht

theorem wp_rows8 {s : Memref sig .tc .vmem S2 .f32} {S : FVec F S2 .f32} {K : PR F nD τ sig Λ} (n : Nat) :
    ∀ (r : Nat) (h : r + 16 * n ≤ 1024) (hr : 2 ∣ r) (t : Stat F),
    (iprop(owns (c : Thread nD τ) s fullShare S ∗ held c m l al p t) : sProp 𝕄)
      ⊢ iprop((iprop(owns (c : Thread nD τ) s fullShare S ∗ held c m l al p (runs (step8 S) n r h t)) -∗ wp frame (wpE defs 𝒱 c bd) E K Q)
        -∗ wp frame (wpE defs 𝒱 c bd) E (rows8 m l al p hp s n r h hr K) Q) := by
  induction n with
  | zero =>
    intro r h hr t
    rw [show runs (step8 S) 0 r h t = t from rfl]
    iintro H Hk
    iapply Hk $$ H
  | succ n ih =>
    intro r h hr t
    rw [show runs (step8 S) (n + 1) r h t = runs (step8 S) n (r + 16) (row_next h) (step8 S r (row_lt h) t) from rfl]
    iintro H Hk
    iapply (wp_unit8 (K := rows8 m l al p hp s n (r + 16) (row_next h) (row_even hr) K)) $$ H
    iintro H
    iapply ih $$ H Hk

theorem wp_rows2 {s : Memref sig .tc .vmem X2 .f32} {S : FVec F X2 .f32} {K : PR F nD τ sig Λ} (n : Nat) :
    ∀ (r : Nat) (h : r + 16 * n ≤ 1024) (hr : 2 ∣ r) (t : Stat F),
    (iprop(owns (c : Thread nD τ) s fullShare S ∗ held c m l al p t) : sProp 𝕄)
      ⊢ iprop((iprop(owns (c : Thread nD τ) s fullShare S ∗ held c m l al p (runs (step2 S) n r h t)) -∗ wp frame (wpE defs 𝒱 c bd) E K Q)
        -∗ wp frame (wpE defs 𝒱 c bd) E (rows2 m l al p hp s n r h hr K) Q) := by
  induction n with
  | zero =>
    intro r h hr t
    rw [show runs (step2 S) 0 r h t = t from rfl]
    iintro H Hk
    iapply Hk $$ H
  | succ n ih =>
    intro r h hr t
    rw [show runs (step2 S) (n + 1) r h t = runs (step2 S) n (r + 16) (row_next h) (step2 S r (row_lt h) t) from rfl]
    iintro H Hk
    iapply (wp_unit2 (K := rows2 m l al p hp s n (r + 16) (row_next h) (row_even hr) K)) $$ H
    iintro H
    iapply ih $$ H Hk

/-! ## Chunks -/

theorem wp_issue8 {q : Memref sig .tc .vmem A2 .bf16} {s : Memref sig .tc .vmem S2 .f32} {o : Nat} {h0 : o + 512 ≤ 1024}
    {k X : FVec F A2 .bf16} {S : FVec F S2 .f32} {K : PR F nD τ sig Λ} :
    (iprop(owns (c : Thread nD τ) q fullShare X ∗ owns (c : Thread nD τ) s fullShare S) : sProp 𝕄)
      ⊢ iprop((iprop(owns (c : Thread nD τ) q fullShare X ∗ owns (c : Thread nD τ) s fullShare (iss8 X o h0 k S)) -∗ wp frame (wpE defs 𝒱 c bd) E K Q)
        -∗ wp frame (wpE defs 𝒱 c bd) E (issue8 q s o h0 k K) Q) := by
  unfold issue8 iss8
  iintro ⟨Hq, Hs⟩ Hk
  iapply wp_ld2 $$ Hq; iintro Hq
  iapply wp_st2 $$ Hs; iintro Hs
  iapply Hk
  isplitl [Hq]; · iexact Hq
  iexact Hs

theorem wp_issue2 {q : Memref sig .tc .vmem A2 .bf16} {s : Memref sig .tc .vmem X2 .f32} {o : Nat} {h0 : o + 512 ≤ 1024}
    {k : FVec F C2 .bf16} {X : FVec F A2 .bf16} {S : FVec F X2 .f32} {K : PR F nD τ sig Λ} :
    (iprop(owns (c : Thread nD τ) q fullShare X ∗ owns (c : Thread nD τ) s fullShare S) : sProp 𝕄)
      ⊢ iprop((iprop(owns (c : Thread nD τ) q fullShare X ∗ owns (c : Thread nD τ) s fullShare (iss2 X o h0 k S)) -∗ wp frame (wpE defs 𝒱 c bd) E K Q)
        -∗ wp frame (wpE defs 𝒱 c bd) E (issue2 q s o h0 k K) Q) := by
  unfold issue2 iss2
  iintro ⟨Hq, Hs⟩ Hk
  iapply wp_ld2 $$ Hq; iintro Hq
  iapply wp_st2 $$ Hs; iintro Hs
  iapply Hk
  isplitl [Hq]; · iexact Hq
  iexact Hs

variable {acc : Memref sig .tc .vmem A2 .f32}

theorem wp_accum8 {t : Stat F} {A : FVec F A2 .f32} {o : Nat} {h0 : o + 512 ≤ 1024} {v : FVec F A2 .bf16} {K : PR F nD τ sig Λ} :
    (iprop(held c m l al p t ∗ owns (c : Thread nD τ) acc fullShare A) : sProp 𝕄)
      ⊢ iprop((iprop(held c m l al p t ∗ owns (c : Thread nD τ) acc fullShare (acc8 t o h0 v A)) -∗ wp frame (wpE defs 𝒱 c bd) E K Q)
        -∗ wp frame (wpE defs 𝒱 c bd) E (accum8 p al acc o h0 v K) Q) := by
  rw [held_eq t]
  unfold accum8 acc8
  iintro ⟨⟨Hm, Hl, Ha, Hp⟩, Hacc⟩ Hk
  iapply wp_ld2 $$ Hp; iintro Hp
  iapply wp_ld2 $$ Hacc; iintro Hacc
  iapply wp_ld2 $$ Ha; iintro Ha
  iapply wp_st2 $$ Hacc; iintro Hacc
  iapply Hk
  isplitr [Hacc]; rotate_left
  · iexact Hacc
  isplitl [Hm]; · iexact Hm
  isplitl [Hl]; · iexact Hl
  isplitl [Ha]; · iexact Ha
  iexact Hp

theorem wp_accum2 {t : Stat F} {A : FVec F A2 .f32} {o : Nat} {h0 : o + 512 ≤ 1024} {v : FVec F C2 .bf16} {K : PR F nD τ sig Λ} :
    (iprop(held c m l al p t ∗ owns (c : Thread nD τ) acc fullShare A) : sProp 𝕄)
      ⊢ iprop((iprop(held c m l al p t ∗ owns (c : Thread nD τ) acc fullShare (acc2 t o h0 v A)) -∗ wp frame (wpE defs 𝒱 c bd) E K Q)
        -∗ wp frame (wpE defs 𝒱 c bd) E (accum2 p al acc o h0 v K) Q) := by
  rw [held_eq t]
  unfold accum2 acc2
  iintro ⟨⟨Hm, Hl, Ha, Hp⟩, Hacc⟩ Hk
  iapply wp_ld2 $$ Hp; iintro Hp
  iapply wp_ld2 $$ Hacc; iintro Hacc
  iapply wp_ld2 $$ Ha; iintro Ha
  iapply wp_st2 $$ Hacc; iintro Hacc
  iapply Hk
  isplitr [Hacc]; rotate_left
  · iexact Hacc
  isplitl [Hm]; · iexact Hm
  isplitl [Hl]; · iexact Hl
  isplitl [Ha]; · iexact Ha
  iexact Hp

theorem wp_ldL {x : Memref sig .tc .vmem L3 .bf16} {X : FVec F L3 .bf16} {off : Fin 3 → Nat} {h : ∀ x, off x + K3.size x ≤ L3.size x}
    {K : FVec F A2 .bf16 → PR F nD τ sig Λ} :
    (owns (c : Thread nD τ) x fullShare X : sProp 𝕄)
      ⊢ iprop((owns (c : Thread nD τ) x fullShare X -∗ wp frame (wpE defs 𝒱 c bd) E (K (lL X off h)) Q)
        -∗ wp frame (wpE defs 𝒱 c bd) E (ldL x off h K) Q) := by
  unfold ldL lL
  iintro H Hk
  iapply wp_ldr $$ H; iintro H
  iapply Hk $$ H

theorem wp_ldC {x : Memref sig .tc .vmem C3 .bf16} {X : FVec F C3 .bf16} {K : FVec F C2 .bf16 → PR F nD τ sig Λ} :
    (owns (c : Thread nD τ) x fullShare X : sProp 𝕄)
      ⊢ iprop((owns (c : Thread nD τ) x fullShare X -∗ wp frame (wpE defs 𝒱 c bd) E (K (lC X)) Q)
        -∗ wp frame (wpE defs 𝒱 c bd) E (ldC x K) Q) := by
  unfold ldC lC
  iintro H Hk
  iapply wp_ldr $$ H; iintro H
  iapply Hk $$ H

/-- a chunk, whose two issues take what `I` says from one to the next -/
theorem wp_chunk8 {s : Memref sig .tc .vmem S2 .f32} {S : FVec F S2 .f32} {t : Stat F} {A : FVec F A2 .f32} {v : FVec F A2 .bf16}
    {iss : (o : Nat) → o + 512 ≤ 1024 → PR F nD τ sig Λ → PR F nD τ sig Λ} {K : PR F nD τ sig Λ} (I0 I1 I2 : sProp 𝕄)
    (hi0 : ∀ K, I0 ⊢ iprop((I1 -∗ wp frame (wpE defs 𝒱 c bd) E K Q) -∗ wp frame (wpE defs 𝒱 c bd) E (iss 0 (by decide) K) Q))
    (hi1 : ∀ K, I1 ⊢ iprop((I2 -∗ wp frame (wpE defs 𝒱 c bd) E K Q) -∗ wp frame (wpE defs 𝒱 c bd) E (iss 512 (by decide) K) Q)) :
    (iprop(owns (c : Thread nD τ) s fullShare S ∗ held c m l al p t ∗ owns (c : Thread nD τ) acc fullShare A ∗ I0) : sProp 𝕄)
      ⊢ iprop((iprop(owns (c : Thread nD τ) s fullShare S ∗ held c m l al p (stat2 S t) ∗ owns (c : Thread nD τ) acc fullShare (chA S t v A) ∗ I2)
          -∗ wp frame (wpE defs 𝒱 c bd) E K Q)
        -∗ wp frame (wpE defs 𝒱 c bd) E (chunk8 m l al acc p hp s v iss K) Q) := by
  unfold chunk8 chA stat2 stat1
  iintro ⟨Hs, Ht, Ha, HI⟩ Hk
  iapply hi0 $$ HI; iintro HI
  iapply wp_rows8 $$ [Hs Ht]
  · isplitl [Hs]; · iexact Hs
    iexact Ht
  iintro ⟨Hs, Ht⟩
  iapply wp_accum8 $$ [Ht Ha]
  · isplitl [Ht]; · iexact Ht
    iexact Ha
  iintro ⟨Ht, Ha⟩
  iapply hi1 $$ HI; iintro HI
  iapply wp_rows8 $$ [Hs Ht]
  · isplitl [Hs]; · iexact Hs
    iexact Ht
  iintro ⟨Hs, Ht⟩
  iapply wp_accum8 $$ [Ht Ha]
  · isplitl [Ht]; · iexact Ht
    iexact Ha
  iintro ⟨Ht, Ha⟩
  iapply Hk
  isplitl [Hs]; · iexact Hs
  isplitl [Ht]; · iexact Ht
  isplitl [Ha]; · iexact Ha
  iexact HI

theorem wp_chunk2 {s : Memref sig .tc .vmem X2 .f32} {S : FVec F X2 .f32} {t : Stat F} {A : FVec F A2 .f32} {v : FVec F C2 .bf16}
    {K : PR F nD τ sig Λ} :
    (iprop(owns (c : Thread nD τ) s fullShare S ∗ held c m l al p t ∗ owns (c : Thread nD τ) acc fullShare A) : sProp 𝕄)
      ⊢ iprop((iprop(owns (c : Thread nD τ) s fullShare S ∗ held c m l al p (stat2c S t) ∗ owns (c : Thread nD τ) acc fullShare (chC S t v A))
          -∗ wp frame (wpE defs 𝒱 c bd) E K Q)
        -∗ wp frame (wpE defs 𝒱 c bd) E (chunk2 m l al acc p hp s v K) Q) := by
  unfold chunk2 chC stat2c stat1c
  iintro ⟨Hs, Ht, Ha⟩ Hk
  iapply wp_rows2 $$ [Hs Ht]
  · isplitl [Hs]; · iexact Hs
    iexact Ht
  iintro ⟨Hs, Ht⟩
  iapply wp_accum2 $$ [Ht Ha]
  · isplitl [Ht]; · iexact Ht
    iexact Ha
  iintro ⟨Ht, Ha⟩
  iapply wp_rows2 $$ [Hs Ht]
  · isplitl [Hs]; · iexact Hs
    iexact Ht
  iintro ⟨Hs, Ht⟩
  iapply wp_accum2 $$ [Ht Ha]
  · isplitl [Ht]; · iexact Ht
    iexact Ha
  iintro ⟨Ht, Ha⟩
  iapply Hk
  isplitl [Hs]; · iexact Hs
  isplitl [Ht]; · iexact Ht
  iexact Ha

/-! ## The start and the end -/

theorem wp_stq {x : Memref sig .tc .vmem Q3 .bf16} {q : Memref sig .tc .vmem A2 .bf16} {hq : q.IsWhole} {k r : Nat} {hk : k + 128 ≤ 512}
    {h0 : r + 256 ≤ 1024} {hr : 2 ∣ r} {X : FVec F Q3 .bf16} {Y : FVec F A2 .bf16} {K : PR F nD τ sig Λ} :
    (iprop(owns (c : Thread nD τ) x fullShare X ∗ owns (c : Thread nD τ) q fullShare Y) : sProp 𝕄)
      ⊢ iprop((iprop(owns (c : Thread nD τ) x fullShare X ∗ owns (c : Thread nD τ) q fullShare (wQ X k r hk h0 Y)) -∗ wp frame (wpE defs 𝒱 c bd) E K Q)
        -∗ wp frame (wpE defs 𝒱 c bd) E (stq x q hq k r hk h0 hr K) Q) := by
  unfold stq wQ
  iintro ⟨Hx, Hq⟩ Hk
  iapply wp_ldr $$ Hx; iintro Hx
  iapply wp_stb $$ Hq; iintro Hq
  iapply Hk
  isplitl [Hx]; · iexact Hx
  iexact Hq

theorem wp_start {x : Memref sig .tc .vmem Q3 .bf16} {q : Memref sig .tc .vmem A2 .bf16} {hq : q.IsWhole} {X : FVec F Q3 .bf16}
    {Y : FVec F A2 .bf16} {t : Stat F} {A : FVec F A2 .f32} {K : PR F nD τ sig Λ} :
    (iprop((owns (c : Thread nD τ) x fullShare X ∗ owns (c : Thread nD τ) q fullShare Y) ∗ held c m l al p t ∗ owns (c : Thread nD τ) acc fullShare A) : sProp 𝕄)
      ⊢ iprop((iprop((owns (c : Thread nD τ) x fullShare X ∗ owns (c : Thread nD τ) q fullShare (qs X Y))
            ∗ held c m l al p ⟨wF negInf t.m, wF zeros t.l, t.al, t.p⟩ ∗ owns (c : Thread nD τ) acc fullShare (wF zeros A))
          -∗ wp frame (wpE defs 𝒱 c bd) E K Q)
        -∗ wp frame (wpE defs 𝒱 c bd) E (start x q hq m l acc K) Q) := by
  rw [held_eq t, held_eq (Stat.mk _ _ _ _)]
  unfold start qs wF negInf zeros
  iintro ⟨H, ⟨Hm, Hl, Ha, Hp⟩, Hacc⟩ Hk
  iapply wp_stq $$ H; iintro H
  iapply wp_stq $$ H; iintro H
  iapply wp_stq $$ H; iintro H
  iapply wp_stq $$ H; iintro H
  iapply wp_st2 $$ Hm; iintro Hm
  iapply wp_st2 $$ Hl; iintro Hl
  iapply wp_st2 $$ Hacc; iintro Hacc
  iapply Hk
  isplitl [H]; · iexact H
  isplitr [Hacc]; rotate_left
  · iexact Hacc
  isplitl [Hm]; · iexact Hm
  isplitl [Hl]; · iexact Hl
  isplitl [Ha]; · iexact Ha
  iexact Hp

theorem wp_sto {y : Memref sig .tc .vmem Q3 .bf16} {hy : y.IsWhole} {k : Nat} {hk : k + 128 ≤ 512} {w : FVec F C2 .f32} {Y : FVec F Q3 .bf16}
    {K : PR F nD τ sig Λ} :
    (owns (c : Thread nD τ) y fullShare Y : sProp 𝕄)
      ⊢ iprop((owns (c : Thread nD τ) y fullShare (wO k hk w Y) -∗ wp frame (wpE defs 𝒱 c bd) E K Q)
        -∗ wp frame (wpE defs 𝒱 c bd) E (sto y hy k hk w K) Q) := by
  unfold sto wO
  iintro H Hk
  iapply wp_ldr $$ H; iintro H
  iapply wp_str $$ H; iintro H
  iapply Hk $$ H

theorem wp_finish {y : Memref sig .tc .vmem Q3 .bf16} {hy : y.IsWhole} {L A : FVec F A2 .f32} {Y : FVec F Q3 .bf16} :
    (iprop(owns (c : Thread nD τ) acc fullShare A ∗ owns (c : Thread nD τ) l fullShare L ∗ owns (c : Thread nD τ) y fullShare Y) : sProp 𝕄)
      ⊢ iprop((iprop(owns (c : Thread nD τ) acc fullShare A ∗ owns (c : Thread nD τ) l fullShare L
            ∗ owns (c : Thread nD τ) y fullShare (ys (quo (rF A) (rF L)) Y)) -∗ Q ⟨⟩)
        -∗ wp frame (wpE defs 𝒱 c bd) E (finish acc l y hy) Q) := by
  unfold finish ys quo rF
  iintro ⟨Ha, Hl, Hy⟩ Hk
  iapply wp_ld2 $$ Ha; iintro Ha
  iapply wp_ld2 $$ Hl; iintro Hl
  dsimp only
  iapply wp_sto $$ Hy; iintro Hy
  iapply wp_sto $$ Hy; iintro Hy
  iapply wp_sto $$ Hy; iintro Hy
  iapply wp_sto $$ Hy; iintro Hy
  rw [wp_ret]
  iapply BI.fupd_intro
  iapply Hk
  isplitl [Ha]; · iexact Ha
  isplitl [Hl]; · iexact Hl
  iexact Hy

end

/-! ## The body -/

theorem inb0 : ∀ x, (![0, 0, 0] : Fin 3 → Nat) x + K3.size x ≤ L3.size x := inbL 0 (by decide)

section
variable (X : FVec F Q3 .bf16) (KC VC : FVec F C3 .bf16) (KL VL : FVec F L3 .bf16)

/-- what is carried from chunk to chunk -/
structure Carry (F : FTy → Type) where
  t : Stat F
  acc : FVec F A2 .f32
  s : FVec F S2 .f32
  s' : FVec F S2 .f32

/-- the carry after the start -/
def carry0 (q : FVec F A2 .bf16) (t : Stat F) (A : FVec F A2 .f32) (s s' : FVec F S2 .f32) : Carry F where
  t := ⟨wF negInf t.m, wF zeros t.l, t.al, t.p⟩
  acc := wF zeros A
  s := isL q (lL KL ![0, 0, 0] inb0) s
  s' := s'

/-- the carry after a chunk: the two score buffers change places -/
def carry1 (q : FVec F A2 .bf16) (o : Nat) (h : o + 2048 ≤ 4096) (C : Carry F) : Carry F where
  t := stat2 C.s C.t
  acc := chA C.s C.t (lL VL ![0, o, 0] (inbL o (by omega))) C.acc
  s := isL q (lL KL ![0, o + 1024, 0] (inbL (o + 1024) h)) C.s'
  s' := C.s

/-- and after the last chunk of latents -/
def carryL (C : Carry F) : Carry F where
  t := stat2 C.s C.t
  acc := chA C.s C.t (lL VL ![0, 3072, 0] (inbL 3072 (by decide))) C.acc
  s := C.s
  s' := C.s'

def carry3 (q : FVec F A2 .bf16) (t : Stat F) (A : FVec F A2 .f32) (s s' : FVec F S2 .f32) : Carry F :=
  carryL VL (carry1 KL VL q 2048 (by decide) (carry1 KL VL q 1024 (by decide) (carry1 KL VL q 0 (by decide) (carry0 KL q t A s s'))))

/-- the output block from the carry at the end of the latents and the context's scores -/
def endC (C : Carry F) (sc : FVec F X2 .f32) (Y : FVec F Q3 .bf16) : FVec F Q3 .bf16 :=
  ys (quo (rF (chC sc C.t (lC VC) C.acc)) (rF (stat2c sc C.t).l)) Y

/-- the output block, from what the memrefs held before -/
def bodyY (q : FVec F A2 .bf16) (t : Stat F) (A : FVec F A2 .f32) (s s' : FVec F S2 .f32) (sc : FVec F X2 .f32) (Y : FVec F Q3 .bf16) :
    FVec F Q3 .bf16 :=
  endC VC (carry3 KL VL (qs X q) t A s s') (isC (qs X q) (lC KC) sc) Y

end

section
variable {x : Memref sig .tc .vmem Q3 .bf16} {kc vc : Memref sig .tc .vmem C3 .bf16} {kl vl : Memref sig .tc .vmem L3 .bf16}
  {y : Memref sig .tc .vmem Q3 .bf16} {hy : y.IsWhole} {q : Memref sig .tc .vmem A2 .bf16} {hq : q.IsWhole}
  {s s' : Memref sig .tc .vmem S2 .f32} {sc : Memref sig .tc .vmem X2 .f32} {p : Memref sig .tc .vmem S2 .bf16} {hp : p.IsWhole}
  {m l al acc : Memref sig .tc .vmem A2 .f32}
  {X : FVec F Q3 .bf16} {KC VC : FVec F C3 .bf16} {KL VL : FVec F L3 .bf16} {q0 : FVec F A2 .bf16}

variable (c m l al p acc s s') in
/-- the memrefs hold the carry -/
def heldC (C : Carry F) : sProp 𝕄 :=
  iprop(owns (c : Thread nD τ) s fullShare C.s ∗ held c m l al p C.t ∗ owns (c : Thread nD τ) acc fullShare C.acc
    ∗ owns (c : Thread nD τ) s' fullShare C.s')

theorem heldC_eq (C : Carry F) : (heldC c s s' p m l al acc C : sProp 𝕄)
    = iprop(owns (c : Thread nD τ) s fullShare C.s ∗ held c m l al p C.t ∗ owns (c : Thread nD τ) acc fullShare C.acc
    ∗ owns (c : Thread nD τ) s' fullShare C.s') := rfl

variable (c kl vl q) in
/-- the latents' keys and values and the queries -/
def heldI (KL VL : FVec F L3 .bf16) (q0 : FVec F A2 .bf16) : sProp 𝕄 :=
  iprop(owns (c : Thread nD τ) kl fullShare KL ∗ owns (c : Thread nD τ) vl fullShare VL ∗ owns (c : Thread nD τ) q fullShare q0)

theorem wp_piece0 {t : Stat F} {A : FVec F A2 .f32} {S S' : FVec F S2 .f32} {K : PR F nD τ sig Λ} :
    (iprop(owns (c : Thread nD τ) x fullShare X ∗ heldI c kl vl q KL VL q0 ∗ held c m l al p t ∗ owns (c : Thread nD τ) acc fullShare A
        ∗ owns (c : Thread nD τ) s fullShare S ∗ owns (c : Thread nD τ) s' fullShare S') : sProp 𝕄)
      ⊢ iprop((iprop(owns (c : Thread nD τ) x fullShare X ∗ heldI c kl vl q KL VL (qs X q0) ∗ heldC c s s' p m l al acc (carry0 KL (qs X q0) t A S S'))
          -∗ wp frame (wpE defs 𝒱 c bd) E K Q)
        -∗ wp frame (wpE defs 𝒱 c bd) E (piece0 x kl q hq s m l acc K) Q) := by
  rw [heldC_eq]
  unfold piece0 heldI carry0 isL
  iintro ⟨Hx, ⟨Hkl, Hvl, Hq⟩, Ht, Ha, Hs, Hs'⟩ Hk
  iapply (wp_start (t := t) (A := A) (X := X) (Y := q0) (al := al) (p := p)) $$ [Hx Hq Ht Ha]
  · isplitl [Hx Hq]
    · isplitl [Hx]; · iexact Hx
      iexact Hq
    isplitl [Ht]; · iexact Ht
    iexact Ha
  iintro ⟨⟨Hx, Hq⟩, Ht, Ha⟩
  iapply wp_ldL $$ Hkl; iintro Hkl
  iapply wp_issue8 $$ [Hq Hs]
  · isplitl [Hq]; · iexact Hq
    iexact Hs
  iintro ⟨Hq, Hs⟩
  iapply wp_ldL $$ Hkl; iintro Hkl
  iapply wp_issue8 $$ [Hq Hs]
  · isplitl [Hq]; · iexact Hq
    iexact Hs
  iintro ⟨Hq, Hs⟩
  iapply Hk
  isplitl [Hx]; · iexact Hx
  isplitl [Hkl Hvl Hq]
  · isplitl [Hkl]; · iexact Hkl
    isplitl [Hvl]; · iexact Hvl
    iexact Hq
  isplitl [Hs]; · iexact Hs
  isplitl [Ht]; · iexact Ht
  isplitl [Ha]; · iexact Ha
  iexact Hs'

theorem wp_piece {C : Carry F} {o : Nat} {h : o + 2048 ≤ 4096} {K : PR F nD τ sig Λ} :
    (iprop(heldI c kl vl q KL VL q0 ∗ heldC c s s' p m l al acc C) : sProp 𝕄)
      ⊢ iprop((iprop(heldI c kl vl q KL VL q0 ∗ heldC c s' s p m l al acc (carry1 KL VL q0 o h C)) -∗ wp frame (wpE defs 𝒱 c bd) E K Q)
        -∗ wp frame (wpE defs 𝒱 c bd) E (piece kl vl q p hp m l al acc s s' o h K) Q) := by
  rw [heldC_eq, heldC_eq]
  unfold piece heldI carry1 isL
  iintro ⟨⟨Hkl, Hvl, Hq⟩, Hs, Ht, Ha, Hs'⟩ Hk
  iapply wp_ldL $$ Hvl; iintro Hvl
  iapply wp_ldL $$ Hkl; iintro Hkl
  iapply (wp_chunk8 (S := C.s) (t := C.t) (A := C.acc)
    iprop(owns (c : Thread nD τ) q fullShare q0 ∗ owns (c : Thread nD τ) s' fullShare C.s')
    iprop(owns (c : Thread nD τ) q fullShare q0 ∗ owns (c : Thread nD τ) s' fullShare (iss8 q0 0 (by decide) (lL KL ![0, o + 1024, 0] (inbL (o + 1024) h)) C.s'))
    iprop(owns (c : Thread nD τ) q fullShare q0 ∗ owns (c : Thread nD τ) s' fullShare (iss8 q0 512 (by decide) (lL KL ![0, o + 1024, 0] (inbL (o + 1024) h))
      (iss8 q0 0 (by decide) (lL KL ![0, o + 1024, 0] (inbL (o + 1024) h)) C.s')))
    (fun _ => wp_issue8) (fun _ => wp_issue8)) $$ [Hs Ht Ha Hq Hs']
  · isplitl [Hs]; · iexact Hs
    isplitl [Ht]; · iexact Ht
    isplitl [Ha]; · iexact Ha
    isplitl [Hq]; · iexact Hq
    iexact Hs'
  iintro ⟨Hs, Ht, Ha, Hq, Hs'⟩
  iapply Hk
  isplitl [Hkl Hvl Hq]
  · isplitl [Hkl]; · iexact Hkl
    isplitl [Hvl]; · iexact Hvl
    iexact Hq
  isplitl [Hs']; · iexact Hs'
  isplitl [Ht]; · iexact Ht
  isplitl [Ha]; · iexact Ha
  iexact Hs

theorem wp_pieceL {C : Carry F} {Sc : FVec F X2 .f32} {K : PR F nD τ sig Λ} :
    (iprop(owns (c : Thread nD τ) kc fullShare KC ∗ owns (c : Thread nD τ) sc fullShare Sc ∗ heldI c kl vl q KL VL q0 ∗ heldC c s s' p m l al acc C) : sProp 𝕄)
      ⊢ iprop((iprop(owns (c : Thread nD τ) kc fullShare KC ∗ owns (c : Thread nD τ) sc fullShare (isC q0 (lC KC) Sc)
            ∗ heldI c kl vl q KL VL q0 ∗ heldC c s s' p m l al acc (carryL VL C)) -∗ wp frame (wpE defs 𝒱 c bd) E K Q)
        -∗ wp frame (wpE defs 𝒱 c bd) E (pieceL kc vl q sc p hp m l al acc s K) Q) := by
  rw [heldC_eq, heldC_eq]
  unfold pieceL heldI carryL isC
  iintro ⟨Hkc, Hsc, ⟨Hkl, Hvl, Hq⟩, Hs, Ht, Ha, Hs'⟩ Hk
  iapply wp_ldL $$ Hvl; iintro Hvl
  iapply wp_ldC $$ Hkc; iintro Hkc
  iapply (wp_chunk8 (S := C.s) (t := C.t) (A := C.acc)
    iprop(owns (c : Thread nD τ) q fullShare q0 ∗ owns (c : Thread nD τ) sc fullShare Sc)
    iprop(owns (c : Thread nD τ) q fullShare q0 ∗ owns (c : Thread nD τ) sc fullShare (iss2 q0 0 (by decide) (lC KC) Sc))
    iprop(owns (c : Thread nD τ) q fullShare q0 ∗ owns (c : Thread nD τ) sc fullShare (iss2 q0 512 (by decide) (lC KC)
      (iss2 q0 0 (by decide) (lC KC) Sc)))
    (fun _ => wp_issue2) (fun _ => wp_issue2)) $$ [Hs Ht Ha Hq Hsc]
  · isplitl [Hs]; · iexact Hs
    isplitl [Ht]; · iexact Ht
    isplitl [Ha]; · iexact Ha
    isplitl [Hq]; · iexact Hq
    iexact Hsc
  iintro ⟨Hs, Ht, Ha, Hq, Hsc⟩
  iapply Hk
  isplitl [Hkc]; · iexact Hkc
  isplitl [Hsc]; · iexact Hsc
  isplitl [Hkl Hvl Hq]
  · isplitl [Hkl]; · iexact Hkl
    isplitl [Hvl]; · iexact Hvl
    iexact Hq
  isplitl [Hs]; · iexact Hs
  isplitl [Ht]; · iexact Ht
  isplitl [Ha]; · iexact Ha
  iexact Hs'

theorem wp_pieceC {C : Carry F} {Sc : FVec F X2 .f32} {Y : FVec F Q3 .bf16} :
    (iprop(owns (c : Thread nD τ) vc fullShare VC ∗ owns (c : Thread nD τ) y fullShare Y ∗ owns (c : Thread nD τ) sc fullShare Sc
        ∗ heldC c s s' p m l al acc C) : sProp 𝕄)
      ⊢ iprop((iprop(owns (c : Thread nD τ) vc fullShare VC ∗ owns (c : Thread nD τ) y fullShare (endC VC C Sc Y)
            ∗ owns (c : Thread nD τ) sc fullShare Sc
            ∗ (∃ C', heldC c s s' p m l al acc C')) -∗ Q ⟨⟩)
        -∗ wp frame (wpE defs 𝒱 c bd) E (pieceC vc y hy sc p hp m l al acc) Q) := by
  rw [heldC_eq]
  unfold pieceC endC
  iintro ⟨Hvc, Hy, Hsc, Hs, Ht, Ha, Hs'⟩ Hk
  iapply wp_ldC $$ Hvc; iintro Hvc
  iapply wp_chunk2 $$ [Hsc Ht Ha]
  · isplitl [Hsc]; · iexact Hsc
    isplitl [Ht]; · iexact Ht
    iexact Ha
  rw [held_eq (stat2c _ _)]
  iintro ⟨Hsc, ⟨Hm, Hl, Hal, Hp⟩, Ha⟩
  iapply wp_finish $$ [Ha Hl Hy]
  · isplitl [Ha]; · iexact Ha
    isplitl [Hl]; · iexact Hl
    iexact Hy
  iintro ⟨Ha, Hl, Hy⟩
  iapply Hk
  isplitl [Hvc]; · iexact Hvc
  isplitl [Hy]; · iexact Hy
  isplitl [Hsc]; · iexact Hsc
  iexists ⟨stat2c Sc C.t, chC Sc C.t (lC VC) C.acc, C.s, C.s'⟩
  rw [heldC_eq, held_eq]
  isplitl [Hs]; · iexact Hs
  isplitr [Ha Hs']; rotate_left
  · isplitl [Ha]; · iexact Ha
    iexact Hs'
  isplitl [Hm]; · iexact Hm
  isplitl [Hl]; · iexact Hl
  isplitl [Hal]; · iexact Hal
  iexact Hp

theorem wp_body {t : Stat F} {A : FVec F A2 .f32} {S S' : FVec F S2 .f32} {Sc : FVec F X2 .f32} {Y : FVec F Q3 .bf16} :
    (iprop(owns (c : Thread nD τ) x fullShare X ∗ owns (c : Thread nD τ) kc fullShare KC ∗ owns (c : Thread nD τ) vc fullShare VC
        ∗ heldI c kl vl q KL VL q0 ∗ owns (c : Thread nD τ) y fullShare Y ∗ owns (c : Thread nD τ) sc fullShare Sc
        ∗ held c m l al p t ∗ owns (c : Thread nD τ) acc fullShare A
        ∗ owns (c : Thread nD τ) s fullShare S ∗ owns (c : Thread nD τ) s' fullShare S') : sProp 𝕄)
      ⊢ iprop((iprop(owns (c : Thread nD τ) x fullShare X ∗ owns (c : Thread nD τ) kc fullShare KC ∗ owns (c : Thread nD τ) vc fullShare VC
            ∗ heldI c kl vl q KL VL (qs X q0) ∗ owns (c : Thread nD τ) y fullShare (bodyY X KC VC KL VL q0 t A S S' Sc Y)
            ∗ (∃ Sc, owns (c : Thread nD τ) sc fullShare Sc) ∗ (∃ C, heldC c s' s p m l al acc C)) -∗ Q ⟨⟩)
        -∗ wp frame (wpE defs 𝒱 c bd) E (body x kc vc kl vl y hy q hq s s' sc p hp m l al acc) Q) := by
  unfold body bodyY carry3
  iintro ⟨Hx, Hkc, Hvc, HI, Hy, Hsc, Ht, Ha, Hs, Hs'⟩ Hk
  iapply (wp_piece0 (KL := KL) (VL := VL) (vl := vl) (s' := s') (S' := S')) $$ [Hx HI Ht Ha Hs Hs']
  · isplitl [Hx]; · iexact Hx
    isplitl [HI]; · iexact HI
    isplitl [Ht]; · iexact Ht
    isplitl [Ha]; · iexact Ha
    isplitl [Hs]; · iexact Hs
    iexact Hs'
  iintro ⟨Hx, H⟩
  iapply wp_piece $$ H; iintro H
  iapply wp_piece $$ H; iintro H
  iapply wp_piece $$ H; iintro ⟨HI, H⟩
  iapply (wp_pieceL (KC := KC) (KL := KL) (kl := kl) (Sc := Sc)) $$ [Hkc Hsc HI H]
  · isplitl [Hkc]; · iexact Hkc
    isplitl [Hsc]; · iexact Hsc
    isplitl [HI]; · iexact HI
    iexact H
  iintro ⟨Hkc, Hsc, HI, H⟩
  iapply (wp_pieceC (VC := VC) (Y := Y)) $$ [Hvc Hy Hsc H]
  · isplitl [Hvc]; · iexact Hvc
    isplitl [Hy]; · iexact Hy
    isplitl [Hsc]; · iexact Hsc
    iexact H
  iintro ⟨Hvc, Hy, Hsc, H⟩
  iapply Hk
  isplitl [Hx]; · iexact Hx
  isplitl [Hkc]; · iexact Hkc
  isplitl [Hvc]; · iexact Hvc
  isplitl [HI]; · iexact HI
  isplitl [Hy]; · iexact Hy
  isplitl [Hsc]
  · iexists _; iexact Hsc
  iexact H

end

end Gqa
-- ==== Proof.Gqa.Closed.lean ====
/-
  The output block in closed form: what a whole chunk leaves, over the whole matrices at once, and with nothing of what the scratch
  memrefs held before.
-/
module

public import proofs.«01_k».proof.Proof.Gqa.Run
public import Idealize.ShloMosaic.Lib.ValueLayout

@[expose] public section

noncomputable section

namespace Gqa

open Idealize.ShloMosaic Idealize.ShloMosaic.ValueIdx

/-! ## Rows of a matrix -/

section Rows
variable {α : Type} {b c d : Nat}

abbrev Mat (a b : Nat) (α : Type) : Type := (⟨2, ![a, b]⟩ : Shape).Idx → α

theorem rd2_apply {a r k : Nat} {h0 : r + c ≤ a} {h1 : k + d ≤ b} (X : Mat a b α) (i : (⟨2, ![c, d]⟩ : Shape).Idx) :
    rd2 c d r k h0 h1 X i = X (ix2 ⟨r + (i 0).val, by have := idx2_lt0 i; omega⟩ ⟨k + (i 1).val, by have := idx2_lt1 i; omega⟩) := by
  refine congrArg X (funext fun a => ?_)
  match a with
  | ⟨0, _⟩ => exact Fin.ext (by show r + 1 * (i 0).val = r + (i 0).val; omega)
  | ⟨1, _⟩ => exact Fin.ext (by show k + 1 * (i 1).val = k + (i 1).val; omega)

theorem wr2_of_mem {a r k : Nat} {h0 : r + c ≤ a} {h1 : k + d ≤ b} (w : Mat c d α) (X : Mat a b α) (i : (⟨2, ![a, b]⟩ : Shape).Idx)
    (h : (r ≤ (i 0).val ∧ (i 0).val < r + c) ∧ (k ≤ (i 1).val ∧ (i 1).val < k + d)) :
    wr2 c d r k h0 h1 w X i = w (ix2 ⟨(i 0).val - r, by omega⟩ ⟨(i 1).val - k, by omega⟩) := by
  have h' : ∀ x : Fin 2, (![r, k] : Fin 2 → Nat) x ≤ (i x).val ∧ (i x).val < (![r, k] : Fin 2 → Nat) x + (⟨2, ![c, d]⟩ : Shape).size x := fun x =>
    match x with
    | ⟨0, _⟩ => h.1
    | ⟨1, _⟩ => h.2
  unfold wr2 wr
  rw [dif_pos h']
  refine congrArg w (funext fun x => ?_)
  match x with
  | ⟨0, _⟩ => rfl
  | ⟨1, _⟩ => rfl

theorem wr2_of_not_mem {a r k : Nat} {h0 : r + c ≤ a} {h1 : k + d ≤ b} (w : Mat c d α) (X : Mat a b α) (i : (⟨2, ![a, b]⟩ : Shape).Idx)
    (h : ¬((r ≤ (i 0).val ∧ (i 0).val < r + c) ∧ (k ≤ (i 1).val ∧ (i 1).val < k + d))) :
    wr2 c d r k h0 h1 w X i = X i := by
  unfold wr2 wr
  rw [dif_neg fun hh => h ⟨hh 0, hh 1⟩]

theorem band_le (hd : c ∣ 1024) {x : Nat} (h : x < 1024) : c * (x / c) + c ≤ 1024 := by
  obtain ⟨n, hn⟩ := hd
  have h1 : x / c < n := Nat.div_lt_of_lt_mul (hn ▸ h)
  have h2 : c * (x / c + 1) ≤ c * n := Nat.mul_le_mul_left c h1
  rw [Nat.mul_add, ← hn] at h2
  omega

/-- the matrix made of bands of `c` rows -/
def glue (c : Nat) (hc : 0 < c) (hd : c ∣ 1024) (G : (r : Nat) → r + c ≤ 1024 → Mat c d α) : Mat 1024 d α := fun i =>
  G (c * ((i 0).val / c)) (band_le hd (idx2_lt0 i)) (ix2 ⟨(i 0).val % c, Nat.mod_lt _ hc⟩ (i 1))

theorem band_congr (G : (r : Nat) → r + c ≤ 1024 → Mat c d α) {r r' : Nat} (e : r = r') (h : r + c ≤ 1024) (h' : r' + c ≤ 1024)
    {x x' : (⟨2, ![c, d]⟩ : Shape).Idx} (e' : x = x') : G r h x = G r' h' x' := by subst e e'; rfl

/-- a row of a band -/
theorem glue_band (hc : 0 < c) (hd : c ∣ 1024) (G : (r : Nat) → r + c ≤ 1024 → Mat c d α) (r : Nat) (hr : c ∣ r) (h : r + c ≤ 1024)
    (i : (⟨2, ![1024, d]⟩ : Shape).Idx) (h0 : r ≤ (i 0).val) (h1 : (i 0).val < r + c) :
    glue c hc hd G i = G r h (ix2 ⟨(i 0).val - r, by omega⟩ (i 1)) := by
  obtain ⟨n, rfl⟩ := hr
  have hq : (i 0).val / c = n := Nat.div_eq_of_lt_le (by rw [Nat.mul_comm]; exact h0) (by rw [Nat.mul_comm, Nat.mul_add]; omega)
  refine band_congr G (by rw [hq]) _ _ ?_
  funext x
  match x with
  | ⟨0, _⟩ => exact Fin.ext (by show (i 0).val % c = (i 0).val - c * n; rw [← hq]; have := Nat.div_add_mod (i 0).val c; omega)
  | ⟨1, _⟩ => rfl

/-- the rows below `r` are `N`'s, the rest `O`'s -/
def mix (r : Nat) (N O : Mat 1024 d α) : Mat 1024 d α := fun i => if (i 0).val < r then N i else O i

theorem mix_zero (N O : Mat 1024 d α) : mix 0 N O = O := funext fun i => if_neg (Nat.not_lt_zero _)
theorem mix_all (N O : Mat 1024 d α) : mix 1024 N O = N := funext fun i => if_pos (idx2_lt0 i)

theorem rd2_mix_ge {r o k : Nat} {e : Nat} {h0 : o + c ≤ 1024} {h1 : k + e ≤ d} (N O : Mat 1024 d α) (h : r ≤ o) :
    rd2 c e o k h0 h1 (mix r N O) = rd2 c e o k h0 h1 O := by
  funext i
  rw [rd2_apply, rd2_apply]
  exact if_neg (by show ¬ (o + (i 0).val < r); omega)

theorem rd2_mix_lt {r o k : Nat} {e : Nat} {h0 : o + c ≤ 1024} {h1 : k + e ≤ d} (N O : Mat 1024 d α) (h : o + c ≤ r) :
    rd2 c e o k h0 h1 (mix r N O) = rd2 c e o k h0 h1 N := by
  funext i
  rw [rd2_apply, rd2_apply]
  exact if_pos (by show o + (i 0).val < r; have := idx2_lt0 i; omega)

theorem wr2_mix (hc : 0 < c) (hd : c ∣ 1024) (G : (r : Nat) → r + c ≤ 1024 → Mat c d α) (O : Mat 1024 d α) {r : Nat} (hr : c ∣ r)
    (h : r + c ≤ 1024) {h1 : 0 + d ≤ d} :
    wr2 c d r 0 h h1 (G r h) (mix r (glue c hc hd G) O) = mix (r + c) (glue c hc hd G) O := by
  funext i
  have hi1 := idx2_lt1 i
  by_cases hm : r ≤ (i 0).val ∧ (i 0).val < r + c
  · rw [wr2_of_mem _ _ _ ⟨hm, Nat.zero_le _, by omega⟩]
    refine Eq.trans ?_ (if_pos hm.2).symm
    exact (glue_band hc hd G r hr h i hm.1 hm.2).symm
  · rw [wr2_of_not_mem _ _ _ (fun hh => hm hh.1)]
    unfold mix
    by_cases hlt : (i 0).val < r
    · rw [if_pos hlt, if_pos (by omega)]
    · rw [if_neg hlt, if_neg (by omega)]

/-- both halves written -/
theorem wr2_halves (G : (r : Nat) → r + 512 ≤ 1024 → Mat 512 d α) (O : Mat 1024 d α) {h1 : 0 + d ≤ d} :
    wr2 512 d 512 0 (by decide) h1 (G 512 (by decide)) (wr2 512 d 0 0 (by decide) h1 (G 0 (by decide)) O)
      = glue 512 (by decide) ⟨2, rfl⟩ G := by
  rw [show wr2 512 d 0 0 (by decide) h1 (G 0 (by decide)) O = mix 512 (glue 512 (by decide) ⟨2, rfl⟩ G) O by
    rw [← wr2_mix (by decide) ⟨2, rfl⟩ G O ⟨0, rfl⟩ (by decide) (h1 := h1), mix_zero]]
  rw [wr2_mix (by decide) ⟨2, rfl⟩ G O ⟨1, rfl⟩ (by decide) (h1 := h1)]
  exact mix_all _ _

/-- a whole matrix written, or read -/
theorem wr2_whole (w X : Mat 1024 128 α) {h0 h1} : wr2 1024 128 0 0 h0 h1 w X = w := by
  funext i
  have hi0 := idx2_lt0 i
  have hi1 := idx2_lt1 i
  rw [wr2_of_mem _ _ _ ⟨⟨Nat.zero_le _, by omega⟩, Nat.zero_le _, by omega⟩]
  exact congrArg w (eq_ix2 i).symm

theorem rd2_whole (X : Mat 1024 128 α) {h0 h1} : rd2 1024 128 0 0 h0 h1 X = X := by
  funext i
  rw [rd2_apply]
  refine congrArg X (funext fun a => ?_)
  match a with
  | ⟨0, _⟩ => exact Fin.ext (Nat.zero_add _)
  | ⟨1, _⟩ => exact Fin.ext (Nat.zero_add _)

end Rows

variable {F : FTy → Type} [FloatOps F]

/-! ## The probabilities: 16 rows by 128 lanes at a time -/

section Prob
variable (W : Nat) (G : (r k : Nat) → r + 16 ≤ 1024 → k + 128 ≤ W → FVec F T2 .f32) (hWd : 128 ∣ W)

/-- the first `W` lanes are the tiles `G`; beyond them `O` -/
def tiles (O : FVec F S2 .bf16) : FVec F S2 .bf16 := fun i =>
  if h : (i 1).val < W then
    truncf .bf16 (G (16 * ((i 0).val / 16)) (128 * ((i 1).val / 128)) (by have := idx2_lt0 i; omega) (by obtain ⟨n, rfl⟩ := hWd; omega)) bitsLt
      (ix2 ⟨(i 0).val % 16, Nat.mod_lt _ (by decide)⟩ ⟨(i 1).val % 128, Nat.mod_lt _ (by decide)⟩)
  else O i

/-- rows below `r`, and lanes below `k` of the 16 next ones -/
def mixP (r k : Nat) (N O : FVec F S2 .bf16) : FVec F S2 .bf16 := fun i =>
  if (i 0).val < r ∨ ((i 0).val < r + 16 ∧ (i 1).val < k) then N i else O i

theorem tile_congr {r r' k k' : Nat} (e : r = r') (e' : k = k') (h : r + 16 ≤ 1024) (h' : r' + 16 ≤ 1024) (g : k + 128 ≤ W) (g' : k' + 128 ≤ W)
    {x x' : T2.Idx} (ex : x = x') : truncf .bf16 (G r k h g) bitsLt x = truncf .bf16 (G r' k' h' g') bitsLt x' := by subst e e' ex; rfl

theorem wP_mixP (O : FVec F S2 .bf16) {r k : Nat} (hr : 16 ∣ r) (hk : 128 ∣ k) (h0 : r + 16 ≤ 1024) (h1 : k + 128 ≤ W) {h1' : k + 128 ≤ 1024} :
    wP r k h0 h1' (G r k h0 h1) (mixP r k (tiles W G hWd O) O) = mixP r (k + 128) (tiles W G hWd O) O := by
  funext i
  by_cases hm : (r ≤ (i 0).val ∧ (i 0).val < r + 16) ∧ (k ≤ (i 1).val ∧ (i 1).val < k + 128)
  · refine (wr2_of_mem _ _ _ hm).trans ?_
    refine Eq.trans ?_ (if_pos (Or.inr ⟨hm.1.2, hm.2.2⟩)).symm
    unfold tiles
    rw [dif_pos (by omega)]
    obtain ⟨n, rfl⟩ := hr
    obtain ⟨n', rfl⟩ := hk
    refine tile_congr W G (by omega) (by omega) _ _ _ _ ?_
    funext x
    match x with
    | ⟨0, _⟩ => exact Fin.ext (by show (i 0).val - 16 * n = (i 0).val % 16; omega)
    | ⟨1, _⟩ => exact Fin.ext (by show (i 1).val - 128 * n' = (i 1).val % 128; omega)
  · refine (wr2_of_not_mem _ _ _ hm).trans ?_
    unfold mixP
    by_cases hc : (i 0).val < r ∨ ((i 0).val < r + 16 ∧ (i 1).val < k)
    · rw [if_pos hc, if_pos (by omega)]
    · rw [if_neg hc, if_neg (by omega)]

theorem mixP_next (hW : W ≤ 1024) (O : FVec F S2 .bf16) (r : Nat) : mixP r W (tiles W G hWd O) O = mix (r + 16) (tiles W G hWd O) O := by
  funext i
  unfold mixP mix
  by_cases h : (i 0).val < r + 16
  · rw [if_pos h]
    by_cases hk : (i 0).val < r ∨ ((i 0).val < r + 16 ∧ (i 1).val < W)
    · rw [if_pos hk]
    · rw [if_neg hk]
      unfold tiles
      rw [dif_neg (by omega)]
  · rw [if_neg h, if_neg (by omega)]

theorem mix_mixP (r : Nat) (N O : FVec F S2 .bf16) : mix r N O = mixP r 0 N O := by
  funext i
  unfold mixP mix
  by_cases h : (i 0).val < r
  · rw [if_pos h, if_pos (.inl h)]
  · rw [if_neg h, if_neg (by omega)]

end Prob

/-! ## The statistics -/

/-- the statistics after all rows, from the new maxima `U`, the sums `Su` and the probabilities `P` -/
def whole (U Su : (r : Nat) → r + 16 ≤ 1024 → FVec F T2 .f32) (P : FVec F S2 .bf16) (O : Stat F) : Stat F where
  m := glue 16 (by decide) ⟨64, rfl⟩ U
  l := glue 16 (by decide) ⟨64, rfl⟩ fun r h => addf (mulf (pT (mT O.m r h) (U r h)) (mT O.l r h)) (Su r h)
  al := glue 16 (by decide) ⟨64, rfl⟩ fun r h => pT (mT O.m r h) (U r h)
  p := P

def mixS (r : Nat) (N O : Stat F) : Stat F := ⟨mix r N.m O.m, mix r N.l O.l, mix r N.al O.al, mix r N.p O.p⟩

theorem mixS_zero (N O : Stat F) : mixS 0 N O = O := by unfold mixS; simp only [mix_zero]
theorem mixS_all (N O : Stat F) : mixS 1024 N O = N := by unfold mixS; simp only [mix_all]

theorem mT_mix (r : Nat) (h : r + 16 ≤ 1024) (N O : FVec F A2 .f32) : mT (mix r N O) r h = mT O r h := rd2_mix_ge N O (le_refl r)

theorem sts_mixS (U Su : (r : Nat) → r + 16 ≤ 1024 → FVec F T2 .f32) (P P' : FVec F S2 .bf16) (O : Stat F) (r : Nat) (hr : 16 ∣ r) (h : r + 16 ≤ 1024)
    (hP : P' = mix (r + 16) P O.p) :
    sts (U r h) (Su r h) r h P' (mixS r (whole U Su P O) O) = mixS (r + 16) (whole U Su P O) O := by
  unfold sts mixS
  simp only [mT_mix]
  congr 1
  · exact wr2_mix (by decide) ⟨64, rfl⟩ U O.m hr h (h1 := by decide)
  · exact wr2_mix (by decide) ⟨64, rfl⟩ (fun r h => addf (mulf (pT (mT O.m r h) (U r h)) (mT O.l r h)) (Su r h)) O.l hr h (h1 := by decide)
  · exact wr2_mix (by decide) ⟨64, rfl⟩ (fun r h => pT (mT O.m r h) (U r h)) O.al hr h (h1 := by decide)

/-- the statistics after a chunk -/
def new8 (S : FVec F S2 .f32) (O : Stat F) : Stat F :=
  whole (fun r h => ux8 S O.m r h) (fun r h => us8 S (ux8 S O.m r h) r h)
    (tiles 1024 (fun r k h0 h1 => pT (sT S r k h0 h1) (ux8 S O.m r h0)) ⟨8, rfl⟩ O.p) O

def new2 (S : FVec F X2 .f32) (O : Stat F) : Stat F :=
  whole (fun r h => ux2 S O.m r h) (fun r h => us2 S (ux2 S O.m r h) r h)
    (tiles 256 (fun r k h0 h1 => pT (sT S r k h0 h1) (ux2 S O.m r h0)) ⟨2, rfl⟩ O.p) O

theorem step8_mixS (S : FVec F S2 .f32) (O : Stat F) (r : Nat) (hr : 16 ∣ r) (h : r + 16 ≤ 1024) :
    step8 S r h (mixS r (new8 S O) O) = mixS (r + 16) (new8 S O) O := by
  have e : ux8 S (mixS r (new8 S O) O).m r h = ux8 S O.m r h := by
    unfold ux8; rw [show mT (mixS r (new8 S O) O).m r h = mT O.m r h from mT_mix r h _ _]
  unfold step8
  rw [e]
  refine sts_mixS (fun r h => ux8 S O.m r h) (fun r h => us8 S (ux8 S O.m r h) r h) _ _ O r hr h ?_
  let G : (r k : Nat) → r + 16 ≤ 1024 → k + 128 ≤ 1024 → FVec F T2 .f32 := fun r k h0 h1 => pT (sT S r k h0 h1) (ux8 S O.m r h0)
  have stp := fun k (hk : 128 ∣ k) (h1 : k + 128 ≤ 1024) => wP_mixP 1024 G ⟨8, rfl⟩ O.p hr hk h h1 (h1' := h1)
  show up8 S (ux8 S O.m r h) r h (mix r (tiles 1024 G ⟨8, rfl⟩ O.p) O.p) = _
  rw [mix_mixP]
  unfold up8
  rw [stp 0 ⟨0, rfl⟩ (by decide), stp 128 ⟨1, rfl⟩ (by decide), stp 256 ⟨2, rfl⟩ (by decide), stp 384 ⟨3, rfl⟩ (by decide),
    stp 512 ⟨4, rfl⟩ (by decide), stp 640 ⟨5, rfl⟩ (by decide), stp 768 ⟨6, rfl⟩ (by decide), stp 896 ⟨7, rfl⟩ (by decide)]
  exact mixP_next 1024 G ⟨8, rfl⟩ (le_refl _) O.p r

theorem step2_mixS (S : FVec F X2 .f32) (O : Stat F) (r : Nat) (hr : 16 ∣ r) (h : r + 16 ≤ 1024) :
    step2 S r h (mixS r (new2 S O) O) = mixS (r + 16) (new2 S O) O := by
  have e : ux2 S (mixS r (new2 S O) O).m r h = ux2 S O.m r h := by
    unfold ux2; rw [show mT (mixS r (new2 S O) O).m r h = mT O.m r h from mT_mix r h _ _]
  unfold step2
  rw [e]
  refine sts_mixS (fun r h => ux2 S O.m r h) (fun r h => us2 S (ux2 S O.m r h) r h) _ _ O r hr h ?_
  let G : (r k : Nat) → r + 16 ≤ 1024 → k + 128 ≤ 256 → FVec F T2 .f32 := fun r k h0 h1 => pT (sT S r k h0 h1) (ux2 S O.m r h0)
  have stp := fun k (hk : 128 ∣ k) (h1 : k + 128 ≤ 256) => wP_mixP 256 G ⟨2, rfl⟩ O.p hr hk h h1 (h1' := by omega)
  show up2 S (ux2 S O.m r h) r h (mix r (tiles 256 G ⟨2, rfl⟩ O.p) O.p) = _
  rw [mix_mixP]
  unfold up2
  rw [stp 0 ⟨0, rfl⟩ (by decide), stp 128 ⟨1, rfl⟩ (by decide)]
  exact mixP_next 256 G ⟨2, rfl⟩ (by decide) O.p r

theorem runs_mixS (f : (r : Nat) → r + 16 ≤ 1024 → Stat F → Stat F) (N O : Stat F)
    (hf : ∀ r, 16 ∣ r → ∀ h, f r h (mixS r N O) = mixS (r + 16) N O) (n : Nat) :
    ∀ (r : Nat) (_ : 16 ∣ r) (h : r + 16 * n ≤ 1024), runs f n r h (mixS r N O) = mixS (r + 16 * n) N O := by
  induction n with
  | zero => intro r _ h; rfl
  | succ n ih =>
    intro r hr h
    rw [show runs f (n + 1) r h (mixS r N O) = runs f n (r + 16) (row_next h) (f r (row_lt h) (mixS r N O)) from rfl, hf r hr,
      ih (r + 16) (by omega), show r + 16 * (n + 1) = r + 16 + 16 * n by omega]

theorem stat1_eq (S : FVec F S2 .f32) (O : Stat F) : stat1 S O = mixS 512 (new8 S O) O := by
  have h := runs_mixS (step8 S) (new8 S O) O (fun r hr h => step8_mixS S O r hr h) 32 0 ⟨0, rfl⟩ (by decide)
  rw [mixS_zero] at h
  exact h

theorem stat2_eq (S : FVec F S2 .f32) (O : Stat F) : stat2 S O = new8 S O := by
  have h := runs_mixS (step8 S) (new8 S O) O (fun r hr h => step8_mixS S O r hr h) 32 512 ⟨32, rfl⟩ (by decide)
  unfold stat2
  rw [stat1_eq, h]
  exact mixS_all _ _

theorem stat1c_eq (S : FVec F X2 .f32) (O : Stat F) : stat1c S O = mixS 512 (new2 S O) O := by
  have h := runs_mixS (step2 S) (new2 S O) O (fun r hr h => step2_mixS S O r hr h) 32 0 ⟨0, rfl⟩ (by decide)
  rw [mixS_zero] at h
  exact h

theorem stat2c_eq (S : FVec F X2 .f32) (O : Stat F) : stat2c S O = new2 S O := by
  have h := runs_mixS (step2 S) (new2 S O) O (fun r hr h => step2_mixS S O r hr h) 32 512 ⟨32, rfl⟩ (by decide)
  unfold stat2c
  rw [stat1c_eq, h]
  exact mixS_all _ _

/-! ## The accumulator and the scores -/

def hacc8 (al A : FVec F A2 .f32) (P : FVec F S2 .bf16) (v : FVec F A2 .bf16) (o : Nat) (h0 : o + 512 ≤ 1024) : FVec F H2 .f32 :=
  addf (mulf (rd2 512 128 o 0 h0 (by decide) A) (rd2 512 128 o 0 h0 (by decide) al))
    (matmul dPV none (rd2 512 1024 o 0 h0 (by decide) P) v (constant H2 .f32 0x00000000#32))

def hacc2 (al A : FVec F A2 .f32) (P : FVec F S2 .bf16) (v : FVec F C2 .bf16) (o : Nat) (h0 : o + 512 ≤ 1024) : FVec F H2 .f32 :=
  addf (mulf (rd2 512 128 o 0 h0 (by decide) A) (rd2 512 128 o 0 h0 (by decide) al))
    (matmul dPVc none (rd2 512 256 o 0 h0 (by decide) P) v (constant H2 .f32 0x00000000#32))

def newA8 (t : Stat F) (v : FVec F A2 .bf16) (A : FVec F A2 .f32) : FVec F A2 .f32 := glue 512 (by decide) ⟨2, rfl⟩ (hacc8 t.al A t.p v)
def newA2 (t : Stat F) (v : FVec F C2 .bf16) (A : FVec F A2 .f32) : FVec F A2 .f32 := glue 512 (by decide) ⟨2, rfl⟩ (hacc2 t.al A t.p v)

theorem rd2_wr2_other {α : Type} (w : Mat 512 128 α) (A : Mat 1024 128 α) {h0 h1 h2 h3} :
    rd2 512 128 512 0 h0 h1 (wr2 512 128 0 0 h2 h3 w A) = rd2 512 128 512 0 h0 h1 A := by
  funext i
  rw [rd2_apply, rd2_apply]
  exact wr2_of_not_mem _ _ _ (fun h => by have : 512 + (i 0).val < 0 + 512 := h.1.2; omega)

theorem chA_eq (S : FVec F S2 .f32) (t : Stat F) (v : FVec F A2 .bf16) (A : FVec F A2 .f32) : chA S t v A = newA8 (new8 S t) v A := by
  unfold chA newA8
  rw [stat2_eq, stat1_eq, ← wr2_halves (hacc8 (new8 S t).al A (new8 S t).p v) A (h1 := by decide)]
  unfold acc8 hacc8
  rw [rd2_wr2_other]
  congr 2
  rw [show rd2 512 128 0 0 (by decide) (by decide) (mixS 512 (new8 S t) t).al = rd2 512 128 0 0 (by decide) (by decide) (new8 S t).al from
      rd2_mix_lt _ _ (by decide),
    show rd2 512 1024 0 0 (by decide) (by decide) (mixS 512 (new8 S t) t).p = rd2 512 1024 0 0 (by decide) (by decide) (new8 S t).p from
      rd2_mix_lt _ _ (by decide)]

theorem chC_eq (S : FVec F X2 .f32) (t : Stat F) (v : FVec F C2 .bf16) (A : FVec F A2 .f32) : chC S t v A = newA2 (new2 S t) v A := by
  unfold chC newA2
  rw [stat2c_eq, stat1c_eq, ← wr2_halves (hacc2 (new2 S t).al A (new2 S t).p v) A (h1 := by decide)]
  unfold acc2 hacc2
  rw [rd2_wr2_other]
  congr 2
  rw [show rd2 512 128 0 0 (by decide) (by decide) (mixS 512 (new2 S t) t).al = rd2 512 128 0 0 (by decide) (by decide) (new2 S t).al from
      rd2_mix_lt _ _ (by decide),
    show rd2 512 256 0 0 (by decide) (by decide) (mixS 512 (new2 S t) t).p = rd2 512 256 0 0 (by decide) (by decide) (new2 S t).p from
      rd2_mix_lt _ _ (by decide)]

/-- the scores of a chunk -/
def sc8 (q k : FVec F A2 .bf16) : FVec F S2 .f32 := glue 512 (by decide) ⟨2, rfl⟩ fun o h0 =>
  matmul dQK none (rd2 512 128 o 0 h0 (by decide) q) k (constant HS .f32 0x00000000#32)
def sc2 (q : FVec F A2 .bf16) (k : FVec F C2 .bf16) : FVec F X2 .f32 := glue 512 (by decide) ⟨2, rfl⟩ fun o h0 =>
  matmul dQKc none (rd2 512 128 o 0 h0 (by decide) q) k (constant HX .f32 0x00000000#32)

theorem isL_eq (q k : FVec F A2 .bf16) (S : FVec F S2 .f32) : isL q k S = sc8 q k := by
  unfold sc8
  rw [← wr2_halves _ S (h1 := by decide)]
  rfl

theorem isC_eq (q : FVec F A2 .bf16) (k : FVec F C2 .bf16) (S : FVec F X2 .f32) : isC q k S = sc2 q k := by
  unfold sc2
  rw [← wr2_halves _ S (h1 := by decide)]
  rfl

/-! ## The queries and the output block -/

/-- the queries, one head's rows below the other's -/
def qmat (x : FVec F Q3 .bf16) : FVec F A2 .bf16 := glue 256 (by decide) ⟨4, rfl⟩ fun r h =>
  shapeCast C2 (rd (Rect.unit (s := Q3) ![0, 0, r / 2] C3.size (inbQ (r / 2) (by omega))) x) scC3

theorem qs_eq (x : FVec F Q3 .bf16) (q : FVec F A2 .bf16) : qs x q = qmat x := by
  unfold qmat
  let G : (r : Nat) → r + 256 ≤ 1024 → FVec F C2 .bf16 := fun r h =>
    shapeCast C2 (rd (Rect.unit (s := Q3) ![0, 0, r / 2] C3.size (inbQ (r / 2) (by omega))) x) scC3
  have stp := fun r (hr : 256 ∣ r) (h : r + 256 ≤ 1024) => wr2_mix (d := 128) (by decide) ⟨4, rfl⟩ G q hr h (h1 := by decide)
  show _ = glue 256 _ _ G
  have h0 : wQ x 0 0 (by decide) (by decide) q = mix 256 (glue 256 (by decide) ⟨4, rfl⟩ G) q :=
    (congrArg (wQ x 0 0 (by decide) (by decide)) (mix_zero (glue 256 (by decide) ⟨4, rfl⟩ G) q).symm).trans (stp 0 ⟨0, rfl⟩ (by decide))
  unfold qs
  rw [h0]
  refine (congrArg (fun y => wQ x 384 768 _ _ (wQ x 256 512 _ _ y)) (stp 256 ⟨1, rfl⟩ (by decide))).trans ?_
  refine (congrArg (fun y => wQ x 384 768 _ _ y) (stp 512 ⟨2, rfl⟩ (by decide))).trans ?_
  refine (stp 768 ⟨3, rfl⟩ (by decide)).trans ?_
  exact mix_all _ _

/-- a result's element in the output block: head `j / 128`'s rows go to its lanes -/
def yblk (w : FVec F A2 .f32) : FVec F Q3 .bf16 := fun i =>
  truncf .bf16 (F := F) (s := A2) w bitsLt (ix2 ⟨256 * ((i 2).val / 128) + (i 1).val, by
    have h1 : (i 1).val < 256 := (i 1).isLt
    have h2 : (i 2).val < 512 := (i 2).isLt
    omega⟩ ⟨(i 2).val % 128, Nat.mod_lt _ (by decide)⟩)

theorem wO_of_mem {k : Nat} {hk : k + 128 ≤ 512} (w : FVec F C2 .f32) (y : FVec F Q3 .bf16) (i : Q3.Idx) (h : k ≤ (i 2).val ∧ (i 2).val < k + 128) :
    wO k hk w y i = truncf .bf16 w bitsLt (ix2 (i 1) ⟨(i 2).val - k, by omega⟩) := by
  have h' : ∀ x : Fin 3, (![0, 0, k] : Fin 3 → Nat) x ≤ (i x).val ∧ (i x).val < (![0, 0, k] : Fin 3 → Nat) x + C3.size x := fun x =>
    match x with
    | ⟨0, _⟩ => ⟨Nat.zero_le _, (Nat.zero_add 1).symm ▸ (i 0).isLt⟩
    | ⟨1, _⟩ => ⟨Nat.zero_le _, (Nat.zero_add 256).symm ▸ (i 1).isLt⟩
    | ⟨2, _⟩ => h
  unfold wO wr
  rw [dif_pos h']
  rw [show (Rect.unitLocal (s := Q3) (off := ![0, 0, k]) (size := C3.size) i h' : C3.Idx) = ix3 (n0 := 1) (n1 := 256) (n2 := 128) (i 0) (i 1) ⟨(i 2).val - k, by omega⟩ by
    funext x
    match x with
    | ⟨0, _⟩ => rfl
    | ⟨1, _⟩ => rfl
    | ⟨2, _⟩ => rfl]
  exact shapeCast_ab_1ab_apply _ _ _ _ _

theorem wO_of_not_mem {k : Nat} {hk : k + 128 ≤ 512} (w : FVec F C2 .f32) (y : FVec F Q3 .bf16) (i : Q3.Idx) (h : ¬ (k ≤ (i 2).val ∧ (i 2).val < k + 128)) :
    wO k hk w y i = y i := by
  unfold wO wr
  rw [dif_neg fun hh => h (hh 2)]

theorem truncf_congr {s s' : Shape} (w : FVec F s .f32) (w' : FVec F s' .f32) (i : s.Idx) (j : s'.Idx) (h : w i = w' j) :
    truncf .bf16 w bitsLt i = truncf .bf16 w' bitsLt j := by
  simp only [truncf, h]

theorem wO_slice {k r : Nat} {hk : k + 128 ≤ 512} (w : FVec F A2 .f32) (y : FVec F Q3 .bf16) (hs : A2.Slices ![r, 0] C2) (i : Q3.Idx)
    (n : Nat) (hkn : k = 128 * n) (hrn : r = 256 * n) (h : k ≤ (i 2).val ∧ (i 2).val < k + 128) :
    wO k hk (extractStridedSlice C2 ![r, 0] w hs) y i = yblk w i := by
  rw [wO_of_mem _ _ _ h]
  unfold yblk
  refine truncf_congr _ _ _ _ (extractStridedSlice_apply _ _ _ _ _ fun a => ?_)
  match a with
  | ⟨0, _⟩ => show 256 * ((i 2).val / 128) + (i 1).val = r + (i 1).val; omega
  | ⟨1, _⟩ => show (i 2).val % 128 = 0 + ((i 2).val - k); omega

theorem ys_eq (w : FVec F A2 .f32) (y : FVec F Q3 .bf16) : ys w y = yblk w := by
  funext i
  have hi : (i 2).val < 512 := (i 2).isLt
  unfold ys
  by_cases h3 : 384 ≤ (i 2).val
  · exact wO_slice w _ _ i 3 rfl rfl ⟨h3, by omega⟩
  rw [wO_of_not_mem _ _ _ (by omega)]
  by_cases h2 : 256 ≤ (i 2).val
  · exact wO_slice w _ _ i 2 rfl rfl ⟨h2, by omega⟩
  rw [wO_of_not_mem _ _ _ (by omega)]
  by_cases h1 : 128 ≤ (i 2).val
  · exact wO_slice w _ _ i 1 rfl rfl ⟨h1, by omega⟩
  rw [wO_of_not_mem _ _ _ (by omega)]
  exact wO_slice w _ _ i 0 rfl rfl ⟨Nat.zero_le _, by omega⟩

/-! ## The whole block -/

/-- the statistics and the accumulator before the first chunk (the decay and the probabilities are whatever they were) -/
def init (t : Stat F) : Stat F := ⟨negInf, zeros, t.al, t.p⟩

/-- two chunks whose inputs agree up to the decay and the probabilities -/
structure Same (t t' : Stat F) : Prop where
  m : t.m = t'.m
  l : t.l = t'.l

theorem new8_same (S : FVec F S2 .f32) {t t' : Stat F} (h : Same t t') : new8 S t = new8 S t' := by
  obtain ⟨m, l, al, p⟩ := t
  obtain ⟨m', l', al', p'⟩ := t'
  obtain rfl : m = m' := h.m
  obtain rfl : l = l' := h.l
  unfold new8 whole
  congr 1
  funext i
  have hi := idx2_lt1 i
  unfold tiles
  rw [dif_pos hi, dif_pos hi]

/-- statistics and accumulator -/
structure TA (F : FTy → Type) where
  t : Stat F
  acc : FVec F A2 .f32

/-- one chunk of latents -/
def chunkF (q k v : FVec F A2 .bf16) (s : TA F) : TA F := ⟨new8 (sc8 q k) s.t, newA8 (new8 (sc8 q k) s.t) v s.acc⟩

/-- the context, and the output block -/
def endF (q : FVec F A2 .bf16) (k v : FVec F C2 .bf16) (s : TA F) : FVec F Q3 .bf16 :=
  yblk (quo (newA2 (new2 (sc2 q k) s.t) v s.acc) (new2 (sc2 q k) s.t).l)

def nil : Stat F := ⟨negInf, zeros, zeros, fun _ => Scalar.ofBits .bf16 0x0000#16⟩

variable (X : FVec F Q3 .bf16) (KC VC : FVec F C3 .bf16) (KL VL : FVec F L3 .bf16)

/-- the output block as a function of the blocks read -/
def outF : FVec F Q3 .bf16 :=
  let q := qmat X
  endF q (lC KC) (lC VC) <|
  chunkF q (lL KL ![0, 3072, 0] (inbL 3072 (by decide))) (lL VL ![0, 3072, 0] (inbL 3072 (by decide))) <|
  chunkF q (lL KL ![0, 2048, 0] (inbL 2048 (by decide))) (lL VL ![0, 2048, 0] (inbL 2048 (by decide))) <|
  chunkF q (lL KL ![0, 1024, 0] (inbL 1024 (by decide))) (lL VL ![0, 1024, 0] (inbL 1024 (by decide))) <|
  chunkF q (lL KL ![0, 0, 0] inb0) (lL VL ![0, 0, 0] inb0) ⟨nil, zeros⟩

theorem bodyY_eq (q : FVec F A2 .bf16) (t : Stat F) (A : FVec F A2 .f32) (s s' : FVec F S2 .f32) (sc : FVec F X2 .f32) (Y : FVec F Q3 .bf16) :
    bodyY X KC VC KL VL q t A s s' sc Y = outF X KC VC KL VL := by
  unfold bodyY endC carry3 carryL carry1 carry0 outF endF chunkF
  simp only [qs_eq, isL_eq, isC_eq, chA_eq, chC_eq, stat2_eq, stat2c_eq, ys_eq]
  unfold rF wF
  simp only [rd2_whole, wr2_whole]
  rw [new8_same (sc8 (qmat X) (lL KL ![0, 0, 0] inb0)) (t := ⟨negInf, zeros, t.al, t.p⟩) (t' := nil) ⟨rfl, rfl⟩]

end Gqa
-- ==== Proof.Gqa.Launch.lean ====
/-
  The launch: the body's triple at every grid point, the run, and the frame, over any values. At each point the output's staging buffer
  ends at `Gqa.outF` of the five input blocks.
-/
module

public import proofs.«01_k».proof.Proof.Gqa.Windows
public import proofs.«01_k».proof.Proof.Gqa.Eq
public import proofs.«01_k».proof.Proof.Gqa.Closed
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- the output block at point `t` -/
def oblk (c : Dev nD) (t : Fin cfg0.N) : FVec F Gqa.Q3 .bf16 :=
  Gqa.outF (iblk m c 0 t) (iblk m c 1 t) (iblk m c 2 t) (iblk m c 3 t) (iblk m c 4 t)

/-- the pipeline's proof data -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oblk m c t
  Φ _ := Pipeline.ΦA spec0 c
  q _ := fullShare
  owed _ := 0

theorem dats_A (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = oblk m c t := by dsimp only [dats]

/-! A window whose block the body only reads holds that block at every point, fetched there or still there from the point before. -/

theorem found0 (c : Dev nD) (t : Fin cfg0.N) (d) : (dats m 0 c).before 0 t d = iblk m c 0 t := by
  refine ((dats m 0 c).before_in_eq_fetched 0 rfl (fun _ => rfl) (fun _ _ _ => rfl) (fun u => ?_) t d).trans ?_
  · rw [left0]; unfold Dat.blockOf iblk; rw [dats_A]
  · unfold Dat.fetched Dat.blockOf iblk; rw [dats_A]; rfl
theorem found1 (c : Dev nD) (t : Fin cfg0.N) (d) : (dats m 0 c).before 1 t d = iblk m c 1 t := by
  refine ((dats m 0 c).before_in_eq_fetched 1 rfl (fun _ => rfl) (fun _ _ _ => rfl) (fun u => ?_) t d).trans ?_
  · rw [left1]; unfold Dat.blockOf iblk; rw [dats_A]
  · unfold Dat.fetched Dat.blockOf iblk; rw [dats_A]; rfl
theorem found2 (c : Dev nD) (t : Fin cfg0.N) (d) : (dats m 0 c).before 2 t d = iblk m c 2 t := by
  refine ((dats m 0 c).before_in_eq_fetched 2 rfl (fun _ => rfl) (fun _ _ _ => rfl) (fun u => ?_) t d).trans ?_
  · rw [left2]; unfold Dat.blockOf iblk; rw [dats_A]
  · unfold Dat.fetched Dat.blockOf iblk; rw [dats_A]; rfl
theorem found3 (c : Dev nD) (t : Fin cfg0.N) (d) : (dats m 0 c).before 3 t d = iblk m c 3 t := by
  refine ((dats m 0 c).before_in_eq_fetched 3 rfl (fun _ => rfl) (fun _ _ _ => rfl) (fun u => ?_) t d).trans ?_
  · rw [left3]; unfold Dat.blockOf iblk; rw [dats_A]
  · unfold Dat.fetched Dat.blockOf iblk; rw [dats_A]; rfl
theorem found4 (c : Dev nD) (t : Fin cfg0.N) (d) : (dats m 0 c).before 4 t d = iblk m c 4 t := by
  refine ((dats m 0 c).before_in_eq_fetched 4 rfl (fun _ => rfl) (fun _ _ _ => rfl) (fun u => ?_) t d).trans ?_
  · rw [left4]; unfold Dat.blockOf iblk; rw [dats_A]
  · unfold Dat.fetched Dat.blockOf iblk; rw [dats_A]; rfl

/-- what the body is called with -/
def entry (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- and what it returns -/
def exit (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t))

set_option maxHeartbeats 1600000 in
theorem point (c : Dev nD) (t : Fin cfg0.N) :
    entry m c t ⊢ wp frame (wpE (defs₀ (F := F)) Variants.none c none) Set.univ (bodyAt0 t) (fun _ => exit m c t) := by
  unfold entry exit bodyAt0
  rw [body_eq]
  simp only [found0, found1, found2, found3, found4]
  rw [show (dats m 0 c).Φ t.succ = (dats m 0 c).Φ t.castSucc from rfl,
    show (dats m 0 c).owesAt () t.succ = (dats m 0 c).owesAt () t.castSucc from rfl,
    left0, left1, left2, left3, left4, left5]
  rw [show (dats m 0 c).Φ t.castSucc = Pipeline.ΦA spec0 c from rfl, carried]
  unfold oblk
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩⟩, Hg⟩, Ho, ⟨%d0, H0⟩, ⟨%d1, H1⟩, ⟨%d2, H2⟩, ⟨%d3, H3⟩, ⟨%d4, H4⟩, ⟨%d5, H5⟩⟩
  iapply (Gqa.wp_body (t := ⟨e5, e6, e7, e4⟩) (A := e8) (S := e1) (S' := e2) (Sc := e3) (Y := (dats m 0 c).before 5 t d5)
    (X := iblk m c 0 t) (KC := iblk m c 1 t) (VC := iblk m c 2 t) (KL := iblk m c 3 t) (VL := iblk m c 4 t) (q0 := e0))
    $$ [H0 H1 H2 H3 H4 H5 HS0 HS1 HS2 HS3 HS4 HS5 HS6 HS7 HS8]
  · isplitl [H0]; · iexact H0
    isplitl [H1]; · iexact H1
    isplitl [H2]; · iexact H2
    isplitl [H3 H4 HS0]
    · unfold Gqa.heldI
      isplitl [H3]; · iexact H3
      isplitl [H4]; · iexact H4
      iexact HS0
    isplitl [H5]; · iexact H5
    isplitl [HS3]; · iexact HS3
    isplitl [HS4 HS5 HS6 HS7]
    · rw [Gqa.held_eq]
      isplitl [HS5]; · iexact HS5
      isplitl [HS6]; · iexact HS6
      isplitl [HS7]; · iexact HS7
      iexact HS4
    isplitl [HS8]; · iexact HS8
    isplitl [HS1]; · iexact HS1
    iexact HS2
  rw [Gqa.bodyY_eq]
  simp only [Gqa.heldC_eq, Gqa.held_eq]
  unfold Gqa.heldI
  iintro ⟨H0, H1, H2, ⟨H3, H4, HS0⟩, H5, ⟨%f3, HS3⟩, ⟨%C, HS2, ⟨HS5, HS6, HS7, HS4⟩, HS8, HS1⟩⟩
  isplitl [HS0 HS1 HS2 HS3 HS4 HS5 HS6 HS7 HS8 Hg]
  · isplitl [HS0 HS1 HS2 HS3 HS4 HS5 HS6 HS7 HS8]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      iexists _; iexact HS8
    iexact Hg
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
/-- every run ends with the arrays at what the pipeline leaves, and the counters at zero -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := main_runs m) (hA := dats_A m) (hΦ := fun _ _ => rfl)

/-- after the run an argument array is as launched -/
abbrev Kept (μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)

theorem kept_of_post {r : _} (h : Pipeline.FramePost cfgs (dats m) 0 (V m) r) (c : Dev nD) : Kept m r.2.mem c :=
  have free (b : Ref sig .tc) h1 h2 h3 := ((h c).2 b (Pipeline.mem_restRefs_of b h1 h2)).trans (arg_kept m c b h3)
  ⟨free main_arg0 (by decide) (by decide) (by decide), free main_arg1 (by decide) (by decide) (by decide),
    ((h c).1 4).trans (((dats m 0 c).arrAt_in 4 rfl _).trans ((dats_A m c 4).trans (arg_kept m c main_arg2 (by decide)))),
    free main_arg3 (by decide) (by decide) (by decide),
    ((h c).1 2).trans (((dats m 0 c).arrAt_in 2 rfl _).trans ((dats_A m c 2).trans (arg_kept m c main_arg4 (by decide))))⟩

theorem args_kept : θ_run defs (onTc (τ := τ) (main (F := F))) ⟨m, fun _ => 0, ρ⟩ (fun r => (∀ c : Dev nD, Kept m r.2.mem c) ∧ r.2.sem = fun _ => 0) :=
  (θ_run defs _ _).mono (fun _ h => ⟨kept_of_post m h.1, h.2⟩) (run_quiescent m ρ)

/-- the run with the result array named -/
theorem run_named (G : (c : Dev nD) → Buf (Elt F) ((c.tc : Thread nD τ).loc main_v12)) (hG : ∀ c, (dats m 0 c).arrAt 5 cfg0.N = G c) :
    θ_run defs (onTc (τ := τ) (main (F := F))) ⟨m, fun _ => 0, ρ⟩ (fun r => ∀ c : Dev nD,
      r.2.mem ((c.tc : Thread nD τ).loc main_v12) = G c ∧ Kept m r.2.mem c) :=
  (θ_run defs _ _).mono (fun _ h c => ⟨((h.1 c).1 5).trans (hG c), kept_of_post m h.1 c⟩) (run_quiescent m ρ)

end Cert.KernelIdeal.Attn

end
-- ==== Proof.Gqa.Soft.lean ====
/-
  The softmax over the extended reals, one chunk of scores at a time: what the running maximum, the lane sums and the accumulator of one
  row stand for, and the quotient at the end.  The scores are real; the values may be infinite.
-/
module

public import Idealize.ShloMosaic.PureOps.Ideal.Laws

@[expose] public section

noncomputable section

namespace Gqa

open Idealize.ShloMosaic

/-- a real number -/
def IsReal (x : EReal) : Prop := ∃ r : ℝ, x = r

theorem IsReal.coe (r : ℝ) : IsReal r := ⟨r, rfl⟩
theorem IsReal.zero : IsReal 0 := ⟨0, rfl⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.max {x y : EReal} (hx : IsReal x) (hy : IsReal y) : IsReal (max x y) := by
  rcases max_choice x y with h | h <;> rw [h] <;> assumption
theorem IsReal.bot_max {x y : EReal} (hx : x = ⊥ ∨ IsReal x) (hy : IsReal y) : IsReal (Max.max x y) := by
  rcases hx with rfl | hx
  · rw [max_eq_right bot_le]; exact hy
  · exact hx.max hy
theorem IsReal.sum {ι : Type} (s : Finset ι) {f : ι → EReal} (h : ∀ i, IsReal (f i)) : IsReal (∑ i ∈ s, f i) := by
  classical
  induction s using Finset.induction_on with
  | empty => exact ⟨0, rfl⟩
  | insert a s ha ih => rw [Finset.sum_insert ha]; exact (h a).add ih

theorem IsReal.fold_max {ι : Type} (s : Finset ι) (hs : s.Nonempty) {f : ι → EReal} (h : ∀ i, IsReal (f i)) :
    IsReal (s.fold Max.max ⊥ f) := by
  classical
  induction hs using Finset.Nonempty.cons_induction with
  | singleton a => rw [Finset.fold_singleton, max_eq_left bot_le]; exact h a
  | cons a s ha hs ih => rw [Finset.fold_cons]; exact (h a).max ih

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem real_mul_add {r : ℝ} (hr : 0 ≤ r) (x y : EReal) : (r : EReal) * (x + y) = r * x + r * y :=
  EReal.left_distrib_of_nonneg_of_ne_top (EReal.coe_nonneg.mpr hr) (EReal.coe_ne_top r) x y

/-- a nonnegative real factor goes into a sum -/
theorem real_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, real_mul_add hr, ih]

/-- `2ˣ` -/
abbrev e2 (x : ℝ) : ℝ := (2 : ℝ) ^ x

theorem e2_pos (x : ℝ) : 0 < e2 x := Real.rpow_pos_of_pos (by norm_num) x
theorem e2_add (x y : ℝ) : e2 (x + y) = e2 x * e2 y := Real.rpow_add (by norm_num) x y

theorem exp2_real (x : ℝ) : Ideal.exp2 (x : EReal) = (e2 x : ℝ) := rfl

theorem exp2_diff (x y : ℝ) : Ideal.exp2 ((x : EReal) - (y : EReal)) = ((e2 (-y) * e2 x : ℝ) : EReal) := by
  rw [← EReal.coe_sub, exp2_real, ← e2_add]; congr 2; ring

/-- What the running maximum `m`, the lane sums `l` and the accumulator `acc` of a row stand for: the sum `B` of the values weighted by
`2 ^ score` and the lane sums `L` of the weights, all scaled by `2 ^ (-m)`. -/
def Inv (B : EReal) (L : Fin 128 → ℝ) (m : EReal) (l : Fin 128 → EReal) (acc : EReal) : Prop :=
  (m = ⊥ ∧ (∀ x, l x = 0) ∧ acc = 0 ∧ B = 0 ∧ ∀ x, L x = 0) ∨
  ∃ M : ℝ, m = M ∧ (∀ x, l x = ((e2 (-M) * L x : ℝ) : EReal)) ∧ acc = ((e2 (-M) : ℝ) : EReal) * B

theorem Inv.m_real {B L m l acc} (h : Inv B L m l acc) : m = ⊥ ∨ IsReal m := by
  rcases h with h | ⟨M, h, _⟩
  · exact .inl h.1
  · exact .inr ⟨M, h⟩

theorem Inv.start : Inv 0 (fun _ => 0) ⊥ (fun _ => 0) 0 := .inl ⟨rfl, fun _ => rfl, rfl, rfl, fun _ => rfl⟩

/-- one chunk: `s` the scores, `v` the values, `m'` the new maximum, `g x` the positions in lane `x` -/
theorem Inv.step {ι κ : Type} [Fintype ι] [Fintype κ] {B : EReal} {L : Fin 128 → ℝ} {m : EReal} {l : Fin 128 → EReal} {acc : EReal}
    (h : Inv B L m l acc) (s : ι → ℝ) (v : ι → EReal) (g : Fin 128 → κ → ι) {m' : EReal} (hm : IsReal m') {l' : Fin 128 → EReal} {acc' : EReal}
    (hl : ∀ x, l' x = Ideal.exp2 (m - m') * l x + ∑ b, Ideal.exp2 (s (g x b) - m'))
    (ha : acc' = acc * Ideal.exp2 (m - m') + ∑ j, Ideal.exp2 (s j - m') * v j) :
    Inv (B + ∑ j, ((e2 (s j) : ℝ) : EReal) * v j) (fun x => L x + ∑ b, e2 (s (g x b))) m' l' acc' := by
  obtain ⟨M', rfl⟩ := hm
  refine .inr ⟨M', rfl, fun x => ?_, ?_⟩
  · rw [hl]
    show _ = ((e2 (-M') * (L x + ∑ b, e2 (s (g x b))) : ℝ) : EReal)
    have hs : ∑ b, Ideal.exp2 ((s (g x b) : EReal) - (M' : EReal)) = ((e2 (-M') * ∑ b, e2 (s (g x b)) : ℝ) : EReal) := by
      rw [Finset.mul_sum, coe_sum]
      exact Finset.sum_congr rfl fun b _ => exp2_diff _ _
    rw [hs]
    rcases h with ⟨rfl, h1, _, _, h2⟩ | ⟨M, rfl, h1, _⟩
    · rw [h1, h2, mul_zero, zero_add, zero_add]
    · rw [h1, exp2_diff, ← EReal.coe_mul, ← EReal.coe_add]
      congr 1
      have : e2 M * e2 (-M) = 1 := by rw [← e2_add]; simp [e2]
      calc e2 (-M') * e2 M * (e2 (-M) * L x) + e2 (-M') * ∑ b, e2 (s (g x b))
          = e2 (-M') * ((e2 M * e2 (-M)) * L x + ∑ b, e2 (s (g x b))) := by ring
        _ = _ := by rw [this, one_mul]
  · rw [ha]
    have hs : ∑ j, Ideal.exp2 ((s j : EReal) - (M' : EReal)) * v j = ((e2 (-M') : ℝ) : EReal) * ∑ j, ((e2 (s j) : ℝ) : EReal) * v j := by
      rw [real_mul_sum _ (e2_pos _).le]
      refine Finset.sum_congr rfl fun j _ => ?_
      rw [exp2_diff, EReal.coe_mul, mul_assoc]
    rw [hs, real_mul_add (e2_pos _).le]
    congr 1
    rcases h with ⟨rfl, _, rfl, rfl, _⟩ | ⟨M, rfl, _, rfl⟩
    · rw [zero_mul, mul_zero]
    · rw [exp2_diff, mul_comm, ← mul_assoc, ← EReal.coe_mul]
      congr 2
      rw [mul_assoc, ← e2_add]
      simp [e2]

/-- the quotient by a positive real -/
theorem div_pos_real (x : EReal) {r : ℝ} (hr : 0 < r) : Ideal.div x r = ((r⁻¹ : ℝ) : EReal) * x := by
  unfold Ideal.div
  rw [if_neg (by exact_mod_cast hr.ne'), mul_comm, EReal.coe_inv]

theorem Inv.quotient {B : EReal} {L : Fin 128 → ℝ} {m : EReal} {l : Fin 128 → EReal} {acc : EReal} (h : Inv B L m l acc) (hm : m ≠ ⊥)
    (hL : 0 < ∑ x, L x) : Ideal.div acc (∑ x, l x) = (((∑ x, L x)⁻¹ : ℝ) : EReal) * B := by
  rcases h with h | ⟨M, rfl, h1, rfl⟩
  · exact absurd h.1 hm
  · rw [show ∑ x, l x = ((e2 (-M) * ∑ x, L x : ℝ) : EReal) by
      rw [Finset.mul_sum, coe_sum]; exact Finset.sum_congr rfl fun x _ => h1 x]
    rw [div_pos_real _ (mul_pos (e2_pos _) hL), ← mul_assoc, ← EReal.coe_mul]
    congr 2
    have := (e2_pos (-M)).ne'
    have := hL.ne'
    field_simp

/-- the softmax as the reference spells it -/
theorem soft_quotient {ι : Type} [Fintype ι] [Nonempty ι] (w : ι → ℝ) (hw : ∀ j, 0 < w j) (κ : ℝ) (hκ : 0 < κ) (v : ι → EReal) :
    ∑ j, Ideal.div ((κ * w j : ℝ) : EReal) ((∑ j, κ * w j : ℝ) : EReal) * v j = (((∑ j, w j)⁻¹ : ℝ) : EReal) * ∑ j, ((w j : ℝ) : EReal) * v j := by
  have hW : 0 < ∑ j, w j := Finset.sum_pos (fun j _ => hw j) Finset.univ_nonempty
  rw [real_mul_sum _ (inv_pos.mpr hW).le]
  refine Finset.sum_congr rfl fun j _ => ?_
  rw [← Finset.mul_sum, div_pos_real _ (mul_pos hκ hW), ← EReal.coe_mul, ← mul_assoc (((∑ j, w j)⁻¹ : ℝ) : EReal), ← EReal.coe_mul]
  congr 2
  have := hW.ne'
  field_simp

end Gqa
-- ==== Proof.Gqa.Row.lean ====
/-
  The closed forms read at one row, over the extended reals.
-/
module

public import proofs.«01_k».proof.Proof.Gqa.Closed
public import proofs.«01_k».proof.Proof.Gqa.Soft
public import Idealize.ShloMosaic.Lib.ValueLayoutCasts
public import Idealize.ShloMosaic.Lib.Pipeline.Value
public import Idealize.ShloMosaic.Lib.Pointwise.Contract

@[expose] public section

noncomputable section

namespace Gqa

open Idealize.ShloMosaic hiding ix1 ix2 ix3
open Idealize.ShloMosaic.ValueIdx

theorem negInf_val : (FloatOps.ofBits (F := Ideal) .f32 0xFF800000#32 : EReal) = ⊥ := by
  show Ideal.ofBits .f32 0xFF800000#32 = ⊥
  simp [Ideal.ofBits, Ideal.ieee]

theorem rd2_band {α : Type} {c a b d k : Nat} (hc : 0 < c) (r : Fin a) {h0 : c * (r.val / c) + c ≤ a} {h1 : k + d ≤ b} (X : Mat a b α) (x : Fin d) :
    rd2 c d (c * (r.val / c)) k h0 h1 X (ix2 ⟨r.val % c, Nat.mod_lt _ hc⟩ x) = X (ix2 r ⟨k + x.val, by omega⟩) := by
  rw [rd2_apply]
  refine congrArg X (funext fun y => ?_)
  match y with
  | ⟨0, _⟩ => exact Fin.ext (Nat.div_add_mod r.val c)
  | ⟨1, _⟩ => rfl

theorem glue_ix2 {α : Type} {c d : Nat} (hc : 0 < c) (hd : c ∣ 1024) (G : (r : Nat) → r + c ≤ 1024 → Mat c d α) (r : Fin 1024) (x : Fin d) :
    glue c hc hd G (ix2 r x) = G (c * (r.val / c)) (band_le hd r.isLt) (ix2 ⟨r.val % c, Nat.mod_lt _ hc⟩ x) := rfl

/-! ## Products -/

theorem dQK_apply (q : FVec Ideal H2 .bf16) (k : FVec Ideal A2 .bf16) (i : Fin 512) (j : Fin 1024) :
    matmul dQK none q k (constant HS .f32 0x00000000#32) (ix2 i j) = ∑ e : Fin 128, q (ix2 i e) * k (ix2 j e) := by
  simp only [matmul]
  rw [Ideal.matmul_constant_zero_apply, DotDims.sum_contr₁ dQK (a := 1) rfl (K := 128) rfl]
  refine Finset.sum_congr rfl fun e _ => ?_
  congr 2
  · funext y
    match y with
    | ⟨0, _⟩ => rfl
    | ⟨1, _⟩ => rfl
  · funext y
    match y with
    | ⟨0, _⟩ => rfl
    | ⟨1, _⟩ => rfl

theorem dQKc_apply (q : FVec Ideal H2 .bf16) (k : FVec Ideal C2 .bf16) (i : Fin 512) (j : Fin 256) :
    matmul dQKc none q k (constant HX .f32 0x00000000#32) (ix2 i j) = ∑ e : Fin 128, q (ix2 i e) * k (ix2 j e) := by
  simp only [matmul]
  rw [Ideal.matmul_constant_zero_apply, DotDims.sum_contr₁ dQKc (a := 1) rfl (K := 128) rfl]
  refine Finset.sum_congr rfl fun e _ => ?_
  congr 2
  · funext y
    match y with
    | ⟨0, _⟩ => rfl
    | ⟨1, _⟩ => rfl
  · funext y
    match y with
    | ⟨0, _⟩ => rfl
    | ⟨1, _⟩ => rfl

theorem dPV_apply (p : FVec Ideal HS .bf16) (v : FVec Ideal A2 .bf16) (i : Fin 512) (d : Fin 128) :
    matmul dPV none p v (constant H2 .f32 0x00000000#32) (ix2 i d) = ∑ j : Fin 1024, p (ix2 i j) * v (ix2 j d) := by
  simp only [matmul]
  rw [Ideal.matmul_constant_zero_apply, DotDims.sum_contr₁ dPV (a := 1) rfl (K := 1024) rfl]
  refine Finset.sum_congr rfl fun e _ => ?_
  congr 2
  · funext y
    match y with
    | ⟨0, _⟩ => rfl
    | ⟨1, _⟩ => rfl
  · funext y
    match y with
    | ⟨0, _⟩ => rfl
    | ⟨1, _⟩ => rfl

theorem dPVc_apply (p : FVec Ideal HX .bf16) (v : FVec Ideal C2 .bf16) (i : Fin 512) (d : Fin 128) :
    matmul dPVc none p v (constant H2 .f32 0x00000000#32) (ix2 i d) = ∑ j : Fin 256, p (ix2 i j) * v (ix2 j d) := by
  simp only [matmul]
  rw [Ideal.matmul_constant_zero_apply, DotDims.sum_contr₁ dPVc (a := 1) rfl (K := 256) rfl]
  refine Finset.sum_congr rfl fun e _ => ?_
  congr 2
  · funext y
    match y with
    | ⟨0, _⟩ => rfl
    | ⟨1, _⟩ => rfl
  · funext y
    match y with
    | ⟨0, _⟩ => rfl
    | ⟨1, _⟩ => rfl

theorem sc8_apply (q k : FVec Ideal A2 .bf16) (r j : Fin 1024) : sc8 q k (ix2 r j) = ∑ e : Fin 128, q (ix2 r e) * k (ix2 j e) := by
  unfold sc8
  rw [glue_ix2, dQK_apply]
  refine Finset.sum_congr rfl fun e _ => ?_
  rw [rd2_band (by decide)]
  congr 3
  exact Fin.ext (Nat.zero_add _)

theorem sc2_apply (q : FVec Ideal A2 .bf16) (k : FVec Ideal C2 .bf16) (r : Fin 1024) (j : Fin 256) :
    sc2 q k (ix2 r j) = ∑ e : Fin 128, q (ix2 r e) * k (ix2 j e) := by
  unfold sc2
  rw [glue_ix2, dQKc_apply]
  refine Finset.sum_congr rfl fun e _ => ?_
  rw [rd2_band (by decide)]
  congr 3
  exact Fin.ext (Nat.zero_add _)

/-! ## The statistics of a row -/

theorem redT_lift (i : Fin 16) (k : Fin 128) : redT.lift (ix1 i) k = ix2 i k := by
  funext y
  match y with
  | ⟨0, _⟩ => rfl
  | ⟨1, _⟩ => rfl

theorem newMax_apply (m v : FVec Ideal T2 .f32) (i : Fin 16) (x : Fin 128) :
    newMax m v (ix2 i x) = max (m (ix2 i x)) ((Finset.univ : Finset (Fin 128)).fold max ⊥ fun k => v (ix2 i k)) := by
  unfold newMax
  show max (m (ix2 i x)) _ = _
  congr 1
  rw [broadcastTo_apply _ _ _ (ix2 i (0 : Fin 1)) (fun a => by
    match a with
    | ⟨0, _⟩ => rfl
    | ⟨1, _⟩ => rfl)]
  rw [shapeCast_a_a1_apply]
  refine (Ideal.multiReduction_maximumf_single v _ redT _ _ (ix1 i)).trans ?_
  rw [negInf_val]
  exact congrArg (fun f => (Finset.univ : Finset (Fin 128)).fold max ⊥ f) (funext fun k => congrArg v (redT_lift i k))

/-- the statistics and the accumulator of row `r`, lane `d`, stand for the weighted sum `B` and the lane sums `L` -/
def RowInv (r : Fin 1024) (d : Fin 128) (B : EReal) (L : Fin 128 → ℝ) (s : TA Ideal) : Prop :=
  ∃ m, (∀ x, s.t.m (ix2 r x) = m) ∧ Inv B L m (fun x => s.t.l (ix2 r x)) (s.acc (ix2 r d))

theorem tiles_apply (W : Nat) (G : (r k : Nat) → r + 16 ≤ 1024 → k + 128 ≤ W → FVec Ideal T2 .f32) (hWd : 128 ∣ W) (O : FVec Ideal S2 .bf16)
    (r j : Fin 1024) (hj : j.val < W) :
    tiles W G hWd O (ix2 r j) = G (16 * (r.val / 16)) (128 * (j.val / 128)) (by omega) (by obtain ⟨n, rfl⟩ := hWd; omega)
      (ix2 ⟨r.val % 16, Nat.mod_lt _ (by decide)⟩ ⟨j.val % 128, Nat.mod_lt _ (by decide)⟩) := by
  unfold tiles
  rw [dif_pos hj]
  rfl

/-- the position in the `b`-th tile of lanes, at lane `x` -/
def at8 (x : Fin 128) (b : Fin 8) : Fin 1024 := ⟨128 * b.val + x.val, by omega⟩
def at2 (x : Fin 128) (b : Fin 2) : Fin 256 := ⟨128 * b.val + x.val, by omega⟩

theorem rd2_tile {b : Nat} (S : FVec Ideal (⟨2, ![1024, b]⟩ : Shape) .f32) (r : Fin 1024) (k : Nat) (h0 : 16 * (r.val / 16) + 16 ≤ 1024) (h1 : k + 128 ≤ b) (x : Fin 128) :
    sT S (16 * (r.val / 16)) k h0 h1 (ix2 ⟨r.val % 16, Nat.mod_lt _ (by decide)⟩ x) = S (ix2 r ⟨k + x.val, by omega⟩) :=
  rd2_band (by decide) r S x

theorem rd2_stat (M : FVec Ideal A2 .f32) (r : Fin 1024) (h0 : 16 * (r.val / 16) + 16 ≤ 1024) (x : Fin 128) :
    mT M (16 * (r.val / 16)) h0 (ix2 ⟨r.val % 16, Nat.mod_lt _ (by decide)⟩ x) = M (ix2 r x) := by
  refine (rd2_band (by decide) r M x).trans ?_
  congr 2
  exact Fin.ext (Nat.zero_add _)

theorem pT_apply (v mx : FVec Ideal T2 .f32) (i : T2.Idx) : pT v mx i = Ideal.exp2 (v i - mx i) := rfl

section Chunk8
variable (S : FVec Ideal S2 .f32) (O : Stat Ideal) (r : Fin 1024)

def top8 (S : FVec Ideal S2 .f32) (r : Nat) (h0 : r + 16 ≤ 1024) : FVec Ideal T2 .f32 :=
  maximumf (maximumf (maximumf (maximumf (maximumf (maximumf (maximumf (sT S r 0 h0 (by decide)) (sT S r 128 h0 (by decide)))
    (sT S r 256 h0 (by decide))) (sT S r 384 h0 (by decide))) (sT S r 512 h0 (by decide))) (sT S r 640 h0 (by decide)))
    (sT S r 768 h0 (by decide))) (sT S r 896 h0 (by decide))
theorem ux8_eq (M : FVec Ideal A2 .f32) (r : Nat) (h0 : r + 16 ≤ 1024) : ux8 S M r h0 = newMax (mT M r h0) (top8 S r h0) := rfl
theorem new8_m_eq : (new8 S O).m = glue 16 (by decide) ⟨64, rfl⟩ fun r h => ux8 S O.m r h := rfl
theorem new8_al_eq : (new8 S O).al = glue 16 (by decide) ⟨64, rfl⟩ fun r h => pT (mT O.m r h) (ux8 S O.m r h) := rfl
theorem new8_l_eq : (new8 S O).l = glue 16 (by decide) ⟨64, rfl⟩ fun r h =>
    addf (mulf (pT (mT O.m r h) (ux8 S O.m r h)) (mT O.l r h)) (us8 S (ux8 S O.m r h) r h) := rfl
theorem new8_p_eq : (new8 S O).p = tiles 1024 (fun r k h0 h1 => pT (sT S r k h0 h1) (ux8 S O.m r h0)) ⟨8, rfl⟩ O.p := rfl

theorem new8_m {m : EReal} (hm : ∀ x, O.m (ix2 r x) = m) (hS : ∀ j, IsReal (S (ix2 r j))) (hm' : m = ⊥ ∨ IsReal m) :
    ∃ m', IsReal m' ∧ ∀ x, (new8 S O).m (ix2 r x) = m' := by
  have e : ∀ x, (new8 S O).m (ix2 r x) = max (O.m (ix2 r x)) ((Finset.univ : Finset (Fin 128)).fold max ⊥ fun k => top8 S (16 * (r.val / 16)) (band_le ⟨64, rfl⟩ r.isLt) (ix2 ⟨r.val % 16, Nat.mod_lt _ (by decide)⟩ k)) := fun x => by
    rw [new8_m_eq, glue_ix2, ux8_eq, newMax_apply, rd2_stat]
  refine ⟨_, ?_, fun x => (e x).trans (by rw [hm x])⟩
  refine IsReal.bot_max hm' (IsReal.fold_max _ ⟨0, Finset.mem_univ _⟩ fun k => ?_)
  have h : ∀ {k' : Nat} {h1 : k' + 128 ≤ 1024}, IsReal (sT S (16 * (r.val / 16)) k' (band_le ⟨64, rfl⟩ r.isLt) h1 (ix2 ⟨r.val % 16, Nat.mod_lt _ (by decide)⟩ k)) := by
    intro k' h1
    rw [rd2_tile]
    exact hS _
  exact (((((((h.max h).max h).max h).max h).max h).max h).max h)

theorem new8_al (x : Fin 128) : (new8 S O).al (ix2 r x) = Ideal.exp2 (O.m (ix2 r x) - (new8 S O).m (ix2 r x)) := by
  rw [new8_al_eq, new8_m_eq, glue_ix2, glue_ix2, pT_apply, rd2_stat]

theorem new8_l (x : Fin 128) : (new8 S O).l (ix2 r x) = Ideal.exp2 (O.m (ix2 r x) - (new8 S O).m (ix2 r x)) * O.l (ix2 r x)
    + ∑ b : Fin 8, Ideal.exp2 (S (ix2 r (at8 x b)) - (new8 S O).m (ix2 r x)) := by
  rw [new8_l_eq, new8_m_eq]
  simp only [glue_ix2]
  rw [Fin.sum_univ_eight]
  show Ideal.exp2 (mT O.m _ _ _ - _) * mT O.l _ _ _ + (Ideal.exp2 (sT S _ 0 _ _ _ - _) + Ideal.exp2 (sT S _ 128 _ _ _ - _) + Ideal.exp2 (sT S _ 256 _ _ _ - _)
    + Ideal.exp2 (sT S _ 384 _ _ _ - _) + Ideal.exp2 (sT S _ 512 _ _ _ - _) + Ideal.exp2 (sT S _ 640 _ _ _ - _) + Ideal.exp2 (sT S _ 768 _ _ _ - _)
    + Ideal.exp2 (sT S _ 896 _ _ _ - _)) = _
  simp only [rd2_stat]
  simp only [rd2_tile]
  rfl

theorem new8_p (j : Fin 1024) : (new8 S O).p (ix2 r j) = Ideal.exp2 (S (ix2 r j) - (new8 S O).m (ix2 r ⟨j.val % 128, Nat.mod_lt _ (by decide)⟩)) := by
  rw [new8_p_eq, new8_m_eq, tiles_apply _ _ _ _ _ _ j.isLt, glue_ix2, pT_apply, rd2_tile]
  congr 4
  exact Fin.ext (Nat.div_add_mod j.val 128)

theorem newA8_apply (t : Stat Ideal) (v : FVec Ideal A2 .bf16) (A : FVec Ideal A2 .f32) (d : Fin 128) :
    newA8 t v A (ix2 r d) = A (ix2 r d) * t.al (ix2 r d) + ∑ j : Fin 1024, t.p (ix2 r j) * v (ix2 j d) := by
  unfold newA8
  rw [glue_ix2]
  unfold hacc8
  show rd2 512 128 _ 0 _ _ A _ * rd2 512 128 _ 0 _ _ t.al _ + matmul dPV none _ v _ _ = _
  rw [dPV_apply, rd2_band (by decide), rd2_band (by decide)]
  congr 1
  · congr 1 <;> · congr 2; exact Fin.ext (Nat.zero_add _)
  · refine Finset.sum_congr rfl fun j _ => ?_
    rw [rd2_band (by decide)]
    congr 3
    exact Fin.ext (Nat.zero_add _)

end Chunk8

theorem chunk_inv {q k v : FVec Ideal A2 .bf16} {s : TA Ideal} {r : Fin 1024} {d : Fin 128} {B : EReal} {L : Fin 128 → ℝ} (h : RowInv r d B L s)
    {σ : Fin 1024 → ℝ} (hσ : ∀ j, sc8 q k (ix2 r j) = σ j) :
    RowInv r d (B + ∑ j, ((e2 (σ j) : ℝ) : EReal) * v (ix2 j d)) (fun x => L x + ∑ b, e2 (σ (at8 x b))) (chunkF q k v s) := by
  obtain ⟨m, hm, hI⟩ := h
  obtain ⟨m', hm', hx⟩ := new8_m (sc8 q k) s.t r hm (fun j => ⟨_, hσ j⟩) hI.m_real
  refine ⟨m', hx, hI.step σ (fun j => v (ix2 j d)) at8 hm' (fun x => ?_) ?_⟩
  · show (new8 (sc8 q k) s.t).l (ix2 r x) = _
    rw [new8_l, hx, hm]
    simp only [hσ]
  · show newA8 (new8 (sc8 q k) s.t) v s.acc (ix2 r d) = _
    rw [newA8_apply, new8_al, hx, hm]
    simp only [new8_p, hx, hσ]

section Chunk2
variable (S : FVec Ideal X2 .f32) (O : Stat Ideal) (r : Fin 1024)

def top2 (S : FVec Ideal X2 .f32) (r : Nat) (h0 : r + 16 ≤ 1024) : FVec Ideal T2 .f32 :=
  maximumf (sT S r 0 h0 (by decide)) (sT S r 128 h0 (by decide))
theorem ux2_eq (M : FVec Ideal A2 .f32) (r : Nat) (h0 : r + 16 ≤ 1024) : ux2 S M r h0 = newMax (mT M r h0) (top2 S r h0) := rfl
theorem new2_m_eq : (new2 S O).m = glue 16 (by decide) ⟨64, rfl⟩ fun r h => ux2 S O.m r h := rfl
theorem new2_al_eq : (new2 S O).al = glue 16 (by decide) ⟨64, rfl⟩ fun r h => pT (mT O.m r h) (ux2 S O.m r h) := rfl
theorem new2_l_eq : (new2 S O).l = glue 16 (by decide) ⟨64, rfl⟩ fun r h =>
    addf (mulf (pT (mT O.m r h) (ux2 S O.m r h)) (mT O.l r h)) (us2 S (ux2 S O.m r h) r h) := rfl
theorem new2_p_eq : (new2 S O).p = tiles 256 (fun r k h0 h1 => pT (sT S r k h0 h1) (ux2 S O.m r h0)) ⟨2, rfl⟩ O.p := rfl

theorem new2_m {m : EReal} (hm : ∀ x, O.m (ix2 r x) = m) (hS : ∀ j, IsReal (S (ix2 r j))) (hm' : m = ⊥ ∨ IsReal m) :
    ∃ m', IsReal m' ∧ ∀ x, (new2 S O).m (ix2 r x) = m' := by
  have e : ∀ x, (new2 S O).m (ix2 r x) = max (O.m (ix2 r x)) ((Finset.univ : Finset (Fin 128)).fold max ⊥ fun k => top2 S (16 * (r.val / 16)) (band_le ⟨64, rfl⟩ r.isLt) (ix2 ⟨r.val % 16, Nat.mod_lt _ (by decide)⟩ k)) := fun x => by
    rw [new2_m_eq, glue_ix2, ux2_eq, newMax_apply, rd2_stat]
  refine ⟨_, ?_, fun x => (e x).trans (by rw [hm x])⟩
  refine IsReal.bot_max hm' (IsReal.fold_max _ ⟨0, Finset.mem_univ _⟩ fun k => ?_)
  have h : ∀ {k' : Nat} {h1 : k' + 128 ≤ 256}, IsReal (sT S (16 * (r.val / 16)) k' (band_le ⟨64, rfl⟩ r.isLt) h1 (ix2 ⟨r.val % 16, Nat.mod_lt _ (by decide)⟩ k)) := by
    intro k' h1
    rw [rd2_tile]
    exact hS _
  exact h.max h

theorem new2_al (x : Fin 128) : (new2 S O).al (ix2 r x) = Ideal.exp2 (O.m (ix2 r x) - (new2 S O).m (ix2 r x)) := by
  rw [new2_al_eq, new2_m_eq, glue_ix2, glue_ix2, pT_apply, rd2_stat]

theorem new2_l (x : Fin 128) : (new2 S O).l (ix2 r x) = Ideal.exp2 (O.m (ix2 r x) - (new2 S O).m (ix2 r x)) * O.l (ix2 r x)
    + ∑ b : Fin 2, Ideal.exp2 (S (ix2 r (at2 x b)) - (new2 S O).m (ix2 r x)) := by
  rw [new2_l_eq, new2_m_eq]
  simp only [glue_ix2]
  rw [Fin.sum_univ_two]
  show Ideal.exp2 (mT O.m _ _ _ - _) * mT O.l _ _ _ + (Ideal.exp2 (sT S _ 0 _ _ _ - _) + Ideal.exp2 (sT S _ 128 _ _ _ - _)) = _
  simp only [rd2_stat]
  simp only [rd2_tile]
  rfl

theorem new2_p (j : Fin 256) : (new2 S O).p (ix2 r (j.castLE (by decide))) = Ideal.exp2 (S (ix2 r j) - (new2 S O).m (ix2 r ⟨j.val % 128, Nat.mod_lt _ (by decide)⟩)) := by
  rw [new2_p_eq, new2_m_eq, tiles_apply _ _ _ _ _ _ (show (j.castLE _).val < 256 from j.isLt), glue_ix2, pT_apply, rd2_tile]
  congr 4
  exact Fin.ext (Nat.div_add_mod j.val 128)

theorem newA2_apply (t : Stat Ideal) (v : FVec Ideal C2 .bf16) (A : FVec Ideal A2 .f32) (d : Fin 128) :
    newA2 t v A (ix2 r d) = A (ix2 r d) * t.al (ix2 r d) + ∑ j : Fin 256, t.p (ix2 r (j.castLE (by decide))) * v (ix2 j d) := by
  unfold newA2
  rw [glue_ix2]
  unfold hacc2
  show rd2 512 128 _ 0 _ _ A _ * rd2 512 128 _ 0 _ _ t.al _ + matmul dPVc none _ v _ _ = _
  rw [dPVc_apply, rd2_band (by decide), rd2_band (by decide)]
  congr 1
  · congr 1 <;> · congr 2; exact Fin.ext (Nat.zero_add _)
  · refine Finset.sum_congr rfl fun j _ => ?_
    rw [rd2_band (by decide)]
    congr 3
    exact Fin.ext (Nat.zero_add _)

end Chunk2

theorem last_inv {q : FVec Ideal A2 .bf16} {k v : FVec Ideal C2 .bf16} {s : TA Ideal} {r : Fin 1024} {d : Fin 128} {B : EReal} {L : Fin 128 → ℝ}
    (h : RowInv r d B L s) {σ : Fin 256 → ℝ} (hσ : ∀ j, sc2 q k (ix2 r j) = σ j) :
    ∃ m, m ≠ ⊥ ∧ Inv (B + ∑ j, ((e2 (σ j) : ℝ) : EReal) * v (ix2 j d)) (fun x => L x + ∑ b, e2 (σ (at2 x b))) m
      (fun x => (new2 (sc2 q k) s.t).l (ix2 r x)) (newA2 (new2 (sc2 q k) s.t) v s.acc (ix2 r d)) := by
  obtain ⟨m, hm, hI⟩ := h
  obtain ⟨m', hm', hx⟩ := new2_m (sc2 q k) s.t r hm (fun j => ⟨_, hσ j⟩) hI.m_real
  refine ⟨m', ?_, hI.step σ (fun j => v (ix2 j d)) at2 hm' (fun x => ?_) ?_⟩
  · obtain ⟨M, rfl⟩ := hm'
    exact EReal.coe_ne_bot M
  · rw [new2_l, hx, hm]
    simp only [hσ]
  · rw [newA2_apply, new2_al, hx, hm]
    simp only [new2_p, hx, hσ]

theorem nil_inv (r : Fin 1024) (d : Fin 128) : RowInv r d 0 (fun _ => 0) ⟨nil, zeros⟩ := by
  have z : ∀ i, (zeros : FVec Ideal A2 .f32) i = 0 := fun i => Ideal.ofBits_zero_f32
  refine ⟨⊥, fun x => negInf_val, ?_⟩
  rw [show (fun x => (nil : Stat Ideal).l (ix2 r x)) = fun _ => 0 from funext fun x => z (ix2 r x), show (⟨nil, zeros⟩ : TA Ideal).acc (ix2 r d) = 0 from z (ix2 r d)]
  exact Inv.start

theorem redA_lift (r : Fin 1024) (k : Fin 128) : redA.lift (ix1 r) k = ix2 r k := by
  funext y
  match y with
  | ⟨0, _⟩ => rfl
  | ⟨1, _⟩ => rfl

theorem quo_apply (A L : FVec Ideal A2 .f32) (r : Fin 1024) (d : Fin 128) :
    quo A L (ix2 r d) = Ideal.div (A (ix2 r d)) (∑ x : Fin 128, L (ix2 r x)) := by
  unfold quo
  show Ideal.div (A (ix2 r d)) _ = _
  congr 1
  rw [broadcastTo_apply _ _ _ (ix2 r (0 : Fin 1)) (fun a => by
    match a with
    | ⟨0, _⟩ => rfl
    | ⟨1, _⟩ => rfl)]
  rw [shapeCast_a_a1_apply]
  refine (Ideal.multiReduction_add_single L _ redA _ _ (ix1 r)).trans ?_
  exact Finset.sum_congr rfl fun k _ => congrArg L (redA_lift r k)

end Gqa
-- ==== Proof.Gqa.Block.lean ====
/-
  The output block as a formula: each element is a weighted mean of the values, the weights `2 ^ score`.
-/
module

public import proofs.«01_k».proof.Proof.Gqa.Row

@[expose] public section

noncomputable section

namespace Gqa

open Idealize.ShloMosaic hiding ix1 ix2 ix3
open Idealize.ShloMosaic.ValueIdx

/-! ## Sums over all positions -/

theorem sum_split {M : Type} [AddCommMonoid M] (a b : Nat) {n : Nat} (h : a * b = n) (f : Fin n → M) :
    ∑ j, f j = ∑ x : Fin a, ∑ y : Fin b, f ⟨b * x.val + y.val, by
      subst h
      calc b * x.val + y.val < b * x.val + b := by omega
        _ = b * (x.val + 1) := by ring
        _ ≤ b * a := Nat.mul_le_mul_left b x.isLt
        _ = a * b := Nat.mul_comm b a⟩ := by
  subst h
  rw [← Fintype.sum_prod_type']
  refine (Fintype.sum_equiv finProdFinEquiv _ _ fun p => ?_).symm
  refine congrArg f (Fin.ext ?_)
  show b * p.1.val + p.2.val = p.2.val + b * p.1.val
  exact Nat.add_comm _ _

theorem sum_at8 (f : Fin 1024 → ℝ) : ∑ x, ∑ b, f (at8 x b) = ∑ j, f j := by
  rw [sum_split 8 128 rfl f, Finset.sum_comm]
  rfl

theorem sum_at2 (f : Fin 256 → ℝ) : ∑ x, ∑ b, f (at2 x b) = ∑ j, f j := by
  rw [sum_split 2 128 rfl f, Finset.sum_comm]
  rfl

/-- position `j` of the chunk that begins at `o` -/
def pos (o : Nat) (ho : o + 1024 ≤ 4096) (j : Fin 1024) : Fin 4096 := ⟨o + j.val, by omega⟩

theorem sum_chunks {M : Type} [AddCommMonoid M] (f : Fin 4096 → M) :
    ∑ j, f j = ∑ j, f (pos 0 (by decide) j) + ∑ j, f (pos 1024 (by decide) j) + ∑ j, f (pos 2048 (by decide) j) + ∑ j, f (pos 3072 (by decide) j) := by
  rw [sum_split 4 1024 rfl f, Fin.sum_univ_four]
  rfl

/-! ## The blocks read -/

theorem lL_apply (X : FVec Ideal L3 .bf16) (o : Nat) (ho : o + 1024 ≤ 4096) (h : ∀ x, (![0, o, 0] : Fin 3 → Nat) x + K3.size x ≤ L3.size x) (j : Fin 1024) (e : Fin 128) :
    lL X ![0, o, 0] h (ix2 j e) = X (ix3 (0 : Fin 1) (pos o ho j) e) := by
  unfold lL
  rw [shapeCast_1ab_ab_apply]
  refine congrArg X (funext fun a => ?_)
  match a with
  | ⟨0, _⟩ => rfl
  | ⟨1, _⟩ => exact Fin.ext (by show o + 1 * j.val = o + j.val; omega)
  | ⟨2, _⟩ => exact Fin.ext (by show 0 + 1 * e.val = e.val; omega)

theorem lC_apply (X : FVec Ideal C3 .bf16) (j : Fin 256) (e : Fin 128) : lC X (ix2 j e) = X (ix3 (0 : Fin 1) j e) := by
  unfold lC
  rw [shapeCast_1ab_ab_apply]
  refine congrArg X (funext fun a => ?_)
  match a with
  | ⟨0, _⟩ => rfl
  | ⟨1, _⟩ => exact Fin.ext (by show 0 + 1 * j.val = j.val; omega)
  | ⟨2, _⟩ => exact Fin.ext (by show 0 + 1 * e.val = e.val; omega)

/-- lane `e` of the head that lane `y` belongs to -/
def lane (y : Fin 512) (e : Fin 128) : Fin 512 := ⟨128 * (y.val / 128) + e.val, by omega⟩
/-- the row of the query matrix behind element `(i, y)` -/
def qrow (i : Fin 256) (y : Fin 512) : Fin 1024 := ⟨256 * (y.val / 128) + i.val, by omega⟩

theorem qmat_apply (X : FVec Ideal Q3 .bf16) (i : Fin 256) (y : Fin 512) (e : Fin 128) :
    qmat X (ix2 (qrow i y) e) = X (ix3 (0 : Fin 1) i (lane y e)) := by
  unfold qmat
  rw [glue_ix2, shapeCast_1ab_ab_apply]
  refine congrArg X (funext fun a => ?_)
  match a with
  | ⟨0, _⟩ => rfl
  | ⟨1, _⟩ => exact Fin.ext (by show 0 + 1 * ((256 * (y.val / 128) + i.val) % 256) = i.val; omega)
  | ⟨2, _⟩ => exact Fin.ext (by show 256 * ((256 * (y.val / 128) + i.val) / 256) / 2 + 1 * e.val = 128 * (y.val / 128) + e.val; omega)

/-! ## The block -/

section
variable (X : FVec Ideal Q3 .bf16) (KC VC : FVec Ideal C3 .bf16) (KL VL : FVec Ideal L3 .bf16) (i : Fin 256) (y : Fin 512)

theorem score8 {σ : Fin 4096 → ℝ} (hσ : ∀ j, ∑ e : Fin 128, X (ix3 (0 : Fin 1) i (lane y e)) * KL (ix3 (0 : Fin 1) j e) = σ j)
    (o : Nat) (ho : o + 1024 ≤ 4096) (h) (j : Fin 1024) : sc8 (qmat X) (lL KL ![0, o, 0] h) (ix2 (qrow i y) j) = σ (pos o ho j) := by
  rw [sc8_apply, ← hσ]
  refine Finset.sum_congr rfl fun e _ => ?_
  rw [qmat_apply, lL_apply _ _ ho]

theorem score2 {σ : Fin 256 → ℝ} (hσ : ∀ j, ∑ e : Fin 128, X (ix3 (0 : Fin 1) i (lane y e)) * KC (ix3 (0 : Fin 1) j e) = σ j) (j : Fin 256) :
    sc2 (qmat X) (lC KC) (ix2 (qrow i y) j) = σ j := by
  rw [sc2_apply, ← hσ]
  refine Finset.sum_congr rfl fun e _ => ?_
  rw [qmat_apply, lC_apply]

theorem endF_apply (q : FVec Ideal A2 .bf16) (k v : FVec Ideal C2 .bf16) (s : TA Ideal) : endF q k v s (ix3 (0 : Fin 1) i y)
    = quo (newA2 (new2 (sc2 q k) s.t) v s.acc) (new2 (sc2 q k) s.t).l (ix2 (qrow i y) ⟨y.val % 128, Nat.mod_lt _ (by decide)⟩) := rfl

theorem outF_apply {σL : Fin 4096 → ℝ} {σC : Fin 256 → ℝ}
    (hL : ∀ j, ∑ e : Fin 128, X (ix3 (0 : Fin 1) i (lane y e)) * KL (ix3 (0 : Fin 1) j e) = σL j)
    (hC : ∀ j, ∑ e : Fin 128, X (ix3 (0 : Fin 1) i (lane y e)) * KC (ix3 (0 : Fin 1) j e) = σC j) :
    outF X KC VC KL VL (ix3 (0 : Fin 1) i y) = (((∑ j, e2 (σC j) + ∑ j, e2 (σL j))⁻¹ : ℝ) : EReal)
      * (∑ j, ((e2 (σC j) : ℝ) : EReal) * VC (ix3 (0 : Fin 1) j ⟨y.val % 128, Nat.mod_lt _ (by decide)⟩)
        + ∑ j, ((e2 (σL j) : ℝ) : EReal) * VL (ix3 (0 : Fin 1) j ⟨y.val % 128, Nat.mod_lt _ (by decide)⟩)) := by
  let d : Fin 128 := ⟨y.val % 128, Nat.mod_lt _ (by decide)⟩
  let r := qrow i y
  have h0 := nil_inv r d
  have h1 := chunk_inv (v := lL VL ![0, 0, 0] inb0) h0 (score8 X KL i y hL 0 (by decide) inb0)
  have h2 := chunk_inv (v := lL VL ![0, 1024, 0] (inbL 1024 (by decide))) h1 (score8 X KL i y hL 1024 (by decide) (inbL 1024 (by decide)))
  have h3 := chunk_inv (v := lL VL ![0, 2048, 0] (inbL 2048 (by decide))) h2 (score8 X KL i y hL 2048 (by decide) (inbL 2048 (by decide)))
  have h4 := chunk_inv (v := lL VL ![0, 3072, 0] (inbL 3072 (by decide))) h3 (score8 X KL i y hL 3072 (by decide) (inbL 3072 (by decide)))
  obtain ⟨m, hm, h5⟩ := last_inv (v := lC VC) h4 (score2 X KC i y hC)
  unfold outF
  rw [endF_apply, quo_apply]
  have hs : (∑ x : Fin 128, ((0 : ℝ) + ∑ b, e2 (σL (pos 0 (by decide) (at8 x b))) + ∑ b, e2 (σL (pos 1024 (by decide) (at8 x b)))
      + ∑ b, e2 (σL (pos 2048 (by decide) (at8 x b))) + ∑ b, e2 (σL (pos 3072 (by decide) (at8 x b))) + ∑ b, e2 (σC (at2 x b))))
      = ∑ j, e2 (σC j) + ∑ j, e2 (σL j) := by
    rw [sum_chunks fun j => e2 (σL j)]
    simp only [Finset.sum_add_distrib]
    rw [sum_at8 fun j => e2 (σL (pos 0 (by decide) j)), sum_at8 fun j => e2 (σL (pos 1024 (by decide) j)), sum_at8 fun j => e2 (σL (pos 2048 (by decide) j)),
      sum_at8 fun j => e2 (σL (pos 3072 (by decide) j)), sum_at2 fun j => e2 (σC j)]
    simp only [Finset.sum_const_zero]
    ring
  have hpos : 0 < ∑ j, e2 (σC j) + ∑ j, e2 (σL j) :=
    add_pos (Finset.sum_pos (fun j _ => e2_pos _) ⟨0, Finset.mem_univ _⟩) (Finset.sum_pos (fun j _ => e2_pos _) ⟨0, Finset.mem_univ _⟩)
  refine (h5.quotient hm (hs ▸ hpos)).trans ?_
  rw [hs]
  congr 1
  rw [sum_chunks fun j => ((e2 (σL j) : ℝ) : EReal) * VL (ix3 (0 : Fin 1) j d)]
  simp only [lC_apply, lL_apply VL 0 (by decide), lL_apply VL 1024 (by decide), lL_apply VL 2048 (by decide), lL_apply VL 3072 (by decide)]
  rw [zero_add, add_comm]

end
end Gqa
-- ==== Proof.Gqa.Ref.lean ====
/-
  The reference read at one element: the softmax weights are quotients of exponentials, and the common factor that subtracting the
  maximum leaves in every weight cancels.
-/
module

public import proofs.«01_k».proof.Proof.Gqa.Soft
public import proofs.«01_k».proof.Proof.Gen.ReferenceIdeal.Read
public import Idealize.ShloMosaic.Lib.KernelVsHost

@[expose] public section

noncomputable section

namespace Cert.ReferenceIdeal.Attn

open Cert.ReferenceIdeal Cert.ReferenceIdeal.Gen Cert.ReferenceIdeal.Read Gqa
open Idealize.ShloMosaic
open Idealize.ShloMosaic.ValueIdx

/-- a position among the context's and the latents' together, the context first -/
def inCtx (j : Fin 256) : Fin 4352 := ⟨j.val, by omega⟩
def inLat (j : Fin 4096) : Fin 4352 := ⟨256 + j.val, by omega⟩

theorem sum_both {M : Type} [AddCommMonoid M] (f : Fin 4352 → M) : ∑ J, f J = ∑ j, f (inCtx j) + ∑ j, f (inLat j) :=
  Fin.sum_univ_add (a := 256) (b := 4096) f

/-- a function on the joined positions from its two parts -/
def both {α : Type} (c : Fin 256 → α) (l : Fin 4096 → α) (J : Fin 4352) : α :=
  if h : J.val < 256 then c ⟨J.val, h⟩ else l ⟨J.val - 256, by omega⟩

theorem both_ctx {α : Type} (c : Fin 256 → α) (l : Fin 4096 → α) (j : Fin 256) : both c l (inCtx j) = c j :=
  dif_pos (show (inCtx j).val < 256 from j.isLt)
theorem both_lat {α : Type} (c : Fin 256 → α) (l : Fin 4096 → α) (j : Fin 4096) : both c l (inLat j) = l j := by
  unfold both inLat
  rw [dif_neg (by simp)]
  exact congrArg l (Fin.ext (by simp))

theorem both_cases (P : Fin 4352 → Prop) (hc : ∀ j, P (inCtx j)) (hl : ∀ j, P (inLat j)) (J : Fin 4352) : P J := by
  by_cases h : J.val < 256
  · exact hc ⟨J.val, h⟩
  · have := hl ⟨J.val - 256, by omega⟩
    rwa [show inLat ⟨J.val - 256, by omega⟩ = J from Fin.ext (by show 256 + (J.val - 256) = J.val; omega)] at this

variable (x0 : FVec Ideal S4x4096x8x128 .f32) (x1 : FVec Ideal S4x4096x2x128 .f32) (x2 : FVec Ideal S4x4096x6656 .bf16)
  (x3 : FVec Ideal S4x256x2x128 .f32) (x4 : FVec Ideal S4x256x6656 .bf16)

/-! ## Keys and values, joined -/

theorem keys_ctx (b : Fin 4) (j : Fin 256) (g : Fin 2) (e : Fin 128) : val_main_v6 (F := Ideal) x1 x3 (ix4 b (inCtx j) g e) = x3 (ix4 b j g e) :=
  concatenate_pair_apply_left (t := S4x4352x2x128) 1 x3 x1 _ _ rfl (ix4 b j g e) fun a => match a with
    | ⟨0, _⟩ => rfl
    | ⟨1, _⟩ => rfl
    | ⟨2, _⟩ => rfl
    | ⟨3, _⟩ => rfl

theorem keys_lat (b : Fin 4) (j : Fin 4096) (g : Fin 2) (e : Fin 128) : val_main_v6 (F := Ideal) x1 x3 (ix4 b (inLat j) g e) = x1 (ix4 b j g e) :=
  concatenate_pair_apply_right (t := S4x4352x2x128) 1 x3 x1 _ _ rfl rfl (ix4 b j g e) (fun a ha => match a with
    | ⟨0, _⟩ => rfl
    | ⟨1, _⟩ => absurd rfl ha
    | ⟨2, _⟩ => rfl
    | ⟨3, _⟩ => rfl) (Nat.add_comm j.val 256)

/-- the lane of the values' array that holds lane `e` of key head `g` -/
def vlane (g : Fin 2) (e : Fin 128) : Fin 6656 := ⟨1280 + (128 * g.val + e.val), by omega⟩

theorem vals_ctx (b : Fin 4) (j : Fin 256) (g : Fin 2) (e : Fin 128) : val_main_v7 (F := Ideal) x2 x4 (ix4 b (inCtx j) g e) = x4 (ix3 b j (vlane g e)) := by
  refine (concatenate_pair_apply_left (t := S4x4352x2x128) 1 (val_main_v5 (F := Ideal) x4) (val_main_v2 (F := Ideal) x2) _ _ rfl (ix4 b j g e) fun a => match a with
    | ⟨0, _⟩ => rfl
    | ⟨1, _⟩ => rfl
    | ⟨2, _⟩ => rfl
    | ⟨3, _⟩ => rfl).trans ?_
  rw [val_main_v5_apply, val_main_v4_apply, val_main_v3_apply]
  refine congrArg x4 (funext fun a => Fin.ext ?_)
  match a with
  | ⟨0, _⟩ => show (((b.val * 256 + j.val) * 2 + g.val) * 128 + e.val) / 65536 = b.val; omega
  | ⟨1, _⟩ => show (((b.val * 256 + j.val) * 2 + g.val) * 128 + e.val) / 256 % 256 = j.val; omega
  | ⟨2, _⟩ => show 1280 + (((b.val * 256 + j.val) * 2 + g.val) * 128 + e.val) % 256 = 1280 + (128 * g.val + e.val); omega

theorem vals_lat (b : Fin 4) (j : Fin 4096) (g : Fin 2) (e : Fin 128) : val_main_v7 (F := Ideal) x2 x4 (ix4 b (inLat j) g e) = x2 (ix3 b j (vlane g e)) := by
  refine (concatenate_pair_apply_right (t := S4x4352x2x128) 1 (val_main_v5 (F := Ideal) x4) (val_main_v2 (F := Ideal) x2) _ (ix4 b (inLat j) g e) rfl rfl (ix4 b j g e) (fun a ha => match a with
    | ⟨0, _⟩ => rfl
    | ⟨1, _⟩ => absurd rfl ha
    | ⟨2, _⟩ => rfl
    | ⟨3, _⟩ => rfl) (Nat.add_comm j.val 256)).trans ?_
  rw [val_main_v2_apply, val_main_v1_apply, val_main_v0_apply]
  refine congrArg x2 (funext fun a => Fin.ext ?_)
  match a with
  | ⟨0, _⟩ => show (((b.val * 4096 + j.val) * 2 + g.val) * 128 + e.val) / 1048576 = b.val; omega
  | ⟨1, _⟩ => show (((b.val * 4096 + j.val) * 2 + g.val) * 128 + e.val) / 256 % 4096 = j.val; omega
  | ⟨2, _⟩ => show 1280 + (((b.val * 4096 + j.val) * 2 + g.val) * 128 + e.val) % 256 = 1280 + (128 * g.val + e.val); omega

/-! ## Scores -/

/-- query head `r` of key head `g` -/
def head (g : Fin 2) (r : Fin 4) : Fin 8 := ⟨4 * g.val + r.val, by omega⟩

theorem queries (b : Fin 4) (s : Fin 4096) (g : Fin 2) (r : Fin 4) (e : Fin 128) : val_main_v8 (F := Ideal) x0 (ix5 b s g r e) = x0 (ix4 b s (head g r) e) := by
  rw [val_main_v8_apply]
  refine congrArg x0 (funext fun a => Fin.ext ?_)
  match a with
  | ⟨0, _⟩ => show ((((b.val * 4096 + s.val) * 2 + g.val) * 4 + r.val) * 128 + e.val) / 4194304 = b.val; omega
  | ⟨1, _⟩ => show ((((b.val * 4096 + s.val) * 2 + g.val) * 4 + r.val) * 128 + e.val) / 1024 % 4096 = s.val; omega
  | ⟨2, _⟩ => show ((((b.val * 4096 + s.val) * 2 + g.val) * 4 + r.val) * 128 + e.val) / 128 % 8 = 4 * g.val + r.val; omega
  | ⟨3, _⟩ => show ((((b.val * 4096 + s.val) * 2 + g.val) * 4 + r.val) * 128 + e.val) % 128 = e.val; omega

theorem root_val : FloatOps.hostUnary (F := Ideal) (φ := .f32) .sqrt (FloatOps.ofBits .f32 0x43000000#32) = ((Real.sqrt 128 : ℝ) : EReal) := by
  show Ideal.sqrt (Ideal.ofBits .f32 0x43000000#32) = _
  rw [show Ideal.ofBits .f32 0x43000000#32 = ((128 : ℝ) : EReal) by simp [Ideal.ofBits, Ideal.ieee]; rw [← EReal.coe_mul]; norm_num]
  show (if (128 : ℝ) < 0 then ⊥ else ((Real.sqrt 128 : ℝ) : EReal)) = _
  rw [if_neg (by norm_num)]

theorem score (b : Fin 4) (g : Fin 2) (r : Fin 4) (s : Fin 4096) (J : Fin 4352) :
    val_main_v13 (F := Ideal) x0 x1 x3 (ix5 b g r s J)
      = (((Real.sqrt 128)⁻¹ : ℝ) : EReal) * ∑ e : Fin 128, val_main_v6 (F := Ideal) x1 x3 (ix4 b J g e) * x0 (ix4 b s (head g r) e) := by
  rw [val_main_v13_apply, val_main_v10_apply, val_main_v9_apply, val_main_v12_apply, val_main_v11_apply, val_main_cst_apply, root_val]
  show Ideal.div _ _ = _
  rw [div_pos_real _ (Real.sqrt_pos.mpr (by norm_num))]
  refine congrArg _ (Finset.sum_congr rfl fun e _ => ?_)
  rw [← queries x0 b s g r e]
  refine congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl
    | ⟨4, _⟩ => rfl

/-! ## The softmax of a row whose scores are real -/

section row

variable (b : Fin 4) (g : Fin 2) (r : Fin 4) (s : Fin 4096) {σ : Fin 4352 → ℝ} (hσ : ∀ J, val_main_v13 (F := Ideal) x0 x1 x3 (ix5 b g r s J) = (σ J : ℝ))

theorem reduces : S4x2x4x4096x4352.Reduces [4] S4x2x4x4096 := by decide

theorem reduces_lift (J : Fin 4352) : reduces.lift (ix4 b g r s) J = ix5 b g r s J := by
  funext a
  match a with
  | ⟨0, _⟩ => rfl
  | ⟨1, _⟩ => rfl
  | ⟨2, _⟩ => rfl
  | ⟨3, _⟩ => rfl
  | ⟨4, _⟩ => rfl

theorem bot_val : (FloatOps.ofBits (F := Ideal) .f32 0xFF800000#32 : EReal) = ⊥ := by
  show Ideal.ofBits .f32 0xFF800000#32 = ⊥
  simp [Ideal.ofBits, Ideal.ieee]

theorem max_reduce (x : FVec Ideal S4x2x4x4096x4352 .f32) (h : S4x2x4x4096x4352.ReducesTo [4] S4x2x4x4096) (hu : 0 < S_.numel) :
    Host.reduce FloatOps.maximumf x (constant S_ .f32 0xFF800000#32) h hu (ix4 b g r s)
      = (Finset.univ : Finset (Fin 4352)).fold Max.max ⊥ fun J => x (ix5 b g r s J) := by
  have e := hostReduce_maximumf_eq_multiReduction (u := S_) x (0xFF800000#32 : BitVec FTy.f32.bits) h hu reduces (.inl rfl) rfl
  refine (congrFun e _).trans ((Ideal.multiReduction_maximumf_single x _ reduces _ _ _).trans ?_)
  rw [bot_val]
  exact congrArg (fun f => Finset.fold Max.max ⊥ f Finset.univ) (funext fun J => congrArg x (reduces_lift b g r s J))

include hσ in
theorem top_real : IsReal (val_main_v16 (F := Ideal) x0 x1 x3 (ix4 b g r s)) := by
  rw [val_main_v16_apply, val_main_v15_apply, val_main_cst_1_apply, bot_val]
  refine IsReal.bot_max (.inl rfl) ?_
  unfold val_main_v14 val_main_cst_0
  generalize val_main_v13 (F := Ideal) x0 x1 x3 = y at hσ ⊢
  rw [max_reduce]
  exact IsReal.fold_max _ Finset.univ_nonempty fun J => ⟨_, hσ J⟩

include hσ in
theorem weights : ∃ κ : ℝ, 0 < κ ∧ ∀ J, val_main_v20 (F := Ideal) x0 x1 x3 (ix5 b g r s J) = ((κ * Real.exp (σ J) : ℝ) : EReal) := by
  obtain ⟨M, hM⟩ := top_real x0 x1 x3 b g r s hσ
  refine ⟨Real.exp (-M), Real.exp_pos _, fun J => ?_⟩
  rw [val_main_v20_apply, val_main_v19_apply, hσ, val_main_v18_apply, val_main_v17_apply]
  rw [show idx_main_v17 (idx_main_v18 (ix5 b g r s J)) = ix4 b g r s from funext fun a => match a with
    | ⟨0, _⟩ => rfl
    | ⟨1, _⟩ => rfl
    | ⟨2, _⟩ => rfl
    | ⟨3, _⟩ => rfl, hM]
  show Ideal.exp ((σ J : EReal) - (M : EReal)) = _
  rw [← EReal.coe_sub, ← Real.exp_add, show -M + σ J = σ J - M by ring]
  rfl

end row

/-! ## The result -/

theorem ref_row (b : Fin 4) (g : Fin 2) (r : Fin 4) (s : Fin 4096) (e : Fin 128) {σC : Fin 256 → ℝ} {σL : Fin 4096 → ℝ}
    (hC : ∀ j, (((Real.sqrt 128)⁻¹ : ℝ) : EReal) * ∑ e : Fin 128, x3 (ix4 b j g e) * x0 (ix4 b s (head g r) e) = (σC j : ℝ))
    (hL : ∀ j, (((Real.sqrt 128)⁻¹ : ℝ) : EReal) * ∑ e : Fin 128, x1 (ix4 b j g e) * x0 (ix4 b s (head g r) e) = (σL j : ℝ)) :
    val_main_v25 (F := Ideal) x0 x1 x2 x3 x4 (ix5 b g e r s)
      = (((∑ j, Real.exp (σC j) + ∑ j, Real.exp (σL j))⁻¹ : ℝ) : EReal)
        * (∑ j, ((Real.exp (σC j) : ℝ) : EReal) * x4 (ix3 b j (vlane g e)) + ∑ j, ((Real.exp (σL j) : ℝ) : EReal) * x2 (ix3 b j (vlane g e))) := by
  have hσ : ∀ J, val_main_v13 (F := Ideal) x0 x1 x3 (ix5 b g r s J) = ((both σC σL J : ℝ) : EReal) := fun J => by
    rw [score]
    refine both_cases (fun J => _ * ∑ e : Fin 128, val_main_v6 (F := Ideal) x1 x3 (ix4 b J g e) * x0 (ix4 b s (head g r) e) = ((both σC σL J : ℝ) : EReal))
      (fun j => ?_) (fun j => ?_) J
    · simp only [keys_ctx, both_ctx, hC]
    · simp only [keys_lat, both_lat, hL]
  obtain ⟨κ, hκ, hw⟩ := weights x0 x1 x3 b g r s hσ
  rw [val_main_v25_apply]
  have hq := soft_quotient (fun J => Real.exp (both σC σL J)) (fun J => Real.exp_pos _) κ hκ (fun J => val_main_v7 (F := Ideal) x2 x4 (ix4 b J g e))
  rw [sum_both (fun J => Real.exp (both σC σL J)), sum_both (fun J => ((Real.exp (both σC σL J) : ℝ) : EReal) * _)] at hq
  simp only [both_ctx, both_lat, vals_ctx, vals_lat] at hq
  rw [← hq]
  refine Finset.sum_congr rfl fun J _ => ?_
  rw [mul_comm]
  refine congrArg₂ (· * ·) ?_ (congrArg _ (funext fun a => match a with
    | ⟨0, _⟩ => rfl
    | ⟨1, _⟩ => rfl
    | ⟨2, _⟩ => rfl
    | ⟨3, _⟩ => rfl))
  rw [show ridx_main_v25 (ix5 b g e r s) J = ix5 b g r s J from funext fun a => match a with
    | ⟨0, _⟩ => rfl
    | ⟨1, _⟩ => rfl
    | ⟨2, _⟩ => rfl
    | ⟨3, _⟩ => rfl
    | ⟨4, _⟩ => rfl]
  rw [val_main_v24_apply, hw, val_main_v23_apply, val_main_v22_apply, val_main_v21_apply]
  show Ideal.div _ _ = _
  refine congrArg _ ?_
  rw [show (val_main_cst_2 (F := Ideal)) (Shape.Idx.first h_S_) = 0 from Ideal.ofBits_zero_f32, zero_add, coe_sum]
  refine Finset.sum_congr rfl fun J' _ => (congrArg _ (funext fun a => ?_)).trans (hw J')
  match a with
  | ⟨0, _⟩ => rfl
  | ⟨1, _⟩ => rfl
  | ⟨2, _⟩ => rfl
  | ⟨3, _⟩ => rfl
  | ⟨4, _⟩ => rfl

/-- the result at row `s`, lane `e` of query head `r` of key head `g` -/
theorem ref_apply (b : Fin 4) (s : Fin 4096) (y : Fin 1024) :
    (val_main_v28 (F := Ideal) x0 x1 x2 x3 x4 (ix3 b s y) : EReal)
      = val_main_v25 (F := Ideal) x0 x1 x2 x3 x4 (ix5 b ⟨y.val / 512, by omega⟩ ⟨y.val % 128, by omega⟩ ⟨y.val / 128 % 4, by omega⟩ s) := by
  rw [val_main_v28_apply, val_main_v27_apply, val_main_v26_apply]
  show val_main_v25 (F := Ideal) x0 x1 x2 x3 x4 _ = _
  refine congrArg (val_main_v25 (F := Ideal) x0 x1 x2 x3 x4) (funext fun a => Fin.ext ?_)
  match a with
  | ⟨0, _⟩ => show ((b.val * 4096 + s.val) * 1024 + y.val) / 4194304 = b.val; omega
  | ⟨1, _⟩ => show ((b.val * 4096 + s.val) * 1024 + y.val) / 512 % 2 = y.val / 512; omega
  | ⟨2, _⟩ => show ((b.val * 4096 + s.val) * 1024 + y.val) % 128 = y.val % 128; omega
  | ⟨3, _⟩ => show ((b.val * 4096 + s.val) * 1024 + y.val) / 128 % 4 = y.val / 128 % 4; omega
  | ⟨4, _⟩ => show ((b.val * 4096 + s.val) * 1024 + y.val) / 1024 % 4096 = s.val; omega

end Cert.ReferenceIdeal.Attn

end
-- ==== Proof.Gqa.Agree.lean ====
/-
  The body's output block and the reference have the same elements: the kernel's scores are the reference's over `log 2`, and
  `2 ^ (x / log 2) = exp x`.
-/
module

public import proofs.«01_k».proof.Proof.Gqa.Block
public import proofs.«01_k».proof.Proof.Gqa.Ref

@[expose] public section

noncomputable section

namespace Gqa

open Cert.ReferenceIdeal Cert.ReferenceIdeal.Attn Cert.ReferenceIdeal.Read
open Idealize.ShloMosaic hiding ix1 ix2 ix3 ix4 ix5
open Idealize.ShloMosaic.ValueIdx

/-- what the host multiplies onto the queries -/
def scale : ℝ := (Real.sqrt 128 * Real.log 2)⁻¹

theorem e2_scale (d : ℝ) : e2 (scale * d) = Real.exp ((Real.sqrt 128)⁻¹ * d) := by
  have h : Real.log 2 ≠ 0 := (Real.log_pos (by norm_num)).ne'
  unfold e2 scale
  rw [Real.rpow_def_of_pos (by norm_num)]
  congr 1
  rw [mul_inv]
  field_simp

theorem products_real {x y : Fin 128 → EReal} (hx : ∀ e, IsReal (x e)) (hy : ∀ e, IsReal (y e)) :
    ∃ d : ℝ, ∑ e, x e * y e = (d : EReal) := IsReal.sum _ fun e => (hx e).mul (hy e)

/-- the scale drawn out of a score -/
theorem scaled {x y : Fin 128 → EReal} (hx : ∀ e, IsReal (x e)) (hy : ∀ e, IsReal (y e)) {d : ℝ} (h : ∑ e, x e * y e = (d : EReal)) :
    ∑ e, y e * (scale : EReal) * x e = ((scale * d : ℝ) : EReal) := by
  have hs : 0 ≤ scale := inv_nonneg.mpr (mul_nonneg (Real.sqrt_nonneg _) (Real.log_pos (by norm_num)).le)
  rw [EReal.coe_mul, ← h, real_mul_sum _ hs]
  refine Finset.sum_congr rfl fun e _ => ?_
  rw [mul_comm (y e), mul_assoc, mul_comm (y e)]

theorem outF_ref (x0 : FVec Ideal S4x4096x8x128 .f32) (x1 : FVec Ideal S4x4096x2x128 .f32) (x2 : FVec Ideal S4x4096x6656 .bf16)
    (x3 : FVec Ideal S4x256x2x128 .f32) (x4 : FVec Ideal S4x256x6656 .bf16)
    (h0 : ∀ i, IsReal (x0 i)) (h1 : ∀ i, IsReal (x1 i)) (h3 : ∀ i, IsReal (x3 i))
    (X : FVec Ideal Q3 .bf16) (KC VC : FVec Ideal C3 .bf16) (KL VL : FVec Ideal L3 .bf16) (i : Fin 256) (y : Fin 512)
    (b : Fin 4) (g : Fin 2) (r : Fin 4) (s : Fin 4096)
    (hX : ∀ e, X (ix3 (0 : Fin 1) i (lane y e)) = x0 (ix4 b s (head g r) e) * (scale : EReal))
    (hKC : ∀ j e, KC (ix3 (0 : Fin 1) j e) = x3 (ix4 b j g e)) (hKL : ∀ j e, KL (ix3 (0 : Fin 1) j e) = x1 (ix4 b j g e))
    (hVC : ∀ j e, VC (ix3 (0 : Fin 1) j e) = x4 (ix3 b j (vlane g e))) (hVL : ∀ j e, VL (ix3 (0 : Fin 1) j e) = x2 (ix3 b j (vlane g e))) :
    (outF X KC VC KL VL (ix3 (0 : Fin 1) i y) : EReal)
      = val_main_v25 (F := Ideal) x0 x1 x2 x3 x4 (ix5 b g ⟨y.val % 128, Nat.mod_lt _ (by decide)⟩ r s) := by
  choose dC hdC using fun j => products_real (fun e => h3 (ix4 b j g e)) (fun e => h0 (ix4 b s (head g r) e))
  choose dL hdL using fun j => products_real (fun e => h1 (ix4 b j g e)) (fun e => h0 (ix4 b s (head g r) e))
  rw [ref_row x0 x1 x2 x3 x4 b g r s _ (σC := fun j => (Real.sqrt 128)⁻¹ * dC j) (σL := fun j => (Real.sqrt 128)⁻¹ * dL j)
    (fun j => by rw [hdC, EReal.coe_mul]) (fun j => by rw [hdL, EReal.coe_mul])]
  rw [outF_apply X KC VC KL VL i y (σC := fun j => scale * dC j) (σL := fun j => scale * dL j)
    (fun j => by
      rw [← scaled (fun e => h1 (ix4 b j g e)) (fun e => h0 (ix4 b s (head g r) e)) (hdL j)]
      exact Finset.sum_congr rfl fun e _ => by rw [hX, hKL])
    (fun j => by
      rw [← scaled (fun e => h3 (ix4 b j g e)) (fun e => h0 (ix4 b s (head g r) e)) (hdC j)]
      exact Finset.sum_congr rfl fun e _ => by rw [hX, hKC])]
  simp only [e2_scale, hVC, hVL]

end Gqa

end
-- ==== Proof.Gqa.Value.lean ====
/-
  The kernel's result over the extended reals: block by block the reference's value of the kernel's own arguments.
-/
module

public import proofs.«01_k».proof.Proof.Gqa.Launch
public import proofs.«01_k».proof.Proof.Gqa.Agree
public import Idealize.ShloMosaic.Lib.Pipeline.ValueKit.Geometry

@[expose] public section

set_option maxRecDepth 16384

noncomputable section

namespace Cert.KernelIdeal.Attn

open Cert.KernelIdeal.Gen
open Idealize.ShloMosaic hiding ix1 ix2 ix3 ix4 ix5
open Idealize.ShloMosaic.ValueIdx Idealize.ShloMosaic.TcCoe Idealize.ShloMosaic.Tactic
open Idealize.SL Idealize.SL.Sem
open Idealize.ShloMosaic.Pipeline (Dat Cfg Window)
open Gqa (IsReal scale lane)
open Cert.ReferenceIdeal.Attn (head vlane)

/-! The host's operations. -/

/-- heads beside each other in one row -/
theorem flat_apply {B N H W : ℕ} {α : Type} (hW : W = H * 128) (x : (⟨4, ![B, N, H, 128]⟩ : Shape).Idx → α)
    (h : (⟨4, ![B, N, H, 128]⟩ : Shape).ShapeCasts ⟨3, ![B, N, W]⟩) (b : Fin B) (s : Fin N) (n : Fin H) (e : Fin 128) (z : Fin W)
    (hz : z.val = n.val * 128 + e.val) : shapeCast ⟨3, ![B, N, W]⟩ x h (ix3 b s z) = x (ix4 b s n e) := by
  refine shapeCast_apply x h (ix3 b s z) (ix4 b s n e) ?_
  rw [Shape.rowMajor_val_four, Shape.rowMajor_val_three]
  show ((b.val * N + s.val) * H + n.val) * 128 + e.val = (b.val * N + s.val) * W + z.val
  rw [hz, hW]
  ring

/-- what the host multiplies onto the queries -/
def factor : FVec Ideal S_ .f32 :=
  Host.divf (constant S_ .f32 0x3F800000#32) (mulf (Host.sqrt (constant S_ .f32 0x43000000#32)) (Host.log (constant S_ .f32 0x40000000#32)))

theorem factor_val (i : S_.Idx) : (factor i : EReal) = (scale : ℝ) := by
  show Ideal.div (Ideal.ofBits .f32 0x3F800000#32) (Ideal.sqrt (Ideal.ofBits .f32 0x43000000#32) * Ideal.log (Ideal.ofBits .f32 0x40000000#32)) = _
  rw [show Ideal.ofBits .f32 0x3F800000#32 = ((1 : ℝ) : EReal) by simp [Ideal.ofBits, Ideal.ieee]; try (rw [← EReal.coe_mul]; norm_num),
    show Ideal.ofBits .f32 0x43000000#32 = ((128 : ℝ) : EReal) by simp [Ideal.ofBits, Ideal.ieee]; rw [← EReal.coe_mul]; norm_num,
    show Ideal.ofBits .f32 0x40000000#32 = ((2 : ℝ) : EReal) by simp [Ideal.ofBits, Ideal.ieee]; try (rw [← EReal.coe_mul]; norm_num)]
  rw [show Ideal.sqrt ((128 : ℝ) : EReal) = ((Real.sqrt 128 : ℝ) : EReal) from if_neg (by norm_num),
    show Ideal.log ((2 : ℝ) : EReal) = ((Real.log 2 : ℝ) : EReal) from if_neg (by norm_num), ← EReal.coe_mul,
    Gqa.div_pos_real _ (mul_pos (Real.sqrt_pos.mpr (by norm_num)) (Real.log_pos (by norm_num))), EReal.coe_one, mul_one]
  rfl

variable (m : (ℓ : Loc nD τ sig) → Buf (Elt Ideal) ℓ) (c : Dev nD)

abbrev a0 : FVec Ideal S4x4096x8x128 .f32 := m ((c : Thread nD τ).loc main_arg0)
abbrev a1 : FVec Ideal S4x4096x2x128 .f32 := m ((c : Thread nD τ).loc main_arg1)
abbrev a2 : FVec Ideal S4x4096x6656 .bf16 := m ((c : Thread nD τ).loc main_arg2)
abbrev a3 : FVec Ideal S4x256x2x128 .f32 := m ((c : Thread nD τ).loc main_arg3)
abbrev a4 : FVec Ideal S4x256x6656 .bf16 := m ((c : Thread nD τ).loc main_arg4)

theorem V_queries : (V m c main_v7 : FVec Ideal S4x4096x1024 .bf16)
    = shapeCast S4x4096x1024 (truncf .bf16 (mulf (a0 m c) (broadcastInDim S4x4096x8x128 ![] bcast_S_S4x4096x8x128 factor)) bitsLt_bf16_f32) shapeCasts_S4x4096x8x128_S4x4096x1024 := by
  show StableHlo.after hostOps0 _ (Proc.devRef .tc main_v7) = _
  after_results
  rfl

theorem V_keys : (V m c main_v9 : FVec Ideal S4x4096x256 .bf16)
    = shapeCast S4x4096x256 (truncf .bf16 (a1 m c) bitsLt_bf16_f32) shapeCasts_S4x4096x2x128_S4x4096x256 := by
  show StableHlo.after hostOps0 _ (Proc.devRef .tc main_v9) = _
  after_results
  rfl

theorem V_ctxKeys : (V m c main_v11 : FVec Ideal S4x256x256 .bf16)
    = shapeCast S4x256x256 (truncf .bf16 (a3 m c) bitsLt_bf16_f32) shapeCasts_S4x256x2x128_S4x256x256 := by
  show StableHlo.after hostOps0 _ (Proc.devRef .tc main_v11) = _
  after_results
  rfl

theorem queries_apply (b : Fin 4) (s : Fin 4096) (n : Fin 8) (e : Fin 128) (z : Fin 1024) (hz : z.val = n.val * 128 + e.val) :
    ((V m c main_v7 : FVec Ideal S4x4096x1024 .bf16) (ix3 b s z) : EReal) = a0 m c (ix4 b s n e) * (scale : EReal) := by
  rw [V_queries, flat_apply rfl _ _ b s n e z hz]
  show (a0 m c (ix4 b s n e) : EReal) * factor _ = _
  rw [factor_val]

theorem keys_apply (b : Fin 4) (s : Fin 4096) (n : Fin 2) (e : Fin 128) (z : Fin 256) (hz : z.val = n.val * 128 + e.val) :
    ((V m c main_v9 : FVec Ideal S4x4096x256 .bf16) (ix3 b s z) : EReal) = a1 m c (ix4 b s n e) := by
  rw [V_keys, flat_apply rfl _ _ b s n e z hz]; rfl

theorem ctxKeys_apply (b : Fin 4) (s : Fin 256) (n : Fin 2) (e : Fin 128) (z : Fin 256) (hz : z.val = n.val * 128 + e.val) :
    ((V m c main_v11 : FVec Ideal S4x256x256 .bf16) (ix3 b s z) : EReal) = a3 m c (ix4 b s n e) := by
  rw [V_ctxKeys, flat_apply rfl _ _ b s n e z hz]; rfl

/-! The windows' blocks. -/

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 0).val, 0, 10 + (grid0.coords t 1).val] :=
  (by decide +kernel : ∀ t : Fin grid0.N, _)
theorem index3 : ∀ t : Fin cfg0.N, win0_3.index t = ![(grid0.coords t 0).val, 0, (grid0.coords t 1).val] :=
  (by decide +kernel : ∀ t : Fin grid0.N, _)
theorem index4 : ∀ t : Fin cfg0.N, win0_4.index t = ![(grid0.coords t 0).val, 0, 10 + (grid0.coords t 1).val] :=
  (by decide +kernel : ∀ t : Fin grid0.N, _)
theorem index5 : ∀ t : Fin cfg0.N, win0_5.index t = ![(grid0.coords t 0).val, (grid0.coords t 2).val, (grid0.coords t 1).val] :=
  (by decide +kernel : ∀ t : Fin grid0.N, _)

variable (t : Fin cfg0.N)

/-- the point's batch, key head and row block -/
abbrev pb : Fin 4 := grid0.coords t 0
abbrev pg : Fin 2 := grid0.coords t 1
abbrev ps : Fin 16 := grid0.coords t 2

theorem block0 (i : Fin 256) (z : Fin 512) : (iblk m c 0 t : FVec Ideal Gqa.Q3 .bf16) (ix3 (0 : Fin 1) i z)
    = (V m c main_v7 : FVec Ideal S4x4096x1024 .bf16) (ix3 (pb t) ⟨(ps t).val * 256 + i.val, by omega⟩ ⟨(pg t).val * 512 + z.val, by omega⟩) := by
  refine congrArg (V m c main_v7) (funext fun a => Fin.ext ?_)
  match a with
  | ⟨0, _⟩ => show win0_0.index t (0 : Fin 3) * 1 + 1 * 0 = (pb t).val; rw [index0]; simp
  | ⟨1, _⟩ => show win0_0.index t (1 : Fin 3) * 256 + 1 * i.val = (ps t).val * 256 + i.val; rw [index0]; simp
  | ⟨2, _⟩ => show win0_0.index t (2 : Fin 3) * 512 + 1 * z.val = (pg t).val * 512 + z.val; rw [index0]; simp

theorem block1 (i : Fin 256) (z : Fin 128) : (iblk m c 1 t : FVec Ideal Gqa.C3 .bf16) (ix3 (0 : Fin 1) i z)
    = (V m c main_v11 : FVec Ideal S4x256x256 .bf16) (ix3 (pb t) i ⟨(pg t).val * 128 + z.val, by omega⟩) := by
  refine congrArg (V m c main_v11) (funext fun a => Fin.ext ?_)
  match a with
  | ⟨0, _⟩ => show win0_1.index t (0 : Fin 3) * 1 + 1 * 0 = (pb t).val; rw [index1]; simp
  | ⟨1, _⟩ => show win0_1.index t (1 : Fin 3) * 256 + 1 * i.val = i.val; rw [index1]; simp
  | ⟨2, _⟩ => show win0_1.index t (2 : Fin 3) * 128 + 1 * z.val = (pg t).val * 128 + z.val; rw [index1]; simp

theorem block3 (i : Fin 4096) (z : Fin 128) : (iblk m c 3 t : FVec Ideal Gqa.L3 .bf16) (ix3 (0 : Fin 1) i z)
    = (V m c main_v9 : FVec Ideal S4x4096x256 .bf16) (ix3 (pb t) i ⟨(pg t).val * 128 + z.val, by omega⟩) := by
  refine congrArg (V m c main_v9) (funext fun a => Fin.ext ?_)
  match a with
  | ⟨0, _⟩ => show win0_3.index t (0 : Fin 3) * 1 + 1 * 0 = (pb t).val; rw [index3]; simp
  | ⟨1, _⟩ => show win0_3.index t (1 : Fin 3) * 4096 + 1 * i.val = i.val; rw [index3]; simp
  | ⟨2, _⟩ => show win0_3.index t (2 : Fin 3) * 128 + 1 * z.val = (pg t).val * 128 + z.val; rw [index3]; simp

theorem block2 (i : Fin 256) (z : Fin 128) : (iblk m c 2 t : FVec Ideal Gqa.C3 .bf16) (ix3 (0 : Fin 1) i z)
    = a4 m c (ix3 (pb t) i (vlane (pg t) z)) := by
  refine (congrArg (V m c main_arg4) (funext fun a => Fin.ext ?_)).trans (congrFun (arg_kept m c main_arg4 (by decide)) _)
  match a with
  | ⟨0, _⟩ => show win0_2.index t (0 : Fin 3) * 1 + 1 * 0 = (pb t).val; rw [index2]; simp
  | ⟨1, _⟩ => show win0_2.index t (1 : Fin 3) * 256 + 1 * i.val = i.val; rw [index2]; simp
  | ⟨2, _⟩ => show win0_2.index t (2 : Fin 3) * 128 + 1 * z.val = 1280 + (128 * (pg t).val + z.val); rw [index2]; show (10 + (pg t).val) * 128 + _ = _; omega

theorem block4 (i : Fin 4096) (z : Fin 128) : (iblk m c 4 t : FVec Ideal Gqa.L3 .bf16) (ix3 (0 : Fin 1) i z)
    = a2 m c (ix3 (pb t) i (vlane (pg t) z)) := by
  refine (congrArg (V m c main_arg2) (funext fun a => Fin.ext ?_)).trans (congrFun (arg_kept m c main_arg2 (by decide)) _)
  match a with
  | ⟨0, _⟩ => show win0_4.index t (0 : Fin 3) * 1 + 1 * 0 = (pb t).val; rw [index4]; simp
  | ⟨1, _⟩ => show win0_4.index t (1 : Fin 3) * 4096 + 1 * i.val = i.val; rw [index4]; simp
  | ⟨2, _⟩ => show win0_4.index t (2 : Fin 3) * 128 + 1 * z.val = 1280 + (128 * (pg t).val + z.val); rw [index4]; show (10 + (pg t).val) * 128 + _ = _; omega

/-- the attention of the kernel's arguments, as the reference has it -/
abbrev attn : FVec Ideal S4x4096x1024 .bf16 := Cert.ReferenceIdeal.Read.val_main_v28 (F := Ideal) (a0 m c) (a1 m c) (a2 m c) (a3 m c) (a4 m c)

variable (h0 : ∀ i, IsReal (a0 m c i)) (h1 : ∀ i, IsReal (a1 m c i)) (h3 : ∀ i, IsReal (a3 m c i))

include h0 h1 h3 in
theorem oblk_apply (i : Fin 256) (y : Fin 512) : (oblk m c t (ix3 (0 : Fin 1) i y) : EReal)
    = attn m c (ix3 (pb t) ⟨(ps t).val * 256 + i.val, by omega⟩ ⟨(pg t).val * 512 + y.val, by omega⟩) := by
  unfold oblk attn
  rw [Cert.ReferenceIdeal.Attn.ref_apply]
  refine (Gqa.outF_ref (a0 m c) (a1 m c) (a2 m c) (a3 m c) (a4 m c) h0 h1 h3 _ _ _ _ _ i y (pb t) (pg t) ⟨y.val / 128, by omega⟩
    ⟨(ps t).val * 256 + i.val, by omega⟩ (fun e => ?_) (fun j e => ?_) (fun j e => ?_) (fun j e => ?_) (fun j e => ?_)).trans ?_
  · rw [block0]
    refine queries_apply m c _ _ (head (pg t) ⟨y.val / 128, by omega⟩) e _ ?_
    show (pg t).val * 512 + (128 * (y.val / 128) + e.val) = (4 * (pg t).val + y.val / 128) * 128 + e.val
    omega
  · rw [block1]; exact ctxKeys_apply m c _ _ (pg t) e _ rfl
  · rw [block3]; exact keys_apply m c _ _ (pg t) e _ rfl
  · rw [block2]
  · rw [block4]
  · refine congrArg (Cert.ReferenceIdeal.Read.val_main_v25 (F := Ideal) _ _ _ _ _) (funext fun a => Fin.ext ?_)
    match a with
    | ⟨0, _⟩ => rfl
    | ⟨1, _⟩ => show (pg t).val = ((pg t).val * 512 + y.val) / 512; omega
    | ⟨2, _⟩ => show y.val % 128 = ((pg t).val * 512 + y.val) % 128; omega
    | ⟨3, _⟩ => show y.val / 128 = ((pg t).val * 512 + y.val) / 128 % 4; omega
    | ⟨4, _⟩ => rfl

include h0 h1 h3 in
theorem array : (dats m 0 c).arrAt 5 cfg0.N = attn m c := by
  refine (dats m 0 c).arrAt_eq_of_covers 5 _ (by decide +kernel) fun t hf y => ?_
  rw [left5]
  show oblk m c t y = attn m c (((cfg0.win 5).blk t).view.emb y)
  obtain ⟨y0, i, z, rfl⟩ : ∃ (y0 : Fin 1) (i : Fin 256) (z : Fin 512), y = ix3 y0 i z := ⟨y 0, y 1, y 2, funext fun a => match a with
    | ⟨0, _⟩ => rfl
    | ⟨1, _⟩ => rfl
    | ⟨2, _⟩ => rfl⟩
  obtain rfl : y0 = 0 := Subsingleton.elim _ _
  refine (oblk_apply m c t h0 h1 h3 i z).trans (congrArg (attn m c) (funext fun a => Fin.ext ?_))
  match a with
  | ⟨0, _⟩ => show (pb t).val = win0_5.index t (0 : Fin 3) * 1 + 1 * 0; rw [index5]; simp
  | ⟨1, _⟩ => show (ps t).val * 256 + i.val = win0_5.index t (1 : Fin 3) * 256 + 1 * i.val; rw [index5]; simp
  | ⟨2, _⟩ => show (pg t).val * 512 + z.val = win0_5.index t (2 : Fin 3) * 512 + 1 * z.val; rw [index5]; simp

end Cert.KernelIdeal.Attn

end
-- ==== Proof.Gqa.Finite.lean ====
/-
  What the precondition says: the queries and both key arrays hold real numbers.
-/
module

public import proofs.«01_k».proof.Defs
public import proofs.«01_k».proof.Proof.Gqa.Value

@[expose] public section

noncomputable section

namespace Cert.Proof

open Idealize.ShloMosaic Idealize.ShloMosaic.TcCoe
open Gqa (IsReal)

theorem pre_facts : Cert.Pre_scores_finite.Facts where
  bcast_S_S4x4096x8x128 := by decide
  bcast_S_S4x4096x2x128 := by decide
  bcast_S_S4x256x2x128 := by decide

theorem real_of_abs_lt (x : EReal) (h : Ideal.cmp .olt (max x (-x)) (Ideal.ofBits .f32 0x7F800000#32) = 1#1) : IsReal x := by
  rw [show Ideal.ofBits .f32 0x7F800000#32 = ⊤ by simp [Ideal.ofBits, Ideal.ieee]] at h
  induction x using EReal.rec with
  | bot => simp [Ideal.cmp] at h
  | top => simp [Ideal.cmp] at h
  | coe r => exact ⟨r, rfl⟩

theorem pre_real (m : (ℓ : Loc Cert.KernelIdeal.nD Cert.KernelIdeal.τ Cert.KernelIdeal.sig) → Buf (Elt Ideal) ℓ)
    (h : Cert.Pre_KernelIdeal_scores_finite (hPre_scores_finite := pre_facts) m) (c : Dev Cert.KernelIdeal.nD) :
    (∀ i, IsReal (Cert.KernelIdeal.Attn.a0 m c i)) ∧ (∀ i, IsReal (Cert.KernelIdeal.Attn.a1 m c i)) ∧ (∀ i, IsReal (Cert.KernelIdeal.Attn.a3 m c i)) :=
  ⟨fun i => real_of_abs_lt _ (congrFun (h c).1 i), fun i => real_of_abs_lt _ (congrFun (h c).2.1 i), fun i => real_of_abs_lt _ (congrFun (h c).2.2 i)⟩

end Cert.Proof

end
-- ==== Proof.Outproj.Row.lean ====
/-
  The output projection of one row: the gated mix of the three branches, and the layer norm that ends the layer.  The values that the
  kernel's stores take are these at a row and a lane.
-/
module

public import proofs.«01_k».proof.Proof.Gen.OutprojIdeal.Skeleton
public import Idealize.ShloMosaic.Lib.ValueLayoutCasts
public import Idealize.ShloMosaic.PureOps.Ideal.Laws
public import Idealize.ShloMosaic.Lib.Pipeline.Value
public import Idealize.ShloMosaic.Lib.Pointwise.Contract

@[expose] public section

noncomputable section

namespace Outproj

open Cert.OutprojIdeal Cert.OutprojIdeal.Gen
open Idealize.ShloMosaic hiding ix1 ix2 ix3 ix4 ix5
open Idealize.ShloMosaic.ValueIdx

def silu (z : EReal) : EReal := z * Ideal.logistic z
def eps : EReal := Ideal.ofBits .f32 0x358637BD#32
def alpha : EReal := Ideal.ofBits .f32 0x3FB504F3#32
def n128 : EReal := Ideal.ofBits .f32 0x43000000#32
def n2048 : EReal := Ideal.ofBits .f32 0x45000000#32

/-- a row over the root of the mean of its squares -/
def rms {n : Nat} (N : EReal) (v : Fin n → EReal) (e : Fin n) : EReal := v e * Ideal.rsqrt (Ideal.div (∑ k, v k * v k) N + eps)
/-- a row less its mean -/
def centred {n : Nat} (N : EReal) (v : Fin n → EReal) (e : Fin n) : EReal := v e - Ideal.div (∑ k, v k) N
/-- the layer norm of the residual sum -/
def finish (x g y lg lb : Fin 2048 → EReal) (e : Fin 2048) : EReal :=
  rms n2048 (centred n2048 fun k => alpha * x k + g k * y k) e * lg e + lb e

/-- lane `e` of head `h` -/
def lane (h : Fin 4) (e : Fin 128) : Fin 512 := ⟨128 * h.val + e.val, by omega⟩

/-- one head of the third branch, normed, gained and gated -/
def headVal (oc : Fin 512 → EReal) (n : Fin 128 → EReal) (zc : Fin 512 → EReal) (h : Fin 4) (e : Fin 128) : EReal :=
  rms n128 (fun k => oc (lane h k)) e * n e * silu (zc (lane h e))

/-- the three branches side by side -/
def mix (ya za : Fin 1024 → EReal) (yb zb oc : Fin 512 → EReal) (n : Fin 128 → EReal) (zc : Fin 512 → EReal) (k : Fin 2048) : EReal :=
  if ha : k.val < 1024 then ya ⟨k.val, ha⟩ * silu (za ⟨k.val, ha⟩)
  else if hb : k.val < 1536 then yb ⟨k.val - 1024, by omega⟩ * silu (zb ⟨k.val - 1024, by omega⟩)
  else headVal oc n zc ⟨(k.val - 1536) / 128, by omega⟩ ⟨(k.val - 1536) % 128, by omega⟩

section
variable (ya za : Fin 1024 → EReal) (yb zb oc : Fin 512 → EReal) (n : Fin 128 → EReal) (zc : Fin 512 → EReal)

theorem mix_a (j : Fin 1024) (k : Fin 2048) (hk : k.val = j.val) : mix ya za yb zb oc n zc k = ya j * silu (za j) := by
  unfold mix
  rw [dif_pos (by omega)]
  have e : (⟨k.val, by omega⟩ : Fin 1024) = j := Fin.ext hk
  rw [e]

theorem mix_b (j : Fin 512) (k : Fin 2048) (hk : k.val = 1024 + j.val) : mix ya za yb zb oc n zc k = yb j * silu (zb j) := by
  unfold mix
  rw [dif_neg (by omega), dif_pos (by omega)]
  have e : (⟨k.val - 1024, by omega⟩ : Fin 512) = j := Fin.ext (by show k.val - 1024 = j.val; omega)
  rw [e]

theorem mix_c (h : Fin 4) (e : Fin 128) (k : Fin 2048) (hk : k.val = 1536 + (128 * h.val + e.val)) :
    mix ya za yb zb oc n zc k = headVal oc n zc h e := by
  unfold mix
  rw [dif_neg (by omega), dif_neg (by omega)]
  exact congrArg₂ (headVal oc n zc) (Fin.ext (by show (k.val - 1536) / 128 = h.val; omega)) (Fin.ext (by show (k.val - 1536) % 128 = e.val; omega))

end

/-! ## The stored values -/

theorem red128 : S256x128.Reduces [1] S256 := by decide
theorem red2048 : S256x2048.Reduces [1] S256 := by decide

theorem lift128 (r : Fin 256) (k : Fin 128) : red128.lift (ix1 r) k = ix2 r k := by
  funext y
  match y with
  | ⟨0, _⟩ => rfl
  | ⟨1, _⟩ => rfl

theorem lift2048 (r : Fin 256) (k : Fin 2048) : red2048.lift (ix1 r) k = ix2 r k := by
  funext y
  match y with
  | ⟨0, _⟩ => rfl
  | ⟨1, _⟩ => rfl

theorem sum128 (v : FVec Ideal S256x128 .f32) (r : Fin 256) :
    shapeCast S256x1 (multiReduction .add [1] S256 v 0x00000000#32 reduces_S256x128_S256 (.inl rfl) rfl) shapeCasts_S256_S256x1 (ix2 r (0 : Fin 1))
      = ∑ k : Fin 128, v (ix2 r k) := by
  refine (shapeCast_a_a1_apply _ _ r 0).trans ((Ideal.multiReduction_add_single v _ red128 _ _ (ix1 r)).trans ?_)
  exact Finset.sum_congr rfl fun k _ => congrArg v (lift128 r k)

theorem sum2048 (v : FVec Ideal S256x2048 .f32) (r : Fin 256) :
    shapeCast S256x1 (multiReduction .add [1] S256 v 0x00000000#32 reduces_S256x2048_S256 (.inl rfl) rfl) shapeCasts_S256_S256x1 (ix2 r (0 : Fin 1))
      = ∑ k : Fin 2048, v (ix2 r k) := by
  refine (shapeCast_a_a1_apply _ _ r 0).trans ((Ideal.multiReduction_add_single v _ red2048 _ _ (ix1 r)).trans ?_)
  exact Finset.sum_congr rfl fun k _ => congrArg v (lift2048 r k)

/-- a column spread over the lanes -/
theorem spread {n : Nat} (hn : n ≠ 1) (w : FVec Ideal S256x1 .f32) (h : S256x1.Broadcasts (⟨2, ![256, n]⟩ : Shape)) (r : Fin 256) (e : Fin n) :
    broadcastTo (⟨2, ![256, n]⟩ : Shape) w h (ix2 r e) = w (ix2 r (0 : Fin 1)) :=
  broadcastTo_apply _ _ _ (ix2 r (0 : Fin 1)) (fun a => by
    match a with
    | ⟨0, _⟩ => rfl
    | ⟨1, _⟩ => rfl)

/-- a row spread over the rows -/
theorem stack {n : Nat} (hn : n ≠ 1) (w : FVec Ideal (⟨2, ![1, n]⟩ : Shape) .f32) (h : (⟨2, ![1, n]⟩ : Shape).Broadcasts (⟨2, ![256, n]⟩ : Shape)) (r : Fin 256) (e : Fin n) :
    broadcastTo (⟨2, ![256, n]⟩ : Shape) w h (ix2 r e) = w (ix2 (0 : Fin 1) e) :=
  broadcastTo_apply _ _ _ (ix2 (0 : Fin 1) e) (fun a => by
    match a with
    | ⟨0, _⟩ => rfl
    | ⟨1, _⟩ => exact (if_neg hn).symm)

theorem gate_apply (y z : FVec Ideal S256x512 .bf16) (i : S256x512.Idx) : (k0_pay1 y z : FVec Ideal S256x512 .bf16) i = y i * silu (z i) := by
  unfold k0_pay1
  simp only [shapeCast_self]
  rfl

theorem head_apply (a b : FVec Ideal S256x128 .f32) (n : FVec Ideal S1x128 .f32) (z : FVec Ideal S256x128 .bf16) (r : Fin 256) (e : Fin 128) :
    (k0_pay4 a b n z : FVec Ideal S256x128 .bf16) (ix2 r e)
      = rms n128 (fun k => a (ix2 r k) + b (ix2 r k)) e * n (ix2 (0 : Fin 1) e) * silu (z (ix2 r e)) := by
  unfold k0_pay4
  simp only [shapeCast_self]
  show (_ * broadcastTo S256x128 _ _ _) * broadcastTo S256x128 _ _ _ * silu _ = _
  rw [spread (by decide), stack (by decide)]
  show _ * Ideal.rsqrt (Ideal.div (shapeCast S256x1 _ _ _) n128 + eps) * _ * _ = _
  rw [sum128]
  rfl

theorem product_apply (v : FVec Ideal S256x2048 .bf16) (w : FVec Ideal S2048x2048 .bf16) (r : Fin 256) (e : Fin 2048) :
    (k0_pay11 v w : FVec Ideal S256x2048 .f32) (ix2 r e) = ∑ k : Fin 2048, v (ix2 r k) * w (ix2 k e) := by
  unfold k0_pay11
  simp only [shapeCast_self, matmul]
  rw [Ideal.matmul_constant_zero_apply, DotDims.sum_contr₁ dot_S256x2048_S2048x2048_S256x2048_1_0_0_1_n_n (a := 1) rfl (K := 2048) rfl]
  refine Finset.sum_congr rfl fun k _ => ?_
  congr 2
  · funext y
    match y with
    | ⟨0, _⟩ => rfl
    | ⟨1, _⟩ => rfl
  · funext y
    match y with
    | ⟨0, _⟩ => rfl
    | ⟨1, _⟩ => rfl

theorem one_row (g : FVec Ideal S1x1x2048 .f32) (e : Fin 2048) :
    shapeCast S1x2048 g shapeCasts_S1x1x2048_S1x2048 (ix2 (0 : Fin 1) e) = g (ix3 (0 : Fin 1) (0 : Fin 1) e) :=
  shapeCast_1ab_ab_apply _ _ _ _

theorem finish_apply (x : FVec Ideal S256x2048 .f32) (g : FVec Ideal S1x1x2048 .f32) (y : FVec Ideal S256x2048 .f32) (lg lb : FVec Ideal S1x2048 .f32)
    (r : Fin 256) (e : Fin 2048) :
    (k0_pay23 x g y lg lb : FVec Ideal S256x2048 .f32) (ix2 r e)
      = finish (fun k => x (ix2 r k)) (fun k => g (ix3 (0 : Fin 1) (0 : Fin 1) k)) (fun k => y (ix2 r k)) (fun k => lg (ix2 (0 : Fin 1) k))
          (fun k => lb (ix2 (0 : Fin 1) k)) e := by
  have rest : ∀ k : Fin 2048, addf (F := Ideal) (mulf (broadcast S256x2048 (Scalar.ofBits (F := Ideal) .f32 0x3FB504F3#32)) x)
      (mulf (broadcastTo S256x2048 (shapeCast S1x2048 g shapeCasts_S1x1x2048_S1x2048) broadcasts_S1x2048_S256x2048) y) (ix2 r k)
      = alpha * x (ix2 r k) + g (ix3 (0 : Fin 1) (0 : Fin 1) k) * y (ix2 r k) := fun k => by
    show alpha * _ + broadcastTo S256x2048 _ _ _ * _ = _
    rw [stack (by decide), one_row]
  unfold k0_pay23
  simp only [shapeCast_self]
  generalize addf (F := Ideal) (mulf (broadcast S256x2048 (Scalar.ofBits (F := Ideal) .f32 0x3FB504F3#32)) x)
      (mulf (broadcastTo S256x2048 (shapeCast S1x2048 g shapeCasts_S1x1x2048_S1x2048) broadcasts_S1x2048_S256x2048) y) = t at rest ⊢
  have mid : ∀ k : Fin 2048, subf (F := Ideal) t (broadcastTo S256x2048 (divf (shapeCast S256x1 (multiReduction .add [1] S256 t 0x00000000#32 reduces_S256x2048_S256 (.inl rfl) rfl) shapeCasts_S256_S256x1) (broadcast S256x1 (Scalar.ofBits (F := Ideal) .f32 0x45000000#32))) broadcasts_S256x1_S256x2048) (ix2 r k)
      = centred n2048 (fun k => t (ix2 r k)) k := fun k => by
    show _ - broadcastTo S256x2048 _ _ _ = _
    rw [spread (by decide)]
    show _ - Ideal.div (shapeCast S256x1 _ _ _) n2048 = _
    rw [sum2048]
    rfl
  generalize subf (F := Ideal) t (broadcastTo S256x2048 (divf (shapeCast S256x1 (multiReduction .add [1] S256 t 0x00000000#32 reduces_S256x2048_S256 (.inl rfl) rfl) shapeCasts_S256_S256x1) (broadcast S256x1 (Scalar.ofBits (F := Ideal) .f32 0x45000000#32))) broadcasts_S256x1_S256x2048) = u at mid ⊢
  show (_ * broadcastTo S256x2048 _ _ _) * broadcastTo S256x2048 _ _ _ + broadcastTo S256x2048 _ _ _ = _
  rw [spread (by decide), stack (by decide), stack (by decide)]
  show (_ * Ideal.rsqrt (Ideal.div (shapeCast S256x1 _ _ _) n2048 + eps)) * _ + _ = _
  rw [sum2048]
  show (u (ix2 r e) * Ideal.rsqrt (Ideal.div (∑ k : Fin 2048, u (ix2 r k) * u (ix2 r k)) n2048 + eps)) * _ + _ = _
  simp only [mid, rest]
  rfl

end Outproj

end
-- ==== Proof.Outproj.Block.lean ====
/-
  What one grid point leaves in its block of the result, as a function of its input blocks: the stores of the mixed rows are blocks of
  one array, so the loads of the product read that array; the stores of the product and of the result are taken the same way.
-/
module

public import proofs.«01_k».proof.Proof.Outproj.Row
public import proofs.«01_k».proof.Proof.Gen.OutprojIdeal.Frame
public import Idealize.ShloMosaic.Lib.Pipeline.ReadBack
public import Idealize.ShloMosaic.Lib.Pipeline.ValueKit.Tiles

@[expose] public section

noncomputable section

namespace Outproj

open Cert.OutprojIdeal Cert.OutprojIdeal.Gen
open Idealize.ShloMosaic hiding ix1 ix2 ix3 ix4 ix5
open Idealize.ShloMosaic.ValueIdx

/-- A load of a rectangle of a whole buffer, at a row and a lane. -/
theorem load_apply {N M n m : Nat} {φ : EltTy} (a : Memref sig .tc .vmem (⟨2, ![N, M]⟩ : Shape) φ) (h : a.IsWhole) (X : Vec Ideal (⟨2, ![N, M]⟩ : Shape) φ)
    (o p : Nat) (inb : ∀ b, (![o, p] : Fin 2 → Nat) b + (⟨2, ![n, m]⟩ : Shape).size b ≤ (⟨2, ![N, M]⟩ : Shape).size b) (r : Fin n) (e : Fin m) (i : Fin N) (j : Fin M)
    (hi : i.val = o + r.val) (hj : j.val = p + e.val) :
    View.readAt (Elt Ideal) a.view (Rect.unit (s := (⟨2, ![N, M]⟩ : Shape)) ![o, p] (⟨2, ![n, m]⟩ : Shape).size inb).toLoadRect (h.unread X) (ix2 r e) = X (ix2 i j) := by
  rw [View.readAt_eq_ld, h.read_unread]
  exact View.ld_unit_apply_of X ![o, p] _ inb (ix2 r e) (ix2 i j) (fun b => by
    match b with
    | ⟨0, _⟩ => exact hi
    | ⟨1, _⟩ => exact hj)

/-- two half rows as one -/
def join (x y : Fin 512 → EReal) (j : Fin 1024) : EReal := if h : j.val < 512 then x ⟨j.val, h⟩ else y ⟨j.val - 512, by omega⟩

theorem join_fst (x y : Fin 512 → EReal) (i : Fin 512) (j : Fin 1024) (h : j.val = i.val) : join x y j = x i := by
  unfold join
  rw [dif_pos (by omega)]
  exact congrArg x (Fin.ext h)

theorem join_snd (x y : Fin 512 → EReal) (i : Fin 512) (j : Fin 1024) (h : j.val = 512 + i.val) : join x y j = y i := by
  unfold join
  rw [dif_neg (by omega)]
  exact congrArg y (Fin.ext (by show j.val - 512 = i.val; omega))

section
variable (x2 : Vec Ideal S512x1024 .bf16) (x3 x4 x5 x6 : Vec Ideal S512x512 .bf16) (x7 x8 : Vec Ideal S512x512 .f32) (x9 : Vec Ideal S512x512 .bf16)
  (x10 : Vec Ideal S1x128 .f32)

/-- row `R` of the mixed block at lane `k` -/
def mixRow (R : Fin 512) (k : Fin 2048) : EReal :=
  mix (fun j => x2 (ix2 R j)) (join (fun j => x3 (ix2 R j)) (fun j => x4 (ix2 R j))) (fun j => x5 (ix2 R j)) (fun j => x6 (ix2 R j))
    (fun j => x7 (ix2 R j) + x8 (ix2 R j)) (fun j => x10 (ix2 (0 : Fin 1) j)) (fun j => x9 (ix2 R j)) k

/-- the mixed block -/
def mixBlock (y : S512x2048.Idx) : EReal := mixRow x2 x3 x4 x5 x6 x7 x8 x9 x10 (y 0) (y 1)

theorem mixBlock_apply (y : S512x2048.Idx) (R : Fin 512) (k : Fin 2048) (h0 : (y 0).val = R.val) (h1 : (y 1).val = k.val) :
    mixBlock x2 x3 x4 x5 x6 x7 x8 x9 x10 y = mixRow x2 x3 x4 x5 x6 x7 x8 x9 x10 R k :=
  congrArg₂ (mixRow x2 x3 x4 x5 x6 x7 x8 x9 x10) (Fin.ext h0) (Fin.ext h1)

theorem piece_a0 (o : Nat) (a3 : Memref sig .tc .vmem S512x1024 .bf16) (h3 : a3.IsWhole) (a4 : Memref sig .tc .vmem S512x512 .bf16) (h4 : a4.IsWhole)
    (i3 : ∀ b, (![o, 0] : Fin 2 → Nat) b + S256x512.size b ≤ S512x1024.size b) (i4 : ∀ b, (![o, 0] : Fin 2 → Nat) b + S256x512.size b ≤ S512x512.size b)
    (iw : ∀ b, (![o, 0] : Fin 2 → Nat) b + S256x512.size b ≤ S512x2048.size b) (x : S256x512.Idx) :
    (k0_pay1 (View.readAt (Elt Ideal) a3.view (Rect.unit (s := S512x1024) ![o, 0] S256x512.size i3).toLoadRect (h3.unread x2))
      (View.readAt (Elt Ideal) a4.view (Rect.unit (s := S512x512) ![o, 0] S256x512.size i4).toLoadRect (h4.unread x3)) : FVec Ideal S256x512 .bf16) x
      = mixBlock x2 x3 x4 x5 x6 x7 x8 x9 x10 ((Rect.unit (s := S512x2048) ![o, 0] S256x512.size iw).emb x) := by
  obtain ⟨r, e, rfl⟩ : ∃ (r : Fin 256) (e : Fin 512), x = ix2 r e := ⟨x 0, x 1, ValueIdx.eq_ix2 x⟩
  have ho : o + 256 ≤ 512 := iw 0
  rw [gate_apply, load_apply a3 h3 x2 o 0 i3 r e ⟨o + r.val, by omega⟩ ⟨e.val, by omega⟩ rfl (Nat.zero_add _).symm,
    load_apply a4 h4 x3 o 0 i4 r e ⟨o + r.val, by omega⟩ e rfl (Nat.zero_add _).symm]
  refine Eq.symm ((mixBlock_apply x2 x3 x4 x5 x6 x7 x8 x9 x10 _ ⟨o + r.val, by omega⟩ ⟨0 + e.val, by omega⟩
    (by show o + 1 * r.val = o + r.val; omega) (by show 0 + 1 * e.val = 0 + e.val; omega)).trans ?_)
  unfold mixRow
  rw [mix_a _ _ _ _ _ _ _ ⟨e.val, by omega⟩ _ (by show 0 + e.val = e.val; omega), join_fst _ _ e _ rfl]

theorem piece_a1 (o : Nat) (a3 : Memref sig .tc .vmem S512x1024 .bf16) (h3 : a3.IsWhole) (a5 : Memref sig .tc .vmem S512x512 .bf16) (h5 : a5.IsWhole)
    (i3 : ∀ b, (![o, 512] : Fin 2 → Nat) b + S256x512.size b ≤ S512x1024.size b) (i5 : ∀ b, (![o, 0] : Fin 2 → Nat) b + S256x512.size b ≤ S512x512.size b)
    (iw : ∀ b, (![o, 512] : Fin 2 → Nat) b + S256x512.size b ≤ S512x2048.size b) (x : S256x512.Idx) :
    (k0_pay1 (View.readAt (Elt Ideal) a3.view (Rect.unit (s := S512x1024) ![o, 512] S256x512.size i3).toLoadRect (h3.unread x2))
      (View.readAt (Elt Ideal) a5.view (Rect.unit (s := S512x512) ![o, 0] S256x512.size i5).toLoadRect (h5.unread x4)) : FVec Ideal S256x512 .bf16) x
      = mixBlock x2 x3 x4 x5 x6 x7 x8 x9 x10 ((Rect.unit (s := S512x2048) ![o, 512] S256x512.size iw).emb x) := by
  obtain ⟨r, e, rfl⟩ : ∃ (r : Fin 256) (e : Fin 512), x = ix2 r e := ⟨x 0, x 1, ValueIdx.eq_ix2 x⟩
  have ho : o + 256 ≤ 512 := iw 0
  rw [gate_apply, load_apply a3 h3 x2 o 512 i3 r e ⟨o + r.val, by omega⟩ ⟨512 + e.val, by omega⟩ rfl rfl,
    load_apply a5 h5 x4 o 0 i5 r e ⟨o + r.val, by omega⟩ e rfl (Nat.zero_add _).symm]
  refine Eq.symm ((mixBlock_apply x2 x3 x4 x5 x6 x7 x8 x9 x10 _ ⟨o + r.val, by omega⟩ ⟨512 + e.val, by omega⟩
    (by show o + 1 * r.val = o + r.val; omega) (by show 512 + 1 * e.val = 512 + e.val; omega)).trans ?_)
  unfold mixRow
  rw [mix_a _ _ _ _ _ _ _ ⟨512 + e.val, by omega⟩ _ (by show 512 + e.val = 512 + e.val; omega), join_snd _ _ e _ rfl]

theorem piece_b (o : Nat) (a6 : Memref sig .tc .vmem S512x512 .bf16) (h6 : a6.IsWhole) (a7 : Memref sig .tc .vmem S512x512 .bf16) (h7 : a7.IsWhole)
    (i6 : ∀ b, (![o, 0] : Fin 2 → Nat) b + S256x512.size b ≤ S512x512.size b) (iw : ∀ b, (![o, 1024] : Fin 2 → Nat) b + S256x512.size b ≤ S512x2048.size b)
    (x : S256x512.Idx) :
    (k0_pay1 (View.readAt (Elt Ideal) a6.view (Rect.unit (s := S512x512) ![o, 0] S256x512.size i6).toLoadRect (h6.unread x5))
      (View.readAt (Elt Ideal) a7.view (Rect.unit (s := S512x512) ![o, 0] S256x512.size i6).toLoadRect (h7.unread x6)) : FVec Ideal S256x512 .bf16) x
      = mixBlock x2 x3 x4 x5 x6 x7 x8 x9 x10 ((Rect.unit (s := S512x2048) ![o, 1024] S256x512.size iw).emb x) := by
  obtain ⟨r, e, rfl⟩ : ∃ (r : Fin 256) (e : Fin 512), x = ix2 r e := ⟨x 0, x 1, ValueIdx.eq_ix2 x⟩
  have ho : o + 256 ≤ 512 := iw 0
  rw [gate_apply, load_apply a6 h6 x5 o 0 i6 r e ⟨o + r.val, by omega⟩ e rfl (Nat.zero_add _).symm,
    load_apply a7 h7 x6 o 0 i6 r e ⟨o + r.val, by omega⟩ e rfl (Nat.zero_add _).symm]
  refine Eq.symm ((mixBlock_apply x2 x3 x4 x5 x6 x7 x8 x9 x10 _ ⟨o + r.val, by omega⟩ ⟨1024 + e.val, by omega⟩
    (by show o + 1 * r.val = o + r.val; omega) (by show 1024 + 1 * e.val = 1024 + e.val; omega)).trans ?_)
  unfold mixRow
  rw [mix_b _ _ _ _ _ _ _ e _ (by show 1024 + e.val = 1024 + e.val; omega)]

theorem piece_c (o : Nat) (h : Fin 4) (a8 : Memref sig .tc .vmem S512x512 .f32) (h8 : a8.IsWhole) (a9 : Memref sig .tc .vmem S512x512 .f32) (h9 : a9.IsWhole)
    (a10 : Memref sig .tc .vmem S512x512 .bf16) (h10 : a10.IsWhole) (a11 : Memref sig .tc .vmem S1x128 .f32) (h11 : a11.IsWhole)
    (p w : Nat) (hp : p = 128 * h.val) (hw : w = 1536 + p)
    (i8 : ∀ b, (![o, p] : Fin 2 → Nat) b + S256x128.size b ≤ S512x512.size b) (i11 : ∀ b, (![0, 0] : Fin 2 → Nat) b + S1x128.size b ≤ S1x128.size b)
    (iw : ∀ b, (![o, w] : Fin 2 → Nat) b + S256x128.size b ≤ S512x2048.size b) (x : S256x128.Idx) :
    (k0_pay4 (View.readAt (Elt Ideal) a8.view (Rect.unit (s := S512x512) ![o, p] S256x128.size i8).toLoadRect (h8.unread x7))
      (View.readAt (Elt Ideal) a9.view (Rect.unit (s := S512x512) ![o, p] S256x128.size i8).toLoadRect (h9.unread x8))
      (View.readAt (Elt Ideal) a11.view (Rect.unit (s := S1x128) ![0, 0] S1x128.size i11).toLoadRect (h11.unread x10))
      (View.readAt (Elt Ideal) a10.view (Rect.unit (s := S512x512) ![o, p] S256x128.size i8).toLoadRect (h10.unread x9)) : FVec Ideal S256x128 .bf16) x
      = mixBlock x2 x3 x4 x5 x6 x7 x8 x9 x10 ((Rect.unit (s := S512x2048) ![o, w] S256x128.size iw).emb x) := by
  obtain ⟨r, e, rfl⟩ : ∃ (r : Fin 256) (e : Fin 128), x = ix2 r e := ⟨x 0, x 1, ValueIdx.eq_ix2 x⟩
  have ho : o + 256 ≤ 512 := iw 0
  have l8 := fun k : Fin 128 => load_apply a8 h8 x7 o p i8 r k ⟨o + r.val, by omega⟩ (lane h k) rfl (by rw [hp]; rfl)
  have l9 := fun k : Fin 128 => load_apply a9 h9 x8 o p i8 r k ⟨o + r.val, by omega⟩ (lane h k) rfl (by rw [hp]; rfl)
  rw [head_apply, load_apply a11 h11 x10 0 0 i11 (0 : Fin 1) e 0 e rfl (Nat.zero_add _).symm,
    load_apply a10 h10 x9 o p i8 r e ⟨o + r.val, by omega⟩ (lane h e) rfl (by rw [hp]; rfl)]
  simp only [l8, l9]
  refine Eq.symm ((mixBlock_apply x2 x3 x4 x5 x6 x7 x8 x9 x10 _ ⟨o + r.val, by omega⟩ ⟨w + e.val, by omega⟩
    (by show o + 1 * r.val = o + r.val; omega) (by show w + 1 * e.val = w + e.val; omega)).trans ?_)
  unfold mixRow
  rw [mix_c _ _ _ _ _ _ _ h e _ (by show w + e.val = 1536 + (128 * h.val + e.val); omega)]
  rfl

end

/-- Seven stores of 256 rows cover them. -/
theorem cover_rows (o : Nat) (L : List (View.Piece (Elt Ideal) S512x2048 .bf16))
    (i0 : ∀ b, (![o, 0] : Fin 2 → Nat) b + S256x512.size b ≤ S512x2048.size b) (w0) (i1 : ∀ b, (![o, 512] : Fin 2 → Nat) b + S256x512.size b ≤ S512x2048.size b) (w1)
    (i2 : ∀ b, (![o, 1024] : Fin 2 → Nat) b + S256x512.size b ≤ S512x2048.size b) (w2) (i3 : ∀ b, (![o, 1536] : Fin 2 → Nat) b + S256x128.size b ≤ S512x2048.size b) (w3)
    (i4 : ∀ b, (![o, 1664] : Fin 2 → Nat) b + S256x128.size b ≤ S512x2048.size b) (w4) (i5 : ∀ b, (![o, 1792] : Fin 2 → Nat) b + S256x128.size b ≤ S512x2048.size b) (w5)
    (i6 : ∀ b, (![o, 1920] : Fin 2 → Nat) b + S256x128.size b ≤ S512x2048.size b) (w6)
    (y : S512x2048.Idx) (hy : o ≤ (y 0).val ∧ (y 0).val < o + 256) :
    ∃ p ∈ ((⟨Rect.unit ![o, 1920] S256x128.size i6, w6⟩ :: ⟨Rect.unit ![o, 1792] S256x128.size i5, w5⟩ :: ⟨Rect.unit ![o, 1664] S256x128.size i4, w4⟩
        :: ⟨Rect.unit ![o, 1536] S256x128.size i3, w3⟩ :: ⟨Rect.unit ![o, 1024] S256x512.size i2, w2⟩ :: ⟨Rect.unit ![o, 512] S256x512.size i1, w1⟩
        :: ⟨Rect.unit ![o, 0] S256x512.size i0, w0⟩ :: L) : List (View.Piece (Elt Ideal) S512x2048 .bf16)), y ∈ p.1.set := by
  have inside : ∀ (q n : Nat) (i : ∀ b, (![o, q] : Fin 2 → Nat) b + (⟨2, ![256, n]⟩ : Shape).size b ≤ S512x2048.size b), q ≤ (y 1).val → (y 1).val < q + n →
      y ∈ (Rect.unit (s := S512x2048) ![o, q] (⟨2, ![256, n]⟩ : Shape).size i).set := fun q n i hl hu => Rect.mem_set_unit.2 (fun b => by
    match b with
    | ⟨0, _⟩ => exact hy
    | ⟨1, _⟩ => exact ⟨hl, hu⟩)
  have hk : (y 1).val < 2048 := (y 1).isLt
  by_cases h6 : 1920 ≤ (y 1).val
  · exact ⟨_, .head _, inside 1920 128 i6 h6 (by omega)⟩
  by_cases h5 : 1792 ≤ (y 1).val
  · exact ⟨_, .tail _ (.head _), inside 1792 128 i5 h5 (by omega)⟩
  by_cases h4 : 1664 ≤ (y 1).val
  · exact ⟨_, .tail _ (.tail _ (.head _)), inside 1664 128 i4 h4 (by omega)⟩
  by_cases h3 : 1536 ≤ (y 1).val
  · exact ⟨_, .tail _ (.tail _ (.tail _ (.head _))), inside 1536 128 i3 h3 (by omega)⟩
  by_cases h2 : 1024 ≤ (y 1).val
  · exact ⟨_, .tail _ (.tail _ (.tail _ (.tail _ (.head _)))), inside 1024 512 i2 h2 (by omega)⟩
  by_cases h1 : 512 ≤ (y 1).val
  · exact ⟨_, .tail _ (.tail _ (.tail _ (.tail _ (.tail _ (.head _))))), inside 512 512 i1 h1 (by omega)⟩
  · exact ⟨_, .tail _ (.tail _ (.tail _ (.tail _ (.tail _ (.tail _ (.head _)))))), inside 0 512 i0 (Nat.zero_le _) (by omega)⟩

/-- Two stores of 256 whole rows cover the block. -/
theorem cover_halves (i0 : ∀ b, (![0, 0] : Fin 2 → Nat) b + S256x2048.size b ≤ S512x2048.size b) (w0)
    (i1 : ∀ b, (![256, 0] : Fin 2 → Nat) b + S256x2048.size b ≤ S512x2048.size b) (w1) (y : S512x2048.Idx) :
    ∃ p ∈ ([⟨Rect.unit ![256, 0] S256x2048.size i1, w1⟩, ⟨Rect.unit ![0, 0] S256x2048.size i0, w0⟩] : List (View.Piece (Elt Ideal) S512x2048 .f32)), y ∈ p.1.set := by
  have hr : (y 0).val < 512 := (y 0).isLt
  have hk : (y 1).val < 2048 := (y 1).isLt
  by_cases h : 256 ≤ (y 0).val
  · refine ⟨_, .head _, (Rect.mem_set_unit (inb := i1)).2 fun b => ?_⟩
    match b with
    | ⟨0, _⟩ => exact ⟨h, hr⟩
    | ⟨1, _⟩ => exact ⟨Nat.zero_le _, hk⟩
  · refine ⟨_, .tail _ (.head _), (Rect.mem_set_unit (inb := i0)).2 fun b => ?_⟩
    match b with
    | ⟨0, _⟩ => exact ⟨Nat.zero_le _, by show (y 0).val < 0 + 256; omega⟩
    | ⟨1, _⟩ => exact ⟨Nat.zero_le _, hk⟩

end Outproj

end
-- ==== Proof.Outproj.Out.lean ====
/-
  The block that one grid point leaves: the mixed rows, their product with the weights, and the layer norm of the residual sum.
-/
module

public import proofs.«01_k».proof.Proof.Outproj.Block

@[expose] public section

noncomputable section

namespace Outproj

open Cert.OutprojIdeal Cert.OutprojIdeal.Gen
open Idealize.ShloMosaic hiding ix1 ix2 ix3 ix4 ix5
open Idealize.ShloMosaic.ValueIdx

section
variable (c : Dev nD)
  (arg1 : Memref sig .tc .vmem S512x2048 .f32) (harg1 : arg1.IsWhole)
  (arg2 : Memref sig .tc .vmem S1x1x2048 .f32) (harg2 : arg2.IsWhole)
  (arg3 : Memref sig .tc .vmem S512x1024 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .f32) (harg8 : arg8.IsWhole)
  (arg9 : Memref sig .tc .vmem S512x512 .f32) (harg9 : arg9.IsWhole)
  (arg10 : Memref sig .tc .vmem S512x512 .bf16) (harg10 : arg10.IsWhole)
  (arg11 : Memref sig .tc .vmem S1x128 .f32) (harg11 : arg11.IsWhole)
  (arg12 : Memref sig .tc .vmem S2048x2048 .bf16) (harg12 : arg12.IsWhole)
  (arg13 : Memref sig .tc .vmem S1x2048 .f32) (harg13 : arg13.IsWhole)
  (arg14 : Memref sig .tc .vmem S1x2048 .f32) (harg14 : arg14.IsWhole)
  (arg15 : Memref sig .tc .vmem S512x2048 .f32) (harg15 : arg15.IsWhole)
  (arg16 : Memref sig .tc .vmem S512x2048 .bf16) (harg16 : arg16.IsWhole)
  (arg17 : Memref sig .tc .vmem S512x2048 .f32) (harg17 : arg17.IsWhole)
  (x0 : Vec Ideal S512x2048 .f32) (x1 : Vec Ideal S1x1x2048 .f32)
  (x2 : Vec Ideal S512x1024 .bf16) (x3 x4 x5 x6 : Vec Ideal S512x512 .bf16) (x7 x8 : Vec Ideal S512x512 .f32) (x9 : Vec Ideal S512x512 .bf16)
  (x10 : Vec Ideal S1x128 .f32) (x11 : Vec Ideal S2048x2048 .bf16) (x12 x13 : Vec Ideal S1x2048 .f32)

/-- the stores of the first 256 mixed rows -/
theorem stores_fst : View.PiecesOf (mixBlock x2 x3 x4 x5 x6 x7 x8 x9 x10) (kernelRun0_A.sl.HS0_7 (F := Ideal) c arg3 harg3 arg4 harg4 arg5 harg5 arg6 harg6 arg7 harg7 arg8 harg8 arg9 harg9 arg10 harg10 arg11 harg11 x2 x3 x4 x5 x6 x7 x8 x9 x10) :=
  ⟨piece_c x2 x3 x4 x5 x6 x7 x8 x9 x10 0 3 arg8 harg8 arg9 harg9 arg10 harg10 arg11 harg11 384 1920 rfl rfl inb_S512x512_S256x128_0_384 inb_S1x128_S1x128_0_0 inb_S512x2048_S256x128_0_1920,
    piece_c x2 x3 x4 x5 x6 x7 x8 x9 x10 0 2 arg8 harg8 arg9 harg9 arg10 harg10 arg11 harg11 256 1792 rfl rfl inb_S512x512_S256x128_0_256 inb_S1x128_S1x128_0_0 inb_S512x2048_S256x128_0_1792,
    piece_c x2 x3 x4 x5 x6 x7 x8 x9 x10 0 1 arg8 harg8 arg9 harg9 arg10 harg10 arg11 harg11 128 1664 rfl rfl inb_S512x512_S256x128_0_128 inb_S1x128_S1x128_0_0 inb_S512x2048_S256x128_0_1664,
    piece_c x2 x3 x4 x5 x6 x7 x8 x9 x10 0 0 arg8 harg8 arg9 harg9 arg10 harg10 arg11 harg11 0 1536 rfl rfl inb_S512x512_S256x128_0_0 inb_S1x128_S1x128_0_0 inb_S512x2048_S256x128_0_1536,
    piece_b x2 x3 x4 x5 x6 x7 x8 x9 x10 0 arg6 harg6 arg7 harg7 inb_S512x512_S256x512_0_0 inb_S512x2048_S256x512_0_1024,
    piece_a1 x2 x3 x4 x5 x6 x7 x8 x9 x10 0 arg3 harg3 arg5 harg5 inb_S512x1024_S256x512_0_512 inb_S512x512_S256x512_0_0 inb_S512x2048_S256x512_0_512,
    piece_a0 x2 x3 x4 x5 x6 x7 x8 x9 x10 0 arg3 harg3 arg4 harg4 inb_S512x1024_S256x512_0_0 inb_S512x512_S256x512_0_0 inb_S512x2048_S256x512_0_0, trivial⟩

/-- and those of the last 256 after them -/
theorem stores_snd : View.PiecesOf (mixBlock x2 x3 x4 x5 x6 x7 x8 x9 x10) (kernelRun0_A.sl.HS0_14 (F := Ideal) c arg3 harg3 arg4 harg4 arg5 harg5 arg6 harg6 arg7 harg7 arg8 harg8 arg9 harg9 arg10 harg10 arg11 harg11 x2 x3 x4 x5 x6 x7 x8 x9 x10) :=
  ⟨piece_c x2 x3 x4 x5 x6 x7 x8 x9 x10 256 3 arg8 harg8 arg9 harg9 arg10 harg10 arg11 harg11 384 1920 rfl rfl inb_S512x512_S256x128_256_384 inb_S1x128_S1x128_0_0 inb_S512x2048_S256x128_256_1920,
    piece_c x2 x3 x4 x5 x6 x7 x8 x9 x10 256 2 arg8 harg8 arg9 harg9 arg10 harg10 arg11 harg11 256 1792 rfl rfl inb_S512x512_S256x128_256_256 inb_S1x128_S1x128_0_0 inb_S512x2048_S256x128_256_1792,
    piece_c x2 x3 x4 x5 x6 x7 x8 x9 x10 256 1 arg8 harg8 arg9 harg9 arg10 harg10 arg11 harg11 128 1664 rfl rfl inb_S512x512_S256x128_256_128 inb_S1x128_S1x128_0_0 inb_S512x2048_S256x128_256_1664,
    piece_c x2 x3 x4 x5 x6 x7 x8 x9 x10 256 0 arg8 harg8 arg9 harg9 arg10 harg10 arg11 harg11 0 1536 rfl rfl inb_S512x512_S256x128_256_0 inb_S1x128_S1x128_0_0 inb_S512x2048_S256x128_256_1536,
    piece_b x2 x3 x4 x5 x6 x7 x8 x9 x10 256 arg6 harg6 arg7 harg7 inb_S512x512_S256x512_256_0 inb_S512x2048_S256x512_256_1024,
    piece_a1 x2 x3 x4 x5 x6 x7 x8 x9 x10 256 arg3 harg3 arg5 harg5 inb_S512x1024_S256x512_256_512 inb_S512x512_S256x512_256_0 inb_S512x2048_S256x512_256_512,
    piece_a0 x2 x3 x4 x5 x6 x7 x8 x9 x10 256 arg3 harg3 arg4 harg4 inb_S512x1024_S256x512_256_0 inb_S512x512_S256x512_256_0 inb_S512x2048_S256x512_256_0,
    stores_fst c arg3 harg3 arg4 harg4 arg5 harg5 arg6 harg6 arg7 harg7 arg8 harg8 arg9 harg9 arg10 harg10 arg11 harg11 x2 x3 x4 x5 x6 x7 x8 x9 x10⟩

theorem mixed_fst (r : Fin 256) (k : Fin 2048) :
    kernelRun0_A.sl.v148 (F := Ideal) c arg3 harg3 arg4 harg4 arg5 harg5 arg6 harg6 arg7 harg7 arg8 harg8 arg9 harg9 arg10 harg10 arg11 harg11 arg16 x2 x3 x4 x5 x6 x7 x8 x9 x10 (ix2 r k) = mixRow x2 x3 x4 x5 x6 x7 x8 x9 x10 ⟨r.val, by omega⟩ k := by
  show View.readCov arg16.view (kernelRun0_A.sl.HS0_7 (F := Ideal) c arg3 harg3 arg4 harg4 arg5 harg5 arg6 harg6 arg7 harg7 arg8 harg8 arg9 harg9 arg10 harg10 arg11 harg11 x2 x3 x4 x5 x6 x7 x8 x9 x10) (Rect.unit (s := S512x2048) ![0, 0] S256x2048.size inb_S512x2048_S256x2048_0_0).toLoadRect (ix2 r k) = _
  rw [View.readCov_eq_canon']
  refine (View.canon_apply_of_pieces (mixBlock x2 x3 x4 x5 x6 x7 x8 x9 x10) _ (View.PiecesOf.mem (stores_fst c arg3 harg3 arg4 harg4 arg5 harg5 arg6 harg6 arg7 harg7 arg8 harg8 arg9 harg9 arg10 harg10 arg11 harg11 x2 x3 x4 x5 x6 x7 x8 x9 x10)) _
    (cover_rows 0 [] _ _ _ _ _ _ _ _ _ _ _ _ _ _ _ ⟨Nat.zero_le _, by show 0 + 1 * r.val < 0 + 256; omega⟩)).trans ?_
  exact mixBlock_apply x2 x3 x4 x5 x6 x7 x8 x9 x10 _ ⟨r.val, by omega⟩ k (by show 0 + 1 * r.val = r.val; omega) (by show 0 + 1 * k.val = k.val; omega)

theorem mixed_snd (r : Fin 256) (k : Fin 2048) :
    kernelRun0_A.sl.v303 (F := Ideal) c arg3 harg3 arg4 harg4 arg5 harg5 arg6 harg6 arg7 harg7 arg8 harg8 arg9 harg9 arg10 harg10 arg11 harg11 arg16 x2 x3 x4 x5 x6 x7 x8 x9 x10 (ix2 r k) = mixRow x2 x3 x4 x5 x6 x7 x8 x9 x10 ⟨256 + r.val, by omega⟩ k := by
  show View.readCov arg16.view (kernelRun0_A.sl.HS0_14 (F := Ideal) c arg3 harg3 arg4 harg4 arg5 harg5 arg6 harg6 arg7 harg7 arg8 harg8 arg9 harg9 arg10 harg10 arg11 harg11 x2 x3 x4 x5 x6 x7 x8 x9 x10) (Rect.unit (s := S512x2048) ![256, 0] S256x2048.size inb_S512x2048_S256x2048_256_0).toLoadRect (ix2 r k) = _
  rw [View.readCov_eq_canon']
  refine (View.canon_apply_of_pieces (mixBlock x2 x3 x4 x5 x6 x7 x8 x9 x10) _ (View.PiecesOf.mem (stores_snd c arg3 harg3 arg4 harg4 arg5 harg5 arg6 harg6 arg7 harg7 arg8 harg8 arg9 harg9 arg10 harg10 arg11 harg11 x2 x3 x4 x5 x6 x7 x8 x9 x10)) _
    (cover_rows 256 (kernelRun0_A.sl.HS0_7 (F := Ideal) c arg3 harg3 arg4 harg4 arg5 harg5 arg6 harg6 arg7 harg7 arg8 harg8 arg9 harg9 arg10 harg10 arg11 harg11 x2 x3 x4 x5 x6 x7 x8 x9 x10) _ _ _ _ _ _ _ _ _ _ _ _ _ _ _ ⟨by show 256 ≤ 256 + 1 * r.val; omega, by show 256 + 1 * r.val < 256 + 256; omega⟩)).trans ?_
  exact mixBlock_apply x2 x3 x4 x5 x6 x7 x8 x9 x10 _ ⟨256 + r.val, by omega⟩ k (by show 256 + 1 * r.val = 256 + r.val; omega) (by show 0 + 1 * k.val = k.val; omega)

/-- the product at a row and a lane -/
def product (R : Fin 512) (e : Fin 2048) : EReal := ∑ k : Fin 2048, mixRow x2 x3 x4 x5 x6 x7 x8 x9 x10 R k * x11 (ix2 k e)
/-- the product's block -/
def productBlock (y : S512x2048.Idx) : EReal := product x2 x3 x4 x5 x6 x7 x8 x9 x10 x11 (y 0) (y 1)

theorem productBlock_apply (y : S512x2048.Idx) (R : Fin 512) (k : Fin 2048) (h0 : (y 0).val = R.val) (h1 : (y 1).val = k.val) :
    productBlock x2 x3 x4 x5 x6 x7 x8 x9 x10 x11 y = product x2 x3 x4 x5 x6 x7 x8 x9 x10 x11 R k :=
  congrArg₂ (product x2 x3 x4 x5 x6 x7 x8 x9 x10 x11) (Fin.ext h0) (Fin.ext h1)

theorem product_fst (x : S256x2048.Idx) : kernelRun0_A.sl.r_3 (F := Ideal) c arg3 harg3 arg4 harg4 arg5 harg5 arg6 harg6 arg7 harg7 arg8 harg8 arg9 harg9 arg10 harg10 arg11 harg11 arg12 harg12 arg16 x2 x3 x4 x5 x6 x7 x8 x9 x10 x11 x
    = productBlock x2 x3 x4 x5 x6 x7 x8 x9 x10 x11 ((Rect.unit (s := S512x2048) ![0, 0] S256x2048.size inb_S512x2048_S256x2048_0_0).emb x) := by
  obtain ⟨r, e, rfl⟩ : ∃ (r : Fin 256) (e : Fin 2048), x = ix2 r e := ⟨x 0, x 1, ValueIdx.eq_ix2 x⟩
  refine (product_apply (kernelRun0_A.sl.v148 (F := Ideal) c arg3 harg3 arg4 harg4 arg5 harg5 arg6 harg6 arg7 harg7 arg8 harg8 arg9 harg9 arg10 harg10 arg11 harg11 arg16 x2 x3 x4 x5 x6 x7 x8 x9 x10) _ r e).trans (Eq.symm ?_)
  refine (productBlock_apply x2 x3 x4 x5 x6 x7 x8 x9 x10 x11 _ ⟨r.val, by omega⟩ e (by show 0 + 1 * r.val = r.val; omega) (by show 0 + 1 * e.val = e.val; omega)).trans ?_
  exact Finset.sum_congr rfl fun k _ => congrArg₂ (· * ·) (mixed_fst c arg3 harg3 arg4 harg4 arg5 harg5 arg6 harg6 arg7 harg7 arg8 harg8 arg9 harg9 arg10 harg10 arg11 harg11 arg16 x2 x3 x4 x5 x6 x7 x8 x9 x10 r k).symm
    (load_apply arg12 harg12 x11 0 0 inb_S2048x2048_S2048x2048_0_0 k e k e (Nat.zero_add _).symm (Nat.zero_add _).symm).symm

theorem product_snd (x : S256x2048.Idx) : kernelRun0_A.sl.r_7 (F := Ideal) c arg3 harg3 arg4 harg4 arg5 harg5 arg6 harg6 arg7 harg7 arg8 harg8 arg9 harg9 arg10 harg10 arg11 harg11 arg12 harg12 arg16 x2 x3 x4 x5 x6 x7 x8 x9 x10 x11 x
    = productBlock x2 x3 x4 x5 x6 x7 x8 x9 x10 x11 ((Rect.unit (s := S512x2048) ![256, 0] S256x2048.size inb_S512x2048_S256x2048_256_0).emb x) := by
  obtain ⟨r, e, rfl⟩ : ∃ (r : Fin 256) (e : Fin 2048), x = ix2 r e := ⟨x 0, x 1, ValueIdx.eq_ix2 x⟩
  refine (product_apply (kernelRun0_A.sl.v303 (F := Ideal) c arg3 harg3 arg4 harg4 arg5 harg5 arg6 harg6 arg7 harg7 arg8 harg8 arg9 harg9 arg10 harg10 arg11 harg11 arg16 x2 x3 x4 x5 x6 x7 x8 x9 x10) _ r e).trans (Eq.symm ?_)
  refine (productBlock_apply x2 x3 x4 x5 x6 x7 x8 x9 x10 x11 _ ⟨256 + r.val, by omega⟩ e (by show 256 + 1 * r.val = 256 + r.val; omega) (by show 0 + 1 * e.val = e.val; omega)).trans ?_
  exact Finset.sum_congr rfl fun k _ => congrArg₂ (· * ·) (mixed_snd c arg3 harg3 arg4 harg4 arg5 harg5 arg6 harg6 arg7 harg7 arg8 harg8 arg9 harg9 arg10 harg10 arg11 harg11 arg16 x2 x3 x4 x5 x6 x7 x8 x9 x10 r k).symm
    (load_apply arg12 harg12 x11 0 0 inb_S2048x2048_S2048x2048_0_0 k e k e (Nat.zero_add _).symm (Nat.zero_add _).symm).symm

theorem product_stores : View.PiecesOf (productBlock x2 x3 x4 x5 x6 x7 x8 x9 x10 x11) (kernelRun0_A.sl.HS1_2 (F := Ideal) c arg3 harg3 arg4 harg4 arg5 harg5 arg6 harg6 arg7 harg7 arg8 harg8 arg9 harg9 arg10 harg10 arg11 harg11 arg12 harg12 arg16 x2 x3 x4 x5 x6 x7 x8 x9 x10 x11) :=
  ⟨product_snd c arg3 harg3 arg4 harg4 arg5 harg5 arg6 harg6 arg7 harg7 arg8 harg8 arg9 harg9 arg10 harg10 arg11 harg11 arg12 harg12 arg16 x2 x3 x4 x5 x6 x7 x8 x9 x10 x11, product_fst c arg3 harg3 arg4 harg4 arg5 harg5 arg6 harg6 arg7 harg7 arg8 harg8 arg9 harg9 arg10 harg10 arg11 harg11 arg12 harg12 arg16 x2 x3 x4 x5 x6 x7 x8 x9 x10 x11, trivial⟩

theorem kept_fst (r : Fin 256) (k : Fin 2048) :
    kernelRun0_A.sl.v316 (F := Ideal) c arg3 harg3 arg4 harg4 arg5 harg5 arg6 harg6 arg7 harg7 arg8 harg8 arg9 harg9 arg10 harg10 arg11 harg11 arg12 harg12 arg16 arg17 x2 x3 x4 x5 x6 x7 x8 x9 x10 x11 (ix2 r k) = product x2 x3 x4 x5 x6 x7 x8 x9 x10 x11 ⟨r.val, by omega⟩ k := by
  show View.readCov arg17.view (kernelRun0_A.sl.HS1_2 (F := Ideal) c arg3 harg3 arg4 harg4 arg5 harg5 arg6 harg6 arg7 harg7 arg8 harg8 arg9 harg9 arg10 harg10 arg11 harg11 arg12 harg12 arg16 x2 x3 x4 x5 x6 x7 x8 x9 x10 x11) (Rect.unit (s := S512x2048) ![0, 0] S256x2048.size inb_S512x2048_S256x2048_0_0).toLoadRect (ix2 r k) = _
  rw [View.readCov_eq_canon']
  refine (View.canon_apply_of_pieces (productBlock x2 x3 x4 x5 x6 x7 x8 x9 x10 x11) _ (View.PiecesOf.mem (product_stores c arg3 harg3 arg4 harg4 arg5 harg5 arg6 harg6 arg7 harg7 arg8 harg8 arg9 harg9 arg10 harg10 arg11 harg11 arg12 harg12 arg16 x2 x3 x4 x5 x6 x7 x8 x9 x10 x11)) _ (cover_halves _ _ _ _ _)).trans ?_
  exact productBlock_apply x2 x3 x4 x5 x6 x7 x8 x9 x10 x11 _ ⟨r.val, by omega⟩ k (by show 0 + 1 * r.val = r.val; omega) (by show 0 + 1 * k.val = k.val; omega)

theorem kept_snd (r : Fin 256) (k : Fin 2048) :
    kernelRun0_A.sl.v351 (F := Ideal) c arg3 harg3 arg4 harg4 arg5 harg5 arg6 harg6 arg7 harg7 arg8 harg8 arg9 harg9 arg10 harg10 arg11 harg11 arg12 harg12 arg16 arg17 x2 x3 x4 x5 x6 x7 x8 x9 x10 x11 (ix2 r k) = product x2 x3 x4 x5 x6 x7 x8 x9 x10 x11 ⟨256 + r.val, by omega⟩ k := by
  show View.readCov arg17.view (kernelRun0_A.sl.HS1_2 (F := Ideal) c arg3 harg3 arg4 harg4 arg5 harg5 arg6 harg6 arg7 harg7 arg8 harg8 arg9 harg9 arg10 harg10 arg11 harg11 arg12 harg12 arg16 x2 x3 x4 x5 x6 x7 x8 x9 x10 x11) (Rect.unit (s := S512x2048) ![256, 0] S256x2048.size inb_S512x2048_S256x2048_256_0).toLoadRect (ix2 r k) = _
  rw [View.readCov_eq_canon']
  refine (View.canon_apply_of_pieces (productBlock x2 x3 x4 x5 x6 x7 x8 x9 x10 x11) _ (View.PiecesOf.mem (product_stores c arg3 harg3 arg4 harg4 arg5 harg5 arg6 harg6 arg7 harg7 arg8 harg8 arg9 harg9 arg10 harg10 arg11 harg11 arg12 harg12 arg16 x2 x3 x4 x5 x6 x7 x8 x9 x10 x11)) _ (cover_halves _ _ _ _ _)).trans ?_
  exact productBlock_apply x2 x3 x4 x5 x6 x7 x8 x9 x10 x11 _ ⟨256 + r.val, by omega⟩ k (by show 256 + 1 * r.val = 256 + r.val; omega) (by show 0 + 1 * k.val = k.val; omega)

/-- the result at a row and a lane of the block -/
def outRow (R : Fin 512) (e : Fin 2048) : EReal :=
  finish (fun k => x0 (ix2 R k)) (fun k => x1 (ix3 (0 : Fin 1) (0 : Fin 1) k)) (product x2 x3 x4 x5 x6 x7 x8 x9 x10 x11 R) (fun k => x12 (ix2 (0 : Fin 1) k))
    (fun k => x13 (ix2 (0 : Fin 1) k)) e
/-- the result's block -/
def outBlock (y : S512x2048.Idx) : EReal := outRow x0 x1 x2 x3 x4 x5 x6 x7 x8 x9 x10 x11 x12 x13 (y 0) (y 1)

theorem gate_load (inb : ∀ b, (![0, 0, 0] : Fin 3 → Nat) b + S1x1x2048.size b ≤ S1x1x2048.size b) (k : Fin 2048) :
    View.readAt (Elt Ideal) arg2.view (Rect.unit (s := S1x1x2048) ![0, 0, 0] S1x1x2048.size inb).toLoadRect (harg2.unread x1) (ix3 (0 : Fin 1) (0 : Fin 1) k)
      = x1 (ix3 (0 : Fin 1) (0 : Fin 1) k) := by
  rw [View.readAt_eq_ld, harg2.read_unread]
  exact View.ld_unit_apply_of x1 ![0, 0, 0] _ inb _ _ (fun b => by
    match b with
    | ⟨0, _⟩ => rfl
    | ⟨1, _⟩ => rfl
    | ⟨2, _⟩ => exact (Nat.zero_add _).symm)

/-- One store of the result: 256 rows from `o`, from a product that is known there. -/
theorem piece_out (o : Nat) (i0 : ∀ b, (![o, 0] : Fin 2 → Nat) b + S256x2048.size b ≤ S512x2048.size b) (Y : FVec Ideal S256x2048 .f32) (ho : o + 256 ≤ 512)
    (hY : ∀ (r : Fin 256) (k : Fin 2048), Y (ix2 r k) = product x2 x3 x4 x5 x6 x7 x8 x9 x10 x11 ⟨o + r.val, by omega⟩ k) (x : S256x2048.Idx) :
    (k0_pay23 (View.readAt (Elt Ideal) arg1.view (Rect.unit (s := S512x2048) ![o, 0] S256x2048.size i0).toLoadRect (harg1.unread x0))
      (View.readAt (Elt Ideal) arg2.view (Rect.unit (s := S1x1x2048) ![0, 0, 0] S1x1x2048.size inb_S1x1x2048_S1x1x2048_0_0_0).toLoadRect (harg2.unread x1)) Y
      (View.readAt (Elt Ideal) arg13.view (Rect.unit (s := S1x2048) ![0, 0] S1x2048.size inb_S1x2048_S1x2048_0_0).toLoadRect (harg13.unread x12))
      (View.readAt (Elt Ideal) arg14.view (Rect.unit (s := S1x2048) ![0, 0] S1x2048.size inb_S1x2048_S1x2048_0_0).toLoadRect (harg14.unread x13)) : FVec Ideal S256x2048 .f32) x
      = outBlock x0 x1 x2 x3 x4 x5 x6 x7 x8 x9 x10 x11 x12 x13 ((Rect.unit (s := S512x2048) ![o, 0] S256x2048.size i0).emb x) := by
  obtain ⟨r, e, rfl⟩ : ∃ (r : Fin 256) (e : Fin 2048), x = ix2 r e := ⟨x 0, x 1, ValueIdx.eq_ix2 x⟩
  have at_place : outBlock x0 x1 x2 x3 x4 x5 x6 x7 x8 x9 x10 x11 x12 x13 ((Rect.unit (s := S512x2048) ![o, 0] S256x2048.size i0).emb (ix2 r e))
      = outRow x0 x1 x2 x3 x4 x5 x6 x7 x8 x9 x10 x11 x12 x13 ⟨o + r.val, by omega⟩ e :=
    congrArg₂ (outRow x0 x1 x2 x3 x4 x5 x6 x7 x8 x9 x10 x11 x12 x13) (Fin.ext (by show o + 1 * r.val = o + r.val; omega)) (Fin.ext (by show 0 + 1 * e.val = e.val; omega))
  refine (finish_apply _ _ Y _ _ r e).trans (Eq.trans ?_ at_place.symm)
  unfold outRow
  congr 1
  · exact funext fun k => load_apply arg1 harg1 x0 o 0 i0 r k ⟨o + r.val, by omega⟩ k rfl (Nat.zero_add _).symm
  · exact funext fun k => gate_load arg2 harg2 x1 _ k
  · exact funext fun k => hY r k
  · exact funext fun k => load_apply arg13 harg13 x12 0 0 _ (0 : Fin 1) k 0 k rfl (Nat.zero_add _).symm
  · exact funext fun k => load_apply arg14 harg14 x13 0 0 _ (0 : Fin 1) k 0 k rfl (Nat.zero_add _).symm

/-- What a grid point leaves in its block of the result. -/
theorem out_apply (i : grid0.Coords) (y : S512x2048.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y
      = outBlock x0 x1 x2 x3 x4 x5 x6 x7 x8 x9 x10 x11 x12 x13 y := by
  unfold out0_A_14
  rw [View.read_writes_junk_eq_canon]
  refine View.canon_apply_of_pieces (outBlock x0 x1 x2 x3 x4 x5 x6 x7 x8 x9 x10 x11 x12 x13) _ (View.PiecesOf.mem ?_) y (cover_halves _ _ _ _ y)
  refine ⟨piece_out arg1 harg1 arg2 harg2 arg13 harg13 arg14 harg14 x0 x1 x2 x3 x4 x5 x6 x7 x8 x9 x10 x11 x12 x13 256 _
      (kernelRun0_A.sl.v351 (F := Ideal) c arg3 harg3 arg4 harg4 arg5 harg5 arg6 harg6 arg7 harg7 arg8 harg8 arg9 harg9 arg10 harg10 arg11 harg11 arg12 harg12 arg16 arg17 x2 x3 x4 x5 x6 x7 x8 x9 x10 x11) (by decide) (kept_snd c arg3 harg3 arg4 harg4 arg5 harg5 arg6 harg6 arg7 harg7 arg8 harg8 arg9 harg9 arg10 harg10 arg11 harg11 arg12 harg12 arg16 arg17 x2 x3 x4 x5 x6 x7 x8 x9 x10 x11),
    piece_out arg1 harg1 arg2 harg2 arg13 harg13 arg14 harg14 x0 x1 x2 x3 x4 x5 x6 x7 x8 x9 x10 x11 x12 x13 0 _
      (kernelRun0_A.sl.v316 (F := Ideal) c arg3 harg3 arg4 harg4 arg5 harg5 arg6 harg6 arg7 harg7 arg8 harg8 arg9 harg9 arg10 harg10 arg11 harg11 arg12 harg12 arg16 arg17 x2 x3 x4 x5 x6 x7 x8 x9 x10 x11) (by decide) (fun r k => (kept_fst c arg3 harg3 arg4 harg4 arg5 harg5 arg6 harg6 arg7 harg7 arg8 harg8 arg9 harg9 arg10 harg10 arg11 harg11 arg12 harg12 arg16 arg17 x2 x3 x4 x5 x6 x7 x8 x9 x10 x11 r k).trans ?_), trivial⟩
  exact congrArg (fun R => product x2 x3 x4 x5 x6 x7 x8 x9 x10 x11 R k) (Fin.ext (Nat.zero_add _).symm)

end

end Outproj

end
-- ==== Proof.Outproj.Spec.lean ====
/-
  The layer's result at a batch, a position and a lane, from the arguments of the output projection.
-/
module

public import proofs.«01_k».proof.Proof.Outproj.Row

@[expose] public section

noncomputable section

namespace Outproj

open Cert.OutprojIdeal
open Idealize.ShloMosaic hiding ix1 ix2 ix3 ix4 ix5
open Idealize.ShloMosaic.ValueIdx

/-- position `s` of batch `b` among all the rows -/
def row (b : Fin 4) (s : Fin 4096) : Fin 16384 := ⟨b.val * 4096 + s.val, by omega⟩
/-- lane `o + j` of the input projection's result -/
def col {n : Nat} (o : Nat) (ho : o + n ≤ 6656) (j : Fin n) : Fin 6656 := ⟨o + j.val, by omega⟩

section
variable (x0 : FVec Ideal S4x4096x2048 .f32) (x1 : FVec Ideal S8x6144 .f32) (x2 : FVec Ideal S4x4096x1024 .bf16) (x3 : FVec Ideal S16384x6656 .bf16)
  (x4 : FVec Ideal S4x4096x512 .bf16) (x5 x6 : FVec Ideal S4x4096x512 .f32) (x7 : FVec Ideal S128 .f32) (x8 : FVec Ideal S2048x2048 .f32)
  (x9 x10 : FVec Ideal S2048 .f32)

/-- the gated branches of one position -/
def branches (b : Fin 4) (s : Fin 4096) : Fin 2048 → EReal :=
  mix (fun j => x2 (ix3 b s j)) (fun j => x3 (ix2 (row b s) (col 1536 (by decide) j))) (fun j => x4 (ix3 b s j))
    (fun j => x3 (ix2 (row b s) (col 4096 (by decide) j))) (fun j => x5 (ix3 b s j) + x6 (ix3 b s j)) (fun j => x7 (ix1 j))
    (fun j => x3 (ix2 (row b s) (col 6144 (by decide) j)))

/-- and their projection -/
def projected (b : Fin 4) (s : Fin 4096) (e : Fin 2048) : EReal := ∑ k : Fin 2048, branches x2 x3 x4 x5 x6 x7 b s k * x8 (ix2 k e)

/-- the layer's result -/
def spec (b : Fin 4) (s : Fin 4096) (e : Fin 2048) : EReal :=
  finish (fun k => x0 (ix3 b s k)) (fun k => x1 (ix2 (⟨b.val, by omega⟩ : Fin 8) (⟨4096 + k.val, by omega⟩ : Fin 6144)))
    (projected x2 x3 x4 x5 x6 x7 x8 b s) (fun k => x9 (ix1 k)) (fun k => x10 (ix1 k)) e

end

end Outproj

end
-- ==== Proof.Outproj.Value.lean ====
/-
  The kernel's result array: each grid point writes 512 rows of the layer's result of the arguments.
-/
module

public import proofs.«01_k».proof.Proof.Outproj.Out
public import proofs.«01_k».proof.Proof.Outproj.Spec
public import proofs.«01_k».proof.Proof.Gen.OutprojIdeal.Value
public import Idealize.ShloMosaic.Lib.Pipeline.ValueKit.Geometry

@[expose] public section

set_option maxRecDepth 16384

noncomputable section

namespace Outproj

open Cert.OutprojIdeal Cert.OutprojIdeal.Gen Cert.OutprojIdeal.Value
open Idealize.ShloMosaic hiding ix1 ix2 ix3 ix4 ix5
open Idealize.ShloMosaic.ValueIdx Idealize.ShloMosaic.TcCoe Idealize.ShloMosaic.Tactic
open Idealize.SL Idealize.SL.Sem

/-- batches and positions as one axis of rows -/
theorem rows_apply {W : Nat} {α : Type} (x : (⟨3, ![4, 4096, W]⟩ : Shape).Idx → α) (h : (⟨3, ![4, 4096, W]⟩ : Shape).ShapeCasts ⟨2, ![16384, W]⟩)
    (b : Fin 4) (s : Fin 4096) (z : Fin W) : shapeCast ⟨2, ![16384, W]⟩ x h (ix2 (row b s) z) = x (ix3 b s z) := by
  refine shapeCast_apply x h (ix2 (row b s) z) (ix3 b s z) ?_
  rw [Shape.rowMajor_val_three, Shape.rowMajor_val_two]
  rfl

/-- a vector as a row -/
theorem vec_apply {W : Nat} {α : Type} (x : (⟨1, ![W]⟩ : Shape).Idx → α) (h : (⟨1, ![W]⟩ : Shape).ShapeCasts ⟨2, ![1, W]⟩) (z : Fin W) :
    shapeCast ⟨2, ![1, W]⟩ x h (ix2 (0 : Fin 1) z) = x (ix1 z) := by
  refine shapeCast_apply x h (ix2 (0 : Fin 1) z) (ix1 z) ?_
  rw [Shape.rowMajor_val_one, Shape.rowMajor_val_two]
  show z.val = 0 * W + z.val
  omega

/-- the modulation with an axis of one row -/
theorem mod_apply {α : Type} (x : S8x6144.Idx → α) (h : S8x6144.ShapeCasts S8x1x6144) (b : Fin 8) (z : Fin 6144) :
    shapeCast S8x1x6144 x h (ix3 b (0 : Fin 1) z) = x (ix2 b z) := by
  refine shapeCast_apply x h (ix3 b (0 : Fin 1) z) (ix2 b z) ?_
  rw [Shape.rowMajor_val_two, Shape.rowMajor_val_three]
  show b.val * 6144 + z.val = (b.val * 1 + 0) * 6144 + z.val
  omega

variable (m : (ℓ : Loc nD τ sig) → Buf (Elt Ideal) ℓ) (c : Dev nD)

abbrev a0 : FVec Ideal S4x4096x2048 .f32 := m ((c : Thread nD τ).loc main_arg0)
abbrev a1 : FVec Ideal S8x6144 .f32 := m ((c : Thread nD τ).loc main_arg1)
abbrev a2 : FVec Ideal S4x4096x1024 .bf16 := m ((c : Thread nD τ).loc main_arg2)
abbrev a3 : FVec Ideal S16384x6656 .bf16 := m ((c : Thread nD τ).loc main_arg3)
abbrev a4 : FVec Ideal S4x4096x512 .bf16 := m ((c : Thread nD τ).loc main_arg4)
abbrev a5 : FVec Ideal S4x4096x512 .f32 := m ((c : Thread nD τ).loc main_arg5)
abbrev a6 : FVec Ideal S4x4096x512 .f32 := m ((c : Thread nD τ).loc main_arg6)
abbrev a7 : FVec Ideal S128 .f32 := m ((c : Thread nD τ).loc main_arg7)
abbrev a8 : FVec Ideal S2048x2048 .f32 := m ((c : Thread nD τ).loc main_arg8)
abbrev a9 : FVec Ideal S2048 .f32 := m ((c : Thread nD τ).loc main_arg9)
abbrev a10 : FVec Ideal S2048 .f32 := m ((c : Thread nD τ).loc main_arg10)

/-! The arrays that the host hands to the kernel. -/

theorem V0 : (V m c main_v0 : FVec Ideal S16384x2048 .f32) = shapeCast S16384x2048 (a0 m c) shapeCasts_S4x4096x2048_S16384x2048 := by
  show StableHlo.after hostOps0 _ (Proc.devRef .tc main_v0) = _
  after_results
  rfl
theorem V1 : (V m c main_v1 : FVec Ideal S8x1x6144 .f32) = shapeCast S8x1x6144 (a1 m c) shapeCasts_S8x6144_S8x1x6144 := by
  show StableHlo.after hostOps0 _ (Proc.devRef .tc main_v1) = _
  after_results
  rfl
theorem V2 : (V m c main_v2 : FVec Ideal S16384x1024 .bf16) = shapeCast S16384x1024 (a2 m c) shapeCasts_S4x4096x1024_S16384x1024 := by
  show StableHlo.after hostOps0 _ (Proc.devRef .tc main_v2) = _
  after_results
  rfl
theorem V3 : (V m c main_v3 : FVec Ideal S16384x512 .bf16) = shapeCast S16384x512 (a4 m c) shapeCasts_S4x4096x512_S16384x512 := by
  show StableHlo.after hostOps0 _ (Proc.devRef .tc main_v3) = _
  after_results
  rfl
theorem V4 : (V m c main_v4 : FVec Ideal S16384x512 .f32) = shapeCast S16384x512 (a5 m c) shapeCasts_S4x4096x512_S16384x512 := by
  show StableHlo.after hostOps0 _ (Proc.devRef .tc main_v4) = _
  after_results
  rfl
theorem V5 : (V m c main_v5 : FVec Ideal S16384x512 .f32) = shapeCast S16384x512 (a6 m c) shapeCasts_S4x4096x512_S16384x512 := by
  show StableHlo.after hostOps0 _ (Proc.devRef .tc main_v5) = _
  after_results
  rfl
theorem V6 : (V m c main_v6 : FVec Ideal S2048x2048 .bf16) = truncf .bf16 (a8 m c) bitsLt_bf16_f32 := by
  show StableHlo.after hostOps0 _ (Proc.devRef .tc main_v6) = _
  after_results
theorem V7 : (V m c main_v7 : FVec Ideal S1x128 .f32) = shapeCast S1x128 (a7 m c) shapeCasts_S128_S1x128 := by
  show StableHlo.after hostOps0 _ (Proc.devRef .tc main_v7) = _
  after_results
  rfl
theorem V8 : (V m c main_v8 : FVec Ideal S1x2048 .f32) = shapeCast S1x2048 (a9 m c) shapeCasts_S2048_S1x2048 := by
  show StableHlo.after hostOps0 _ (Proc.devRef .tc main_v8) = _
  after_results
  rfl
theorem V9 : (V m c main_v9 : FVec Ideal S1x2048 .f32) = shapeCast S1x2048 (a10 m c) shapeCasts_S2048_S1x2048 := by
  show StableHlo.after hostOps0 _ (Proc.devRef .tc main_v9) = _
  after_results
  rfl

/-! The windows' blocks at a grid point. -/

theorem index0 : ∀ t : Fin cfg0.N, win0_0.index t = ![(grid0.coords t 0).val, 0] := (by decide +kernel : ∀ t : Fin grid0.N, _)
theorem index1 : ∀ t : Fin cfg0.N, win0_1.index t = ![(grid0.coords t 0).val / 8, 0, 2] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![(grid0.coords t 0).val, 3] := (by decide +kernel : ∀ t : Fin grid0.N, _)
theorem index4 : ∀ t : Fin cfg0.N, win0_4.index t = ![(grid0.coords t 0).val, 4] := (by decide +kernel : ∀ t : Fin grid0.N, _)
theorem index5 : ∀ t : Fin cfg0.N, win0_5.index t = ![(grid0.coords t 0).val, 0] := (by decide +kernel : ∀ t : Fin grid0.N, _)
theorem index6 : ∀ t : Fin cfg0.N, win0_6.index t = ![(grid0.coords t 0).val, 8] := (by decide +kernel : ∀ t : Fin grid0.N, _)
theorem index7 : ∀ t : Fin cfg0.N, win0_7.index t = ![(grid0.coords t 0).val, 0] := (by decide +kernel : ∀ t : Fin grid0.N, _)
theorem index8 : ∀ t : Fin cfg0.N, win0_8.index t = ![(grid0.coords t 0).val, 0] := (by decide +kernel : ∀ t : Fin grid0.N, _)
theorem index9 : ∀ t : Fin cfg0.N, win0_9.index t = ![(grid0.coords t 0).val, 12] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![(grid0.coords t 0).val, 0] := (by decide +kernel : ∀ t : Fin grid0.N, _)

variable (t : Fin cfg0.N)

/-- the point's number, its batch, and the position of its row `i` -/
abbrev pt : Fin 32 := grid0.coords t 0
abbrev pb : Fin 4 := ⟨(pt t).val / 8, by omega⟩
abbrev ps (i : Fin 512) : Fin 4096 := ⟨(pt t).val % 8 * 512 + i.val, by omega⟩

/-- an index of a block of rows in its array -/
theorem place {N W : Nat} (f : (⟨2, ![N, W]⟩ : Shape).Idx) (i0 i1 n w : Nat) (i z : Nat) (R : Fin N) (Z : Fin W)
    (h0 : (f 0).val = i0 * n + 1 * i) (h1 : (f 1).val = i1 * w + 1 * z) (hR : R.val = i0 * n + i) (hZ : Z.val = i1 * w + z) : f = ix2 R Z := by
  funext a
  match a with
  | ⟨0, _⟩ => exact Fin.ext (by show (f 0).val = R.val; omega)
  | ⟨1, _⟩ => exact Fin.ext (by show (f 1).val = Z.val; omega)

theorem row_val (i : Fin 512) : (row (pb t) (ps t i)).val = (pt t).val * 512 + i.val := by
  show (pt t).val / 8 * 4096 + ((pt t).val % 8 * 512 + i.val) = _
  omega

theorem block0 (i : Fin 512) (z : Fin 2048) : (iblk m c 0 t : FVec Ideal S512x2048 .f32) (ix2 i z) = a0 m c (ix3 (pb t) (ps t i) z) := by
  refine (congrArg (V m c main_v0) (place _ (pt t).val 0 512 2048 i.val z.val (row (pb t) (ps t i)) z ?_ ?_ (row_val t i) (by omega))).trans
    ((congrFun (V0 m c) _).trans (rows_apply _ _ _ _ z))
  · show win0_0.index t (0 : Fin 2) * 512 + 1 * i.val = _; rw [index0]; rfl
  · show win0_0.index t (1 : Fin 2) * 2048 + 1 * z.val = _; rw [index0]; rfl

theorem block1 (z : Fin 2048) : (iblk m c 1 t : FVec Ideal S1x1x2048 .f32) (ix3 (0 : Fin 1) (0 : Fin 1) z)
    = a1 m c (ix2 (⟨(pb t).val, by omega⟩ : Fin 8) (⟨4096 + z.val, by omega⟩ : Fin 6144)) := by
  refine (congrArg (V m c main_v1) (funext fun a => Fin.ext ?_)).trans ((congrFun (V1 m c) _).trans (mod_apply _ _ _ _))
  match a with
  | ⟨0, _⟩ => show win0_1.index t (0 : Fin 3) * 1 + 1 * 0 = (pt t).val / 8; rw [index1]; simp
  | ⟨1, _⟩ => show win0_1.index t (1 : Fin 3) * 1 + 1 * 0 = 0; rw [index1]; simp
  | ⟨2, _⟩ => show win0_1.index t (2 : Fin 3) * 2048 + 1 * z.val = 4096 + z.val; rw [index1]; show 2 * 2048 + _ = _; omega

theorem block2 (i : Fin 512) (z : Fin 1024) : (iblk m c 2 t : FVec Ideal S512x1024 .bf16) (ix2 i z) = a2 m c (ix3 (pb t) (ps t i) z) := by
  refine (congrArg (V m c main_v2) (place _ (pt t).val 0 512 1024 i.val z.val (row (pb t) (ps t i)) z ?_ ?_ (row_val t i) (by omega))).trans
    ((congrFun (V2 m c) _).trans (rows_apply _ _ _ _ z))
  · show win0_2.index t (0 : Fin 2) * 512 + 1 * i.val = _; rw [index2]; rfl
  · show win0_2.index t (1 : Fin 2) * 1024 + 1 * z.val = _; rw [index2]; rfl

theorem block3 (i z : Fin 512) : (iblk m c 3 t : FVec Ideal S512x512 .bf16) (ix2 i z) = a3 m c (ix2 (row (pb t) (ps t i)) (col 1536 (by decide) z)) := by
  refine (congrArg (V m c main_arg3) (place _ (pt t).val 3 512 512 i.val z.val (row (pb t) (ps t i)) (col 1536 (by decide) z) ?_ ?_ (row_val t i) rfl)).trans
    (congrFun (V_main_arg3 m c) _)
  · show win0_3.index t (0 : Fin 2) * 512 + 1 * i.val = _; rw [index3]; rfl
  · show win0_3.index t (1 : Fin 2) * 512 + 1 * z.val = _; rw [index3]; rfl

theorem block4 (i z : Fin 512) : (iblk m c 4 t : FVec Ideal S512x512 .bf16) (ix2 i z) = a3 m c (ix2 (row (pb t) (ps t i)) (col 2048 (by decide) z)) := by
  refine (congrArg (V m c main_arg3) (place _ (pt t).val 4 512 512 i.val z.val (row (pb t) (ps t i)) (col 2048 (by decide) z) ?_ ?_ (row_val t i) rfl)).trans
    (congrFun (V_main_arg3 m c) _)
  · show win0_4.index t (0 : Fin 2) * 512 + 1 * i.val = _; rw [index4]; rfl
  · show win0_4.index t (1 : Fin 2) * 512 + 1 * z.val = _; rw [index4]; rfl

theorem block5 (i z : Fin 512) : (iblk m c 5 t : FVec Ideal S512x512 .bf16) (ix2 i z) = a4 m c (ix3 (pb t) (ps t i) z) := by
  refine (congrArg (V m c main_v3) (place _ (pt t).val 0 512 512 i.val z.val (row (pb t) (ps t i)) z ?_ ?_ (row_val t i) (by omega))).trans
    ((congrFun (V3 m c) _).trans (rows_apply _ _ _ _ z))
  · show win0_5.index t (0 : Fin 2) * 512 + 1 * i.val = _; rw [index5]; rfl
  · show win0_5.index t (1 : Fin 2) * 512 + 1 * z.val = _; rw [index5]; rfl

theorem block6 (i z : Fin 512) : (iblk m c 6 t : FVec Ideal S512x512 .bf16) (ix2 i z) = a3 m c (ix2 (row (pb t) (ps t i)) (col 4096 (by decide) z)) := by
  refine (congrArg (V m c main_arg3) (place _ (pt t).val 8 512 512 i.val z.val (row (pb t) (ps t i)) (col 4096 (by decide) z) ?_ ?_ (row_val t i) rfl)).trans
    (congrFun (V_main_arg3 m c) _)
  · show win0_6.index t (0 : Fin 2) * 512 + 1 * i.val = _; rw [index6]; rfl
  · show win0_6.index t (1 : Fin 2) * 512 + 1 * z.val = _; rw [index6]; rfl

theorem block7 (i z : Fin 512) : (iblk m c 7 t : FVec Ideal S512x512 .f32) (ix2 i z) = a5 m c (ix3 (pb t) (ps t i) z) := by
  refine (congrArg (V m c main_v4) (place _ (pt t).val 0 512 512 i.val z.val (row (pb t) (ps t i)) z ?_ ?_ (row_val t i) (by omega))).trans
    ((congrFun (V4 m c) _).trans (rows_apply _ _ _ _ z))
  · show win0_7.index t (0 : Fin 2) * 512 + 1 * i.val = _; rw [index7]; rfl
  · show win0_7.index t (1 : Fin 2) * 512 + 1 * z.val = _; rw [index7]; rfl

theorem block8 (i z : Fin 512) : (iblk m c 8 t : FVec Ideal S512x512 .f32) (ix2 i z) = a6 m c (ix3 (pb t) (ps t i) z) := by
  refine (congrArg (V m c main_v5) (place _ (pt t).val 0 512 512 i.val z.val (row (pb t) (ps t i)) z ?_ ?_ (row_val t i) (by omega))).trans
    ((congrFun (V5 m c) _).trans (rows_apply _ _ _ _ z))
  · show win0_8.index t (0 : Fin 2) * 512 + 1 * i.val = _; rw [index8]; rfl
  · show win0_8.index t (1 : Fin 2) * 512 + 1 * z.val = _; rw [index8]; rfl

theorem block9 (i z : Fin 512) : (iblk m c 9 t : FVec Ideal S512x512 .bf16) (ix2 i z) = a3 m c (ix2 (row (pb t) (ps t i)) (col 6144 (by decide) z)) := by
  refine (congrArg (V m c main_arg3) (place _ (pt t).val 12 512 512 i.val z.val (row (pb t) (ps t i)) (col 6144 (by decide) z) ?_ ?_ (row_val t i) rfl)).trans
    (congrFun (V_main_arg3 m c) _)
  · show win0_9.index t (0 : Fin 2) * 512 + 1 * i.val = _; rw [index9]; rfl
  · show win0_9.index t (1 : Fin 2) * 512 + 1 * z.val = _; rw [index9]; rfl

theorem block10 (z : Fin 128) : (iblk m c 10 t : FVec Ideal S1x128 .f32) (ix2 (0 : Fin 1) z) = a7 m c (ix1 z) := by
  refine (congrArg (V m c main_v7) (place _ 0 0 1 128 0 z.val (0 : Fin 1) z ?_ ?_ rfl (by omega))).trans ((congrFun (V7 m c) _).trans (vec_apply _ _ z))
  · show win0_10.index t (0 : Fin 2) * 1 + 1 * 0 = _; rw [index10]; rfl
  · show win0_10.index t (1 : Fin 2) * 128 + 1 * z.val = _; rw [index10]; rfl

theorem block11 (k z : Fin 2048) : (iblk m c 11 t : FVec Ideal S2048x2048 .bf16) (ix2 k z) = a8 m c (ix2 k z) := by
  refine (congrArg (V m c main_v6) (place _ 0 0 2048 2048 k.val z.val k z ?_ ?_ (by omega) (by omega))).trans (congrFun (V6 m c) _)
  · show win0_11.index t (0 : Fin 2) * 2048 + 1 * k.val = _; rw [index11]; rfl
  · show win0_11.index t (1 : Fin 2) * 2048 + 1 * z.val = _; rw [index11]; rfl

theorem block12 (z : Fin 2048) : (iblk m c 12 t : FVec Ideal S1x2048 .f32) (ix2 (0 : Fin 1) z) = a9 m c (ix1 z) := by
  refine (congrArg (V m c main_v8) (place _ 0 0 1 2048 0 z.val (0 : Fin 1) z ?_ ?_ rfl (by omega))).trans ((congrFun (V8 m c) _).trans (vec_apply _ _ z))
  · show win0_12.index t (0 : Fin 2) * 1 + 1 * 0 = _; rw [index12]; rfl
  · show win0_12.index t (1 : Fin 2) * 2048 + 1 * z.val = _; rw [index12]; rfl

theorem block13 (z : Fin 2048) : (iblk m c 13 t : FVec Ideal S1x2048 .f32) (ix2 (0 : Fin 1) z) = a10 m c (ix1 z) := by
  refine (congrArg (V m c main_v9) (place _ 0 0 1 2048 0 z.val (0 : Fin 1) z ?_ ?_ rfl (by omega))).trans ((congrFun (V9 m c) _).trans (vec_apply _ _ z))
  · show win0_13.index t (0 : Fin 2) * 1 + 1 * 0 = _; rw [index13]; rfl
  · show win0_13.index t (1 : Fin 2) * 2048 + 1 * z.val = _; rw [index13]; rfl

theorem join_apply (i : Fin 512) : (join (fun j => (iblk m c 3 t : FVec Ideal S512x512 .bf16) (ix2 i j)) fun j => (iblk m c 4 t : FVec Ideal S512x512 .bf16) (ix2 i j))
    = fun j : Fin 1024 => a3 m c (ix2 (row (pb t) (ps t i)) (col 1536 (by decide) j)) := by
  funext j
  by_cases h : j.val < 512
  · rw [join_fst _ _ ⟨j.val, h⟩ j rfl, block3]
    rfl
  · rw [join_snd _ _ ⟨j.val - 512, by omega⟩ j (by show j.val = 512 + (j.val - 512); omega), block4]
    exact congrArg (fun q => a3 m c (ix2 (row (pb t) (ps t i)) q)) (Fin.ext (by show 2048 + (j.val - 512) = 1536 + j.val; omega))

/-- The layer's result of the arguments. -/
def result (R : Fin 16384) (e : Fin 2048) : EReal :=
  spec (a0 m c) (a1 m c) (a2 m c) (a3 m c) (a4 m c) (a5 m c) (a6 m c) (a7 m c) (a8 m c) (a9 m c) (a10 m c) ⟨R.val / 4096, by omega⟩ ⟨R.val % 4096, by omega⟩ e

/-- the result array -/
def G : FVec Ideal S16384x2048 .f32 := fun y => result m c (y 0) (y 1)

theorem mixRow_eq (i : Fin 512) : mixRow (iblk m c 2 t) (iblk m c 3 t) (iblk m c 4 t) (iblk m c 5 t) (iblk m c 6 t) (iblk m c 7 t) (iblk m c 8 t) (iblk m c 9 t) (iblk m c 10 t) i
    = branches (a2 m c) (a3 m c) (a4 m c) (a5 m c) (a6 m c) (a7 m c) (pb t) (ps t i) := by
  funext k
  unfold mixRow branches
  rw [join_apply]
  simp only [block2, block5, block6, block7, block8, block9, block10]

theorem outRow_eq (i : Fin 512) (e : Fin 2048) :
    outRow (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (iblk m c 12 t) (iblk m c 13 t) i e
    = spec (a0 m c) (a1 m c) (a2 m c) (a3 m c) (a4 m c) (a5 m c) (a6 m c) (a7 m c) (a8 m c) (a9 m c) (a10 m c) (pb t) (ps t i) e := by
  have prod : product (iblk m c 2 t) (iblk m c 3 t) (iblk m c 4 t) (iblk m c 5 t) (iblk m c 6 t) (iblk m c 7 t) (iblk m c 8 t) (iblk m c 9 t) (iblk m c 10 t) (iblk m c 11 t) i
      = projected (a2 m c) (a3 m c) (a4 m c) (a5 m c) (a6 m c) (a7 m c) (a8 m c) (pb t) (ps t i) := by
    funext e
    unfold product projected
    rw [mixRow_eq]
    simp only [block11]
  unfold outRow spec
  rw [prod]
  simp only [block0, block1, block12, block13]

/-- What a point writes back is its block of the result. -/
theorem flushed_eq : (dats m 0 c).flushed 14 t = ((cfg0.win 14).blk t).view.read (Elt Ideal) (G m c) := by
  rw [flushed14_A]
  funext y
  refine (out_apply c _ _ _ _ _ _ _ _ _ _ _ _ _ _ _ _ _ _ _ _ _ _ _ _ _ _ _ _ _ _ _ _ _ _ _ _ _ _ _ _ _ _ _ _ _ _ _ _ _ y).trans ?_
  show outRow _ _ _ _ _ _ _ _ _ _ _ _ _ _ (y 0) (y 1) = G m c (((cfg0.win 14).blk t).view.emb y)
  obtain ⟨i, e, rfl⟩ : ∃ (i : Fin 512) (e : Fin 2048), y = ix2 i e := ⟨y 0, y 1, ValueIdx.eq_ix2 y⟩
  have hp : ((cfg0.win 14).blk t).view.emb (ix2 i e) = ix2 (row (pb t) (ps t i)) e := by
    refine place _ (pt t).val 0 512 2048 i.val e.val (row (pb t) (ps t i)) e ?_ ?_ (row_val t i) (by omega)
    · show win0_14.index t (0 : Fin 2) * 512 + 1 * i.val = _; rw [index14]; rfl
    · show win0_14.index t (1 : Fin 2) * 2048 + 1 * e.val = _; rw [index14]; rfl
  refine (outRow_eq m c t i e).trans (Eq.symm ((congrArg (G m c) hp).trans ?_))
  have hv := row_val t i
  have hi := i.isLt
  show spec _ _ _ _ _ _ _ _ _ _ _ _ _ _ = _
  congr 1
  · exact Fin.ext (by show (row (pb t) (ps t i)).val / 4096 = (pt t).val / 8; omega)
  · exact Fin.ext (by show (row (pb t) (ps t i)).val % 4096 = (pt t).val % 8 * 512 + i.val; omega)

theorem final : (dats m 0 c).arrAt 14 cfg0.N = G m c :=
  (dats m 0 c).arrAt_eq_of_covers 14 _ (by decide +kernel) fun t _ y => congrFun (flushed_eq m c t) y

end Outproj

end
-- ==== Proof.Outproj.Ref.lean ====
/-
  The reference's result at an element.
-/
module

public import proofs.«01_k».proof.Proof.Outproj.Spec
public import proofs.«01_k».proof.Proof.Gen.OutprojRefIdeal.Read

@[expose] public section

noncomputable section

namespace Outproj.Ref

open Cert.OutprojRefIdeal Cert.OutprojRefIdeal.Gen Cert.OutprojRefIdeal.Read
open Idealize.ShloMosaic hiding ix1 ix2 ix3 ix4 ix5
open Idealize.ShloMosaic.ValueIdx

variable (x0 : FVec Ideal S4x4096x2048 .f32) (x1 : FVec Ideal S8x6144 .f32) (x2 : FVec Ideal S4x4096x1024 .bf16) (x3 : FVec Ideal S16384x6656 .bf16)
  (x4 : FVec Ideal S4x4096x512 .bf16) (x5 x6 : FVec Ideal S4x4096x512 .f32) (x7 : FVec Ideal S128 .f32) (x8 : FVec Ideal S2048x2048 .f32)
  (x9 x10 : FVec Ideal S2048 .f32)

theorem one : Ideal.ofBits .f32 0x3F800000#32 = 1 := by
  rw [show Ideal.ofBits .f32 0x3F800000#32 = ((1 : ℝ) : EReal) by simp [Ideal.ofBits, Ideal.ieee]; try (rw [← EReal.coe_mul]; norm_num)]
  rfl
theorem zero : Ideal.ofBits .f32 0x00000000#32 = 0 := by simp [Ideal.ofBits, Ideal.ieee]

theorem silu_eq (z : EReal) : z * Ideal.div (Ideal.ofBits .f32 0x3F800000#32) (Ideal.ofBits .f32 0x3F800000#32 + Ideal.exp (-z)) = silu z := by
  rw [one]
  rfl

/-! ## The branches -/

theorem main_apply (b : Fin 4) (s : Fin 4096) (z : Fin 6656) : (val_main_v2 (F := Ideal) x3 (ix3 b s z) : EReal) = x3 (ix2 (row b s) z) := by
  rw [val_main_v2_apply, val_main_v1_apply]
  refine congrArg x3 (funext fun a => Fin.ext ?_)
  match a with
  | ⟨0, _⟩ => show ((b.val * 4096 + s.val) * 6656 + z.val) / 6656 = b.val * 4096 + s.val; omega
  | ⟨1, _⟩ => show ((b.val * 4096 + s.val) * 6656 + z.val) % 6656 = z.val; omega

/-- an index of three axes by its coordinates -/
theorem at3 {n0 n1 n2 : Nat} (f : (⟨3, ![n0, n1, n2]⟩ : Shape).Idx) (i : Fin n0) (j : Fin n1) (k : Fin n2) (h0 : (f 0).val = i.val) (h1 : (f 1).val = j.val)
    (h2 : (f 2).val = k.val) : f = ix3 i j k := funext fun a => Fin.ext (match a with
    | ⟨0, _⟩ => h0
    | ⟨1, _⟩ => h1
    | ⟨2, _⟩ => h2)

/-- an index of four axes by its coordinates -/
theorem at4 {n0 n1 n2 n3 : Nat} (f : (⟨4, ![n0, n1, n2, n3]⟩ : Shape).Idx) (i : Fin n0) (j : Fin n1) (k : Fin n2) (l : Fin n3) (h0 : (f 0).val = i.val)
    (h1 : (f 1).val = j.val) (h2 : (f 2).val = k.val) (h3 : (f 3).val = l.val) : f = ix4 i j k l := funext fun a => Fin.ext (match a with
    | ⟨0, _⟩ => h0
    | ⟨1, _⟩ => h1
    | ⟨2, _⟩ => h2
    | ⟨3, _⟩ => h3)

theorem gate_a (b : Fin 4) (s : Fin 4096) (j : Fin 1024) : (val_main_v3 (F := Ideal) x3 (ix3 b s j) : EReal) = x3 (ix2 (row b s) (col 1536 (by decide) j)) := by
  rw [val_main_v3_apply]
  exact (congrArg (val_main_v2 (F := Ideal) x3) (at3 _ b s (col 1536 (by decide) j) rfl rfl rfl)).trans (main_apply x3 b s _)
theorem gate_b (b : Fin 4) (s : Fin 4096) (j : Fin 512) : (val_main_v4 (F := Ideal) x3 (ix3 b s j) : EReal) = x3 (ix2 (row b s) (col 4096 (by decide) j)) := by
  rw [val_main_v4_apply]
  exact (congrArg (val_main_v2 (F := Ideal) x3) (at3 _ b s (col 4096 (by decide) j) rfl rfl rfl)).trans (main_apply x3 b s _)
theorem gate_c (b : Fin 4) (s : Fin 4096) (j : Fin 512) : (val_main_v5 (F := Ideal) x3 (ix3 b s j) : EReal) = x3 (ix2 (row b s) (col 6144 (by decide) j)) := by
  rw [val_main_v5_apply]
  exact (congrArg (val_main_v2 (F := Ideal) x3) (at3 _ b s (col 6144 (by decide) j) rfl rfl rfl)).trans (main_apply x3 b s _)

theorem branch_a (b : Fin 4) (s : Fin 4096) (j : Fin 1024) :
    (val_main_v8 (F := Ideal) x2 x3 (ix3 b s j) : EReal) = x2 (ix3 b s j) * silu (x3 (ix2 (row b s) (col 1536 (by decide) j))) := by
  rw [val_main_v8_apply, val_main_v6_apply, val_main_v7_apply, val_main_call0_v5_apply, val_main_call0_v4_apply, val_main_call0_cst_0_apply,
    val_main_call0_v3_apply, val_main_call0_v2_apply, val_main_call0_cst_apply, val_main_call0_v1_apply, val_main_call0_v0_apply, gate_a]
  exact congrArg (fun q : EReal => x2 (ix3 b s j) * q) (silu_eq _)

theorem branch_b (b : Fin 4) (s : Fin 4096) (j : Fin 512) :
    (val_main_v11 (F := Ideal) x3 x4 (ix3 b s j) : EReal) = x4 (ix3 b s j) * silu (x3 (ix2 (row b s) (col 4096 (by decide) j))) := by
  rw [val_main_v11_apply, val_main_v9_apply, val_main_v10_apply, val_main_call1_v5_apply, val_main_call1_v4_apply, val_main_call1_cst_0_apply,
    val_main_call1_v3_apply, val_main_call1_v2_apply, val_main_call1_cst_apply, val_main_call1_v1_apply, val_main_call1_v0_apply, gate_b]
  exact congrArg (fun q : EReal => x4 (ix3 b s j) * q) (silu_eq _)

theorem gated_c (b : Fin 4) (s : Fin 4096) (j : Fin 512) :
    (val_main_v28 (F := Ideal) x3 (ix3 b s j) : EReal) = silu (x3 (ix2 (row b s) (col 6144 (by decide) j))) := by
  rw [val_main_v28_apply, val_main_call2_v5_apply, val_main_call2_v4_apply, val_main_call2_cst_0_apply,
    val_main_call2_v3_apply, val_main_call2_v2_apply, val_main_call2_cst_apply, val_main_call2_v1_apply, val_main_call2_v0_apply, gate_c]
  exact silu_eq _

theorem sum_c (b : Fin 4) (s : Fin 4096) (h : Fin 4) (e : Fin 128) :
    (val_main_v13 (F := Ideal) x5 x6 (ix4 b s h e) : EReal) = x5 (ix3 b s (lane h e)) + x6 (ix3 b s (lane h e)) := by
  rw [val_main_v13_apply, val_main_v12_apply, at3 (idx_main_v13 (ix4 b s h e)) b s (lane h e)]
  · rfl
  · show (((b.val * 4096 + s.val) * 4 + h.val) * 128 + e.val) / 2097152 = b.val; omega
  · show (((b.val * 4096 + s.val) * 4 + h.val) * 128 + e.val) / 512 % 4096 = s.val; omega
  · show (((b.val * 4096 + s.val) * 4 + h.val) * 128 + e.val) % 512 = 128 * h.val + e.val; omega

theorem root_c (b : Fin 4) (s : Fin 4096) (h : Fin 4) (e : Fin 128) :
    (val_main_v22 (F := Ideal) x5 x6 (ix4 b s h e) : EReal)
      = Ideal.rsqrt (Ideal.div (∑ k : Fin 128, (x5 (ix3 b s (lane h k)) + x6 (ix3 b s (lane h k))) * (x5 (ix3 b s (lane h k)) + x6 (ix3 b s (lane h k)))) n128 + eps) := by
  rw [val_main_v22_apply, val_main_v21_apply, val_main_v20_apply, val_main_v18_apply, val_main_v19_apply, val_main_cst_1_apply, val_main_v17_apply,
    val_main_cst_0_apply, val_main_v16_apply, val_main_v15_apply, val_main_cst_apply]
  show Ideal.rsqrt (Ideal.div (Ideal.ofBits .f32 0x00000000#32 + _) n128 + eps) = _
  rw [zero, zero_add]
  refine congrArg (fun q : EReal => Ideal.rsqrt (Ideal.div q n128 + eps)) (Finset.sum_congr rfl fun k _ => ?_)
  rw [at4 (idx_main_v15 (idx_main_v16 (idx_main_v22 (ix4 b s h e))) k) b s h k rfl rfl rfl rfl, val_main_v14_apply, sum_c]
  rfl

theorem gain_c (b : Fin 4) (s : Fin 4096) (h : Fin 4) (e : Fin 128) : (val_main_v25 (F := Ideal) x7 (ix4 b s h e) : EReal) = x7 (ix1 e) := by
  rw [val_main_v25_apply, val_main_v24_apply]
  exact congrArg x7 (funext fun a => match a with
    | ⟨0, _⟩ => rfl)

theorem branch_c (b : Fin 4) (s : Fin 4096) (h : Fin 4) (e : Fin 128) :
    (val_main_v29 (F := Ideal) x3 x5 x6 x7 (ix3 b s (lane h e)) : EReal)
      = headVal (fun j => x5 (ix3 b s j) + x6 (ix3 b s j)) (fun j => x7 (ix1 j)) (fun j => x3 (ix2 (row b s) (col 6144 (by decide) j))) h e := by
  rw [val_main_v29_apply, val_main_v27_apply, at4 (idx_main_v27 (ix3 b s (lane h e))) b s h e, val_main_v26_apply, val_main_v23_apply, root_c, gain_c, sum_c, gated_c]
  · rfl
  · show ((b.val * 4096 + s.val) * 512 + (128 * h.val + e.val)) / 2097152 = b.val; omega
  · show ((b.val * 4096 + s.val) * 512 + (128 * h.val + e.val)) / 512 % 4096 = s.val; omega
  · show ((b.val * 4096 + s.val) * 512 + (128 * h.val + e.val)) / 128 % 4 = h.val; omega
  · show ((b.val * 4096 + s.val) * 512 + (128 * h.val + e.val)) % 128 = e.val; omega

theorem joined (b : Fin 4) (s : Fin 4096) (k : Fin 2048) : (val_main_v30 (F := Ideal) x2 x3 x4 x5 x6 x7 (ix3 b s k) : EReal) = branches x2 x3 x4 x5 x6 x7 b s k := by
  have off : ∀ (n : Nat) (z : Fin n) (d : Fin 3), d ≠ 2 → ((ix3 b s z : (⟨3, ![4, 4096, n]⟩ : Shape).Idx) d).val = ((ix3 b s k : S4x4096x2048.Idx) d).val := fun n z d hd =>
    match d with
    | ⟨0, _⟩ => rfl
    | ⟨1, _⟩ => rfl
    | ⟨2, _⟩ => absurd rfl hd
  let parts : List (Σ s : Shape, s.Idx → EReal) :=
    [⟨S4x4096x1024, val_main_v8 (F := Ideal) x2 x3⟩, ⟨S4x4096x512, val_main_v11 (F := Ideal) x3 x4⟩, ⟨S4x4096x512, val_main_v29 (F := Ideal) x3 x5 x6 x7⟩]
  unfold branches
  by_cases ha : k.val < 1024
  · rw [mix_a _ _ _ _ _ _ _ ⟨k.val, ha⟩ k rfl]
    exact (concatenate_apply_piece (t := S4x4096x2048) 2 parts concatenates_S4x4096x1024_S4x4096x512_S4x4096x512_S4x4096x2048_d2 (ix3 b s k) 0 (Nat.succ_pos _) S4x4096x1024
      (val_main_v8 (F := Ideal) x2 x3) rfl rfl 0 rfl (ix3 b s (⟨k.val, ha⟩ : Fin 1024)) (off 1024 _) (Nat.zero_add _)).trans (branch_a x2 x3 b s _)
  by_cases hb : k.val < 1536
  · rw [mix_b _ _ _ _ _ _ _ ⟨k.val - 1024, by omega⟩ k (by show k.val = 1024 + (k.val - 1024); omega)]
    exact (concatenate_apply_piece (t := S4x4096x2048) 2 parts concatenates_S4x4096x1024_S4x4096x512_S4x4096x512_S4x4096x2048_d2 (ix3 b s k) 1 (Nat.succ_lt_succ (Nat.succ_pos _)) S4x4096x512
      (val_main_v11 (F := Ideal) x3 x4) rfl rfl 1024 rfl (ix3 b s (⟨k.val - 1024, by omega⟩ : Fin 512)) (off 512 _)
      (by show 1024 + (k.val - 1024) = k.val; omega)).trans (branch_b x3 x4 b s _)
  · rw [mix_c _ _ _ _ _ _ _ ⟨(k.val - 1536) / 128, by omega⟩ ⟨(k.val - 1536) % 128, by omega⟩ k
      (by show k.val = 1536 + (128 * ((k.val - 1536) / 128) + (k.val - 1536) % 128); omega)]
    exact (concatenate_apply_piece (t := S4x4096x2048) 2 parts concatenates_S4x4096x1024_S4x4096x512_S4x4096x512_S4x4096x2048_d2 (ix3 b s k) 2 (Nat.lt_succ_self 2) S4x4096x512
      (val_main_v29 (F := Ideal) x3 x5 x6 x7) rfl rfl 1536 rfl (ix3 b s (lane ⟨(k.val - 1536) / 128, by omega⟩ ⟨(k.val - 1536) % 128, by omega⟩)) (off 512 _)
      (by show 1536 + (128 * ((k.val - 1536) / 128) + (k.val - 1536) % 128) = k.val; omega)).trans (branch_c x3 x5 x6 x7 b s _ _)

theorem dot (b : Fin 4) (s : Fin 4096) (e : Fin 2048) : (val_main_v31 (F := Ideal) x2 x3 x4 x5 x6 x7 x8 (ix3 b s e) : EReal) = projected x2 x3 x4 x5 x6 x7 x8 b s e := by
  rw [val_main_v31_apply]
  refine Finset.sum_congr rfl fun k _ => ?_
  rw [at3 (lidx_main_v31 (ix3 b s e) k) b s k rfl rfl rfl, joined]
  exact congrArg (fun q => branches x2 x3 x4 x5 x6 x7 b s k * x8 q) (funext fun a => match a with
    | ⟨0, _⟩ => rfl
    | ⟨1, _⟩ => rfl)

/-! ## The layer norm -/

/-- the residual sum -/
def residual (b : Fin 4) (s : Fin 4096) (k : Fin 2048) : EReal :=
  alpha * x0 (ix3 b s k) + x1 (ix2 (⟨b.val, by omega⟩ : Fin 8) (⟨4096 + k.val, by omega⟩ : Fin 6144)) * projected x2 x3 x4 x5 x6 x7 x8 b s k

theorem gate (b : Fin 4) (s : Fin 4096) (k : Fin 2048) :
    (val_main_v35 (F := Ideal) x1 (ix3 b s k) : EReal) = x1 (ix2 (⟨b.val, by omega⟩ : Fin 8) (⟨4096 + k.val, by omega⟩ : Fin 6144)) := by
  rw [val_main_v35_apply, val_main_v34_apply, val_main_v0_apply]
  exact congrArg x1 (funext fun a => match a with
    | ⟨0, _⟩ => rfl
    | ⟨1, _⟩ => rfl)

theorem residual_apply (b : Fin 4) (s : Fin 4096) (k : Fin 2048) : (val_main_v37 (F := Ideal) x0 x1 x2 x3 x4 x5 x6 x7 x8 (ix3 b s k) : EReal) = residual x0 x1 x2 x3 x4 x5 x6 x7 x8 b s k := by
  rw [val_main_v37_apply, val_main_v33_apply, val_main_v32_apply, val_main_cst_2_apply, val_main_v36_apply, gate, dot]
  rfl

theorem centred_apply (b : Fin 4) (s : Fin 4096) (k : Fin 2048) :
    (val_main_v43 (F := Ideal) x0 x1 x2 x3 x4 x5 x6 x7 x8 (ix3 b s k) : EReal) = centred n2048 (residual x0 x1 x2 x3 x4 x5 x6 x7 x8 b s) k := by
  rw [val_main_v43_apply, residual_apply, val_main_v42_apply, val_main_v41_apply, val_main_v40_apply, val_main_cst_4_apply, val_main_v39_apply, val_main_v38_apply,
    val_main_cst_3_apply]
  show _ - Ideal.div (Ideal.ofBits .f32 0x00000000#32 + _) n2048 = _
  rw [zero, zero_add]
  refine congrArg (fun q : EReal => residual x0 x1 x2 x3 x4 x5 x6 x7 x8 b s k - Ideal.div q n2048) (Finset.sum_congr rfl fun j _ => ?_)
  rw [at3 (idx_main_v38 (idx_main_v39 (idx_main_v42 (ix3 b s k))) j) b s j rfl rfl rfl, residual_apply]

theorem normed_apply (b : Fin 4) (s : Fin 4096) (k : Fin 2048) :
    (val_main_v53 (F := Ideal) x0 x1 x2 x3 x4 x5 x6 x7 x8 (ix3 b s k) : EReal) = rms n2048 (centred n2048 (residual x0 x1 x2 x3 x4 x5 x6 x7 x8 b s)) k := by
  rw [val_main_v53_apply, centred_apply, val_main_v52_apply, val_main_v51_apply, val_main_v50_apply, val_main_v49_apply, val_main_cst_7_apply, val_main_v48_apply,
    val_main_v47_apply, val_main_cst_6_apply, val_main_v46_apply, val_main_v45_apply, val_main_cst_5_apply]
  show _ * Ideal.rsqrt (Ideal.div (Ideal.ofBits .f32 0x00000000#32 + _) n2048 + eps) = _
  rw [zero, zero_add]
  refine congrArg (fun q : EReal => centred n2048 (residual x0 x1 x2 x3 x4 x5 x6 x7 x8 b s) k * Ideal.rsqrt (Ideal.div q n2048 + eps)) (Finset.sum_congr rfl fun j _ => ?_)
  rw [at3 (idx_main_v45 (idx_main_v46 (idx_main_v52 (ix3 b s k))) j) b s j rfl rfl rfl, val_main_v44_apply, centred_apply]
  rfl

theorem gain (b : Fin 4) (s : Fin 4096) (k : Fin 2048) : (val_main_v55 (F := Ideal) x9 (ix3 b s k) : EReal) = x9 (ix1 k) := by
  rw [val_main_v55_apply, val_main_v54_apply]
  exact congrArg x9 (funext fun a => match a with
    | ⟨0, _⟩ => rfl)
theorem bias (b : Fin 4) (s : Fin 4096) (k : Fin 2048) : (val_main_v58 (F := Ideal) x10 (ix3 b s k) : EReal) = x10 (ix1 k) := by
  rw [val_main_v58_apply, val_main_v57_apply]
  exact congrArg x10 (funext fun a => match a with
    | ⟨0, _⟩ => rfl)

theorem ref_apply (R : Fin 16384) (e : Fin 2048) : (val_main_v60 (F := Ideal) x0 x1 x2 x3 x4 x5 x6 x7 x8 x9 x10 (ix2 R e) : EReal)
    = spec x0 x1 x2 x3 x4 x5 x6 x7 x8 x9 x10 ⟨R.val / 4096, by omega⟩ ⟨R.val % 4096, by omega⟩ e := by
  rw [val_main_v60_apply, at3 (idx_main_v60 (ix2 R e)) ⟨R.val / 4096, by omega⟩ ⟨R.val % 4096, by omega⟩ e, val_main_v59_apply, val_main_v56_apply, normed_apply, gain, bias]
  · rfl
  · show (R.val * 2048 + e.val) / 8388608 = R.val / 4096; omega
  · show (R.val * 2048 + e.val) / 2048 % 4096 = R.val % 4096; omega
  · show (R.val * 2048 + e.val) % 2048 = e.val; omega

end Outproj.Ref

end
-- ==== Proof.Inproj.Same.lean ====
/-
  The two programs of the input projection have the same text, so their body tables are equal.
-/
module

public import proofs.«01_k».proof.Proof.Gen.Inproj
public import proofs.«01_k».proof.Proof.Gen.InprojIdeal
public import Idealize.ShloMosaic.Lib.Tactic

@[expose] public section

set_option maxRecDepth 100000

noncomputable section

namespace Inproj

open Idealize.ShloMosaic Idealize.SL.Sem

theorem defs_same {F : FTy → Type} [FloatOps F] : Cert.InprojIdeal.defs (F := F) = Cert.Inproj.defs (F := F) := by sl_kernel_rfl

end Inproj

end
-- ==== Proof.Inproj.Run.lean ====
/-
  The body of the input projection, run once per case over any values: at a row block's first point it leaves the normalised rows in the
  scratch buffer and writes both outputs' rows; at the other points it multiplies the kept rows and leaves the second output alone.
-/
module

public import proofs.«01_k».proof.Proof.Gen.InprojIdeal.Frame
public import proofs.«01_k».proof.Proof.Gen.InprojIdeal.Skeleton

@[expose] public section

set_option maxRecDepth 16384

noncomputable section

namespace Inproj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- the first point of a row block: what is stored into the two outputs and into the scratch buffer, and the run that stores it -/
noncomputable def runFirst (c : Dev nD) (i : grid0.Coords) (h1 : k0_cond1 i = 1#1) (h2 : ¬ k0_cond2 i = 1#1) (arg2 : Memref sig .tc .vmem S2048x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x128 .bf16) (harg6 : arg6.IsWhole)
    (arg7 : Memref sig .tc .vmem S2048x512 .bf16) (harg7 : arg7.IsWhole) (arg8 : Memref sig .tc .vmem S2048x128 .f32) (harg8 : arg8.IsWhole) (arg9 : Memref sig .tc .vmem S2048x2048 .bf16) (harg9 : arg9.IsWhole)
    (x : Vec F S2048x2048 .f32) (b g : Vec F S1x1x2048 .f32) (w : Vec F S2048x512 .bf16) (w' : Vec F S2048x128 .bf16) :
    Σ' (L7 : List (View.Piece (Elt F) S2048x512 .bf16)), Σ' (L8 : List (View.Piece (Elt F) S2048x128 .f32)), { L9 : List (View.Piece (Elt F) S2048x2048 .bf16) //
      ∀ (E : Set ℕ) (K : PUnit → sProp 𝕄),
        iprop(owns (c : Thread nD τ) arg2 fullShare x ∗ owns (c : Thread nD τ) arg3 fullShare b ∗ owns (c : Thread nD τ) arg4 fullShare g ∗ owns (c : Thread nD τ) arg5 fullShare w ∗ owns (c : Thread nD τ) arg6 fullShare w'
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x ∗ owns (c : Thread nD τ) arg3 fullShare b ∗ owns (c : Thread nD τ) arg4 fullShare g ∗ owns (c : Thread nD τ) arg5 fullShare w ∗ owns (c : Thread nD τ) arg6 fullShare w'
              ∗ (∃ f, arg7.view.loc (c : Thread nD τ) ↦[arg7.view.set]{fullShare} arg7.view.writes (Elt F) f L7)
              ∗ (∃ f, arg8.view.loc (c : Thread nD τ) ↦[arg8.view.set]{fullShare} arg8.view.writes (Elt F) f L8)
              ∗ (∃ f, arg9.view.loc (c : Thread nD τ) ↦[arg9.view.set]{fullShare} arg9.view.writes (Elt F) f L9)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, ?_, ?_, fun E K => ?run⟩
  case run =>
    simp only [cc0_inproj_eq_skeleton]; unfold cc0_inproj_skel
    simp only [dif_pos h1, dif_neg h2]
    simp only [k0_part10_eq_skeleton, k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 1000000 in
/-- another point: what is stored into the first output, the scratch buffer at `h` -/
noncomputable def runNext (c : Dev nD) (i : grid0.Coords) (h1 : ¬ k0_cond1 i = 1#1) (h2 : k0_cond2 i = 1#1) (arg2 : Memref sig .tc .vmem S2048x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x128 .bf16) (harg6 : arg6.IsWhole)
    (arg7 : Memref sig .tc .vmem S2048x512 .bf16) (harg7 : arg7.IsWhole) (arg8 : Memref sig .tc .vmem S2048x128 .f32) (harg8 : arg8.IsWhole) (arg9 : Memref sig .tc .vmem S2048x2048 .bf16) (harg9 : arg9.IsWhole)
    (w : Vec F S2048x512 .bf16) (h : Vec F S2048x2048 .bf16) :
    { L7 : List (View.Piece (Elt F) S2048x512 .bf16) //
      ∀ (E : Set ℕ) (K : PUnit → sProp 𝕄),
        iprop(owns (c : Thread nD τ) arg5 fullShare w ∗ (∃ d, owns (c : Thread nD τ) arg7 fullShare d) ∗ owns (c : Thread nD τ) arg9 fullShare h
            ∗ (iprop(owns (c : Thread nD τ) arg5 fullShare w
              ∗ (∃ f, arg7.view.loc (c : Thread nD τ) ↦[arg7.view.set]{fullShare} arg7.view.writes (Elt F) f L7)
              ∗ owns (c : Thread nD τ) arg9 fullShare h) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, fun E K => ?run⟩
  case run =>
    simp only [cc0_inproj_eq_skeleton]; unfold cc0_inproj_skel
    simp only [dif_neg h1, dif_pos h2]
    unfold owns
    iintro ⟨⟨%f5, %hf5, H5⟩, ⟨%d7, %f7, -, H7⟩, ⟨%f9, %hf9, H9⟩, Hk⟩
    obtain rfl := harg5.eq_unread hf5; obtain rfl := harg9.eq_unread hf9
    sl_exec
    sl_step
    iapply Hk
    isplitl [H5]
    · iexists _; isplitr; · ipureintro; exact harg5.read_unread _
      iexact H5
    isplitl [H7]; · iexists _; iexact H7
    iexists _; isplitr; · ipureintro; exact harg9.read_unread _
    iexact H9

end Inproj

end
-- ==== Proof.Inproj.Rows.lean ====
/-
  What the body's stores leave in each buffer, as functions of the input blocks, over any values: the normalised rows in the scratch
  buffer, and their products in the two output blocks.
-/
module

public import proofs.«01_k».proof.Proof.Inproj.Run
public import Idealize.ShloMosaic.Lib.Pipeline.ReadBack
public import Idealize.ShloMosaic.Lib.ValueIdxCore
public import Idealize.ShloMosaic.Lib.Pipeline.ValueKit.Tiles

@[expose] public section

set_option maxRecDepth 16384

noncomputable section

namespace Inproj

open Cert.InprojIdeal Cert.InprojIdeal.Gen
open Idealize.ShloMosaic
open Idealize.ShloMosaic.ValueIdx

variable {F : FTy → Type} [FloatOps F]

section
variable {α : Type} {n : Nat}

/-- the 256 rows of an array around row `R` -/
def unitOf (a : (⟨2, ![2048, n]⟩ : Shape).Idx → α) (R : Fin 2048) (z : (⟨2, ![256, n]⟩ : Shape).Idx) : α :=
  a (ix2 ⟨256 * (R.val / 256) + (z 0).val, by have h : (z 0).val < 256 := (z 0).isLt; omega⟩ (z 1))

/-- an array made unit by unit of 256 rows -/
def byUnit (f : Fin 2048 → (⟨2, ![256, n]⟩ : Shape).Idx → α) (y : (⟨2, ![2048, n]⟩ : Shape).Idx) : α :=
  f (y 0) (ix2 ⟨(y 0).val % 256, Nat.mod_lt _ (by omega)⟩ (y 1))

end

/-- the normalised, modulated rows -/
def hidden (x : Vec F S2048x2048 .f32) (b g : Vec F S1x1x2048 .f32) : Vec F S2048x2048 .bf16 := byUnit fun R => k0_pay3 (unitOf x R) g b

/-- the first output's rows, unit by unit -/
def mainRows (h : Vec F S2048x2048 .bf16) (w : Vec F S2048x512 .bf16) : Vec F S2048x512 .bf16 := byUnit fun R => k0_pay5 (unitOf h R) w

/-- the second output's rows -/
def sideRows (h : Vec F S2048x2048 .bf16) (w : Vec F S2048x128 .bf16) : Vec F S2048x128 .f32 := byUnit fun R => k0_pay4 (unitOf h R) w

theorem load_whole {S : Shape} {e : EltTy} (a : Memref sig .tc .vmem S e) (ha : a.IsWhole) (X : Vec F S e) (off : Fin S.rank → Nat) (h0 : ∀ i, off i = 0)
    (inb : ∀ i, off i + S.size i ≤ S.size i) : View.readAt (Elt F) a.view (Rect.unit (s := S) off S.size inb).toLoadRect (ha.unread X) = X := by
  rw [View.readAt_eq_ld, ha.read_unread]
  exact funext fun z => View.ld_unit_apply_of X off _ inb z z fun i => by rw [h0, Nat.zero_add]

/-- Rows `256 u` to `256 u + 255` at one of them. -/
theorem unit_at {n : Nat} {α : Type} (f : Fin 2048 → (⟨2, ![256, n]⟩ : Shape).Idx → α) (u o : Nat) (ho : o = 256 * u)
    (inb : ∀ b, (![o, 0] : Fin 2 → Nat) b + (⟨2, ![256, n]⟩ : Shape).size b ≤ (⟨2, ![2048, n]⟩ : Shape).size b) (z : (⟨2, ![256, n]⟩ : Shape).Idx)
    (p : (⟨2, ![256, n]⟩ : Shape).Idx → α) (hp : ∀ R : Fin 2048, R.val / 256 = u → p = f R) :
    p z = byUnit f ((Rect.unit (s := (⟨2, ![2048, n]⟩ : Shape)) ![o, 0] (⟨2, ![256, n]⟩ : Shape).size inb).emb z) := by
  have hz : (z 0).val < 256 := (z 0).isLt
  have hR : ((((Rect.unit (s := (⟨2, ![2048, n]⟩ : Shape)) ![o, 0] (⟨2, ![256, n]⟩ : Shape).size inb).emb z) 0 : Fin 2048)).val = o + (z 0).val := by
    show o + 1 * (z 0).val = _; omega
  unfold byUnit
  rw [hp ⟨o + 1 * (z 0).val, by have h : o + 256 ≤ 2048 := inb 0; omega⟩ (show (o + 1 * (z 0).val) / 256 = u by omega)]
  refine congrArg _ ((ValueIdx.eq_ix2 z).trans (congrArg₂ ix2 (Fin.ext ?_) (Fin.ext ?_)))
  · show (z 0).val = _ % 256
    rw [hR]; omega
  · show (z 1).val = 0 + 1 * (z 1).val; omega

theorem load_unit {n : Nat} {e : EltTy} (a : Memref sig .tc .vmem (⟨2, ![2048, n]⟩ : Shape) e) (ha : a.IsWhole) (X : Vec F (⟨2, ![2048, n]⟩ : Shape) e) (u o : Nat)
    (ho : o = 256 * u) (inb : ∀ b, (![o, 0] : Fin 2 → Nat) b + (⟨2, ![256, n]⟩ : Shape).size b ≤ (⟨2, ![2048, n]⟩ : Shape).size b) (R : Fin 2048) (hR : R.val / 256 = u) :
    View.readAt (Elt F) a.view (Rect.unit (s := (⟨2, ![2048, n]⟩ : Shape)) ![o, 0] (⟨2, ![256, n]⟩ : Shape).size inb).toLoadRect (ha.unread X) = unitOf X R := by
  rw [View.readAt_eq_ld, ha.read_unread]
  exact funext fun z => View.ld_unit_apply_of X _ _ inb z _ fun i => by
    match i with
    | ⟨0, _⟩ => show 256 * (R.val / 256) + (z 0).val = o + (z 0).val; omega
    | ⟨1, _⟩ => exact (Nat.zero_add _).symm

theorem hidden_piece (x : Vec F S2048x2048 .f32) (b g : Vec F S1x1x2048 .f32)
    (a2 : Memref sig .tc .vmem S2048x2048 .f32) (h2 : a2.IsWhole) (a3 a4 : Memref sig .tc .vmem S1x1x2048 .f32) (h3 : a3.IsWhole) (h4 : a4.IsWhole)
    (u o : Nat) (ho : o = 256 * u) (i2 : ∀ b, (![o, 0] : Fin 2 → Nat) b + S256x2048.size b ≤ S2048x2048.size b)
    (i3 : ∀ b, (![0, 0, 0] : Fin 3 → Nat) b + S1x1x2048.size b ≤ S1x1x2048.size b) (z : S256x2048.Idx) :
    (k0_pay3 (View.readAt (Elt F) a2.view (Rect.unit (s := S2048x2048) ![o, 0] S256x2048.size i2).toLoadRect (h2.unread x))
      (View.readAt (Elt F) a4.view (Rect.unit (s := S1x1x2048) ![0, 0, 0] S1x1x2048.size i3).toLoadRect (h4.unread g))
      (View.readAt (Elt F) a3.view (Rect.unit (s := S1x1x2048) ![0, 0, 0] S1x1x2048.size i3).toLoadRect (h3.unread b)) : FVec F S256x2048 .bf16) z
      = hidden x b g ((Rect.unit (s := S2048x2048) ![o, 0] S256x2048.size i2).emb z) :=
  unit_at (fun R => k0_pay3 (unitOf x R) g b) u o ho i2 z _ fun R hR => by
    have z0 : ∀ i, (![0, 0, 0] : Fin 3 → Nat) i = 0 := fun i => match i with | ⟨0, _⟩ => rfl | ⟨1, _⟩ => rfl | ⟨2, _⟩ => rfl
    rw [load_whole a4 h4 g _ z0 i3, load_whole a3 h3 b _ z0 i3, load_unit a2 h2 x u o ho i2 R hR]

/-- The rows just stored, loaded back. -/
theorem hidden_load (x : Vec F S2048x2048 .f32) (b g : Vec F S1x1x2048 .f32) (a9 : Memref sig .tc .vmem S2048x2048 .bf16)
    (u o : Nat) (ho : o = 256 * u) (i9 : ∀ b, (![o, 0] : Fin 2 → Nat) b + S256x2048.size b ≤ S2048x2048.size b) (w) (L : List (View.Piece (Elt F) S2048x2048 .bf16))
    (hL : View.PiecesOf (hidden x b g) (⟨Rect.unit (s := S2048x2048) ![o, 0] S256x2048.size i9, w⟩ :: L)) (R : Fin 2048) (hR : R.val / 256 = u) :
    View.readCov a9.view (⟨Rect.unit (s := S2048x2048) ![o, 0] S256x2048.size i9, w⟩ :: L) (Rect.unit (s := S2048x2048) ![o, 0] S256x2048.size i9).toLoadRect
      = unitOf (hidden x b g) R := by
  rw [View.readCov_eq_canon']
  refine funext fun z => (View.canon_apply_of_pieces (hidden x b g) _ (View.PiecesOf.mem hL) _
    ⟨_, .head _, (Rect.mem_set_unit (inb := i9)).2 fun i => ?_⟩).trans (congrArg (hidden x b g) (funext fun i => Fin.ext ?_))
  · match i with
    | ⟨0, _⟩ => exact ⟨by show o ≤ o + 1 * (z 0).val; omega, by have h : (z 0).val < 256 := (z 0).isLt; show o + 1 * (z 0).val < o + 256; omega⟩
    | ⟨1, _⟩ => exact ⟨Nat.zero_le _, by have h : (z 1).val < 2048 := (z 1).isLt; show 0 + 1 * (z 1).val < 0 + 2048; omega⟩
  · match i with
    | ⟨0, _⟩ => show o + 1 * (z 0).val = 256 * (R.val / 256) + (z 0).val; omega
    | ⟨1, _⟩ => show 0 + 1 * (z 1).val = (z 1).val; omega

theorem main_piece (h : Vec F S2048x2048 .bf16) (w : Vec F S2048x512 .bf16) (a5 : Memref sig .tc .vmem S2048x512 .bf16) (h5 : a5.IsWhole)
    (u o : Nat) (ho : o = 256 * u) (i7 : ∀ b, (![o, 0] : Fin 2 → Nat) b + S256x512.size b ≤ S2048x512.size b)
    (i5 : ∀ b, (![0, 0] : Fin 2 → Nat) b + S2048x512.size b ≤ S2048x512.size b) (X : Vec F S256x2048 .bf16) (hX : ∀ R : Fin 2048, R.val / 256 = u → X = unitOf h R) (z : S256x512.Idx) :
    (k0_pay5 X (View.readAt (Elt F) a5.view (Rect.unit (s := S2048x512) ![0, 0] S2048x512.size i5).toLoadRect (h5.unread w)) : FVec F S256x512 .bf16) z
      = mainRows h w ((Rect.unit (s := S2048x512) ![o, 0] S256x512.size i7).emb z) :=
  unit_at (fun R => k0_pay5 (unitOf h R) w) u o ho i7 z _ fun R hR => by
    rw [load_whole a5 h5 w _ (fun i => match i with | ⟨0, _⟩ => rfl | ⟨1, _⟩ => rfl) i5, hX R hR]

theorem side_piece (h : Vec F S2048x2048 .bf16) (w : Vec F S2048x128 .bf16) (a6 : Memref sig .tc .vmem S2048x128 .bf16) (h6 : a6.IsWhole)
    (u o : Nat) (ho : o = 256 * u) (i8 : ∀ b, (![o, 0] : Fin 2 → Nat) b + S256x128.size b ≤ S2048x128.size b)
    (i6 : ∀ b, (![0, 0] : Fin 2 → Nat) b + S2048x128.size b ≤ S2048x128.size b) (X : Vec F S256x2048 .bf16) (hX : ∀ R : Fin 2048, R.val / 256 = u → X = unitOf h R) (z : S256x128.Idx) :
    (k0_pay4 X (View.readAt (Elt F) a6.view (Rect.unit (s := S2048x128) ![0, 0] S2048x128.size i6).toLoadRect (h6.unread w)) : FVec F S256x128 .f32) z
      = sideRows h w ((Rect.unit (s := S2048x128) ![o, 0] S256x128.size i8).emb z) :=
  unit_at (fun R => k0_pay4 (unitOf h R) w) u o ho i8 z _ fun R hR => by
    rw [load_whole a6 h6 w _ (fun i => match i with | ⟨0, _⟩ => rfl | ⟨1, _⟩ => rfl) i6, hX R hR]

/-- Eight stores of 256 rows cover the block. -/
theorem cover_units {n : Nat} {e : EltTy}
    (i0 : ∀ b, (![0, 0] : Fin 2 → Nat) b + (⟨2, ![256, n]⟩ : Shape).size b ≤ (⟨2, ![2048, n]⟩ : Shape).size b) (w0)
    (i1 : ∀ b, (![256, 0] : Fin 2 → Nat) b + (⟨2, ![256, n]⟩ : Shape).size b ≤ (⟨2, ![2048, n]⟩ : Shape).size b) (w1)
    (i2 : ∀ b, (![512, 0] : Fin 2 → Nat) b + (⟨2, ![256, n]⟩ : Shape).size b ≤ (⟨2, ![2048, n]⟩ : Shape).size b) (w2)
    (i3 : ∀ b, (![768, 0] : Fin 2 → Nat) b + (⟨2, ![256, n]⟩ : Shape).size b ≤ (⟨2, ![2048, n]⟩ : Shape).size b) (w3)
    (i4 : ∀ b, (![1024, 0] : Fin 2 → Nat) b + (⟨2, ![256, n]⟩ : Shape).size b ≤ (⟨2, ![2048, n]⟩ : Shape).size b) (w4)
    (i5 : ∀ b, (![1280, 0] : Fin 2 → Nat) b + (⟨2, ![256, n]⟩ : Shape).size b ≤ (⟨2, ![2048, n]⟩ : Shape).size b) (w5)
    (i6 : ∀ b, (![1536, 0] : Fin 2 → Nat) b + (⟨2, ![256, n]⟩ : Shape).size b ≤ (⟨2, ![2048, n]⟩ : Shape).size b) (w6)
    (i7 : ∀ b, (![1792, 0] : Fin 2 → Nat) b + (⟨2, ![256, n]⟩ : Shape).size b ≤ (⟨2, ![2048, n]⟩ : Shape).size b) (w7)
    (y : (⟨2, ![2048, n]⟩ : Shape).Idx) :
    ∃ p ∈ ([⟨Rect.unit ![1792, 0] (⟨2, ![256, n]⟩ : Shape).size i7, w7⟩, ⟨Rect.unit ![1536, 0] (⟨2, ![256, n]⟩ : Shape).size i6, w6⟩, ⟨Rect.unit ![1280, 0] (⟨2, ![256, n]⟩ : Shape).size i5, w5⟩, ⟨Rect.unit ![1024, 0] (⟨2, ![256, n]⟩ : Shape).size i4, w4⟩, ⟨Rect.unit ![768, 0] (⟨2, ![256, n]⟩ : Shape).size i3, w3⟩, ⟨Rect.unit ![512, 0] (⟨2, ![256, n]⟩ : Shape).size i2, w2⟩, ⟨Rect.unit ![256, 0] (⟨2, ![256, n]⟩ : Shape).size i1, w1⟩, ⟨Rect.unit ![0, 0] (⟨2, ![256, n]⟩ : Shape).size i0, w0⟩] : List (View.Piece (Elt F) (⟨2, ![2048, n]⟩ : Shape) e)), y ∈ p.1.set := by
  have inside : ∀ (o : Nat) (i : ∀ b, (![o, 0] : Fin 2 → Nat) b + (⟨2, ![256, n]⟩ : Shape).size b ≤ (⟨2, ![2048, n]⟩ : Shape).size b), o ≤ (y 0).val → (y 0).val < o + 256 →
      y ∈ (Rect.unit (s := (⟨2, ![2048, n]⟩ : Shape)) ![o, 0] (⟨2, ![256, n]⟩ : Shape).size i).set := fun o i hl hu => Rect.mem_set_unit.2 (fun b => by
    match b with
    | ⟨0, _⟩ => exact ⟨hl, hu⟩
    | ⟨1, _⟩ => exact ⟨Nat.zero_le _, by show (y 1).val < 0 + n; rw [Nat.zero_add]; exact (y 1).isLt⟩)
  have hk : (y 0).val < 2048 := (y 0).isLt
  by_cases h7 : 1792 ≤ (y 0).val
  · exact ⟨_, .head _, inside 1792 i7 h7 (by omega)⟩
  by_cases h6 : 1536 ≤ (y 0).val
  · exact ⟨_, .tail _ (.head _), inside 1536 i6 h6 (by omega)⟩
  by_cases h5 : 1280 ≤ (y 0).val
  · exact ⟨_, .tail _ (.tail _ (.head _)), inside 1280 i5 h5 (by omega)⟩
  by_cases h4 : 1024 ≤ (y 0).val
  · exact ⟨_, .tail _ (.tail _ (.tail _ (.head _))), inside 1024 i4 h4 (by omega)⟩
  by_cases h3 : 768 ≤ (y 0).val
  · exact ⟨_, .tail _ (.tail _ (.tail _ (.tail _ (.head _)))), inside 768 i3 h3 (by omega)⟩
  by_cases h2 : 512 ≤ (y 0).val
  · exact ⟨_, .tail _ (.tail _ (.tail _ (.tail _ (.tail _ (.head _))))), inside 512 i2 h2 (by omega)⟩
  by_cases h1 : 256 ≤ (y 0).val
  · exact ⟨_, .tail _ (.tail _ (.tail _ (.tail _ (.tail _ (.tail _ (.head _)))))), inside 256 i1 h1 (by omega)⟩
  · exact ⟨_, .tail _ (.tail _ (.tail _ (.tail _ (.tail _ (.tail _ (.tail _ (.head _))))))), inside 0 i0 (Nat.zero_le _) (by omega)⟩

section
variable (c : Dev nD) (arg2 : Memref sig .tc .vmem S2048x2048 .f32) (harg2 : arg2.IsWhole) (arg3 : Memref sig .tc .vmem S1x1x2048 .f32) (harg3 : arg3.IsWhole)
  (arg4 : Memref sig .tc .vmem S1x1x2048 .f32) (harg4 : arg4.IsWhole) (x : Vec F S2048x2048 .f32) (b g : Vec F S1x1x2048 .f32)

theorem stored1 : View.PiecesOf (hidden x b g) (runFirst.sl.H9_1 (F := F) c arg2 harg2 arg3 harg3 arg4 harg4 x b g) :=
  ⟨hidden_piece x b g arg2 harg2 arg3 arg4 harg3 harg4 0 0 rfl inb_S2048x2048_S256x2048_0_0 inb_S1x1x2048_S1x1x2048_0_0_0, trivial⟩
theorem stored2 : View.PiecesOf (hidden x b g) (runFirst.sl.H9_2 (F := F) c arg2 harg2 arg3 harg3 arg4 harg4 x b g) :=
  ⟨hidden_piece x b g arg2 harg2 arg3 arg4 harg3 harg4 1 256 rfl inb_S2048x2048_S256x2048_256_0 inb_S1x1x2048_S1x1x2048_0_0_0, stored1 c arg2 harg2 arg3 harg3 arg4 harg4 x b g⟩
theorem stored3 : View.PiecesOf (hidden x b g) (runFirst.sl.H9_3 (F := F) c arg2 harg2 arg3 harg3 arg4 harg4 x b g) :=
  ⟨hidden_piece x b g arg2 harg2 arg3 arg4 harg3 harg4 2 512 rfl inb_S2048x2048_S256x2048_512_0 inb_S1x1x2048_S1x1x2048_0_0_0, stored2 c arg2 harg2 arg3 harg3 arg4 harg4 x b g⟩
theorem stored4 : View.PiecesOf (hidden x b g) (runFirst.sl.H9_4 (F := F) c arg2 harg2 arg3 harg3 arg4 harg4 x b g) :=
  ⟨hidden_piece x b g arg2 harg2 arg3 arg4 harg3 harg4 3 768 rfl inb_S2048x2048_S256x2048_768_0 inb_S1x1x2048_S1x1x2048_0_0_0, stored3 c arg2 harg2 arg3 harg3 arg4 harg4 x b g⟩
theorem stored5 : View.PiecesOf (hidden x b g) (runFirst.sl.H9_5 (F := F) c arg2 harg2 arg3 harg3 arg4 harg4 x b g) :=
  ⟨hidden_piece x b g arg2 harg2 arg3 arg4 harg3 harg4 4 1024 rfl inb_S2048x2048_S256x2048_1024_0 inb_S1x1x2048_S1x1x2048_0_0_0, stored4 c arg2 harg2 arg3 harg3 arg4 harg4 x b g⟩
theorem stored6 : View.PiecesOf (hidden x b g) (runFirst.sl.H9_6 (F := F) c arg2 harg2 arg3 harg3 arg4 harg4 x b g) :=
  ⟨hidden_piece x b g arg2 harg2 arg3 arg4 harg3 harg4 5 1280 rfl inb_S2048x2048_S256x2048_1280_0 inb_S1x1x2048_S1x1x2048_0_0_0, stored5 c arg2 harg2 arg3 harg3 arg4 harg4 x b g⟩
theorem stored7 : View.PiecesOf (hidden x b g) (runFirst.sl.H9_7 (F := F) c arg2 harg2 arg3 harg3 arg4 harg4 x b g) :=
  ⟨hidden_piece x b g arg2 harg2 arg3 arg4 harg3 harg4 6 1536 rfl inb_S2048x2048_S256x2048_1536_0 inb_S1x1x2048_S1x1x2048_0_0_0, stored6 c arg2 harg2 arg3 harg3 arg4 harg4 x b g⟩
theorem stored8 : View.PiecesOf (hidden x b g) (runFirst.sl.H9_8 (F := F) c arg2 harg2 arg3 harg3 arg4 harg4 x b g) :=
  ⟨hidden_piece x b g arg2 harg2 arg3 arg4 harg3 harg4 7 1792 rfl inb_S2048x2048_S256x2048_1792_0 inb_S1x1x2048_S1x1x2048_0_0_0, stored7 c arg2 harg2 arg3 harg3 arg4 harg4 x b g⟩

variable (arg9 : Memref sig .tc .vmem S2048x2048 .bf16) (R : Fin 2048)

theorem loaded1 (hR : R.val / 256 = 0) : runFirst.sl.v38 (F := F) c arg2 harg2 arg3 harg3 arg4 harg4 arg9 x b g = unitOf (hidden x b g) R :=
  hidden_load x b g arg9 0 0 rfl inb_S2048x2048_S256x2048_0_0 _ _ (stored1 c arg2 harg2 arg3 harg3 arg4 harg4 x b g) R hR
theorem loaded2 (hR : R.val / 256 = 1) : runFirst.sl.v81 (F := F) c arg2 harg2 arg3 harg3 arg4 harg4 arg9 x b g = unitOf (hidden x b g) R :=
  hidden_load x b g arg9 1 256 rfl inb_S2048x2048_S256x2048_256_0 _ _ (stored2 c arg2 harg2 arg3 harg3 arg4 harg4 x b g) R hR
theorem loaded3 (hR : R.val / 256 = 2) : runFirst.sl.v124 (F := F) c arg2 harg2 arg3 harg3 arg4 harg4 arg9 x b g = unitOf (hidden x b g) R :=
  hidden_load x b g arg9 2 512 rfl inb_S2048x2048_S256x2048_512_0 _ _ (stored3 c arg2 harg2 arg3 harg3 arg4 harg4 x b g) R hR
theorem loaded4 (hR : R.val / 256 = 3) : runFirst.sl.v167 (F := F) c arg2 harg2 arg3 harg3 arg4 harg4 arg9 x b g = unitOf (hidden x b g) R :=
  hidden_load x b g arg9 3 768 rfl inb_S2048x2048_S256x2048_768_0 _ _ (stored4 c arg2 harg2 arg3 harg3 arg4 harg4 x b g) R hR
theorem loaded5 (hR : R.val / 256 = 4) : runFirst.sl.v210 (F := F) c arg2 harg2 arg3 harg3 arg4 harg4 arg9 x b g = unitOf (hidden x b g) R :=
  hidden_load x b g arg9 4 1024 rfl inb_S2048x2048_S256x2048_1024_0 _ _ (stored5 c arg2 harg2 arg3 harg3 arg4 harg4 x b g) R hR
theorem loaded6 (hR : R.val / 256 = 5) : runFirst.sl.v253 (F := F) c arg2 harg2 arg3 harg3 arg4 harg4 arg9 x b g = unitOf (hidden x b g) R :=
  hidden_load x b g arg9 5 1280 rfl inb_S2048x2048_S256x2048_1280_0 _ _ (stored6 c arg2 harg2 arg3 harg3 arg4 harg4 x b g) R hR
theorem loaded7 (hR : R.val / 256 = 6) : runFirst.sl.v296 (F := F) c arg2 harg2 arg3 harg3 arg4 harg4 arg9 x b g = unitOf (hidden x b g) R :=
  hidden_load x b g arg9 6 1536 rfl inb_S2048x2048_S256x2048_1536_0 _ _ (stored7 c arg2 harg2 arg3 harg3 arg4 harg4 x b g) R hR
theorem loaded8 (hR : R.val / 256 = 7) : runFirst.sl.v339 (F := F) c arg2 harg2 arg3 harg3 arg4 harg4 arg9 x b g = unitOf (hidden x b g) R :=
  hidden_load x b g arg9 7 1792 rfl inb_S2048x2048_S256x2048_1792_0 _ _ (stored8 c arg2 harg2 arg3 harg3 arg4 harg4 x b g) R hR

end

end Inproj

end
-- ==== Proof.Inproj.Left.lean ====
/-
  The two runs of the body with their buffers' final contents named.
-/
module

public import proofs.«01_k».proof.Proof.Inproj.Rows

@[expose] public section

set_option maxRecDepth 16384

noncomputable section

namespace Inproj

open Cert.InprojIdeal Cert.InprojIdeal.Gen
open Idealize.ShloMosaic

variable {F : FTy → Type} [FloatOps F]

section
variable (c : Dev nD) (i : grid0.Coords) (h1 : k0_cond1 i = 1#1) (h2 : ¬ k0_cond2 i = 1#1)
  (arg2 : Memref sig .tc .vmem S2048x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S2048x512 .bf16) (harg5 : arg5.IsWhole)
  (arg6 : Memref sig .tc .vmem S2048x128 .bf16) (harg6 : arg6.IsWhole) (arg7 : Memref sig .tc .vmem S2048x512 .bf16) (harg7 : arg7.IsWhole)
  (arg8 : Memref sig .tc .vmem S2048x128 .f32) (harg8 : arg8.IsWhole) (arg9 : Memref sig .tc .vmem S2048x2048 .bf16) (harg9 : arg9.IsWhole)
  (x : Vec F S2048x2048 .f32) (b g : Vec F S1x1x2048 .f32) (w : Vec F S2048x512 .bf16) (w' : Vec F S2048x128 .bf16)

theorem first_main : View.PiecesOf (mainRows (hidden x b g) w) (runFirst (F := F) c i h1 h2 arg2 harg2 arg3 harg3 arg4 harg4 arg5 harg5 arg6 harg6 arg7 harg7 arg8 harg8 arg9 harg9 x b g w w').1 :=
  ⟨main_piece _ w arg5 harg5 7 1792 rfl inb_S2048x512_S256x512_1792_0 inb_S2048x512_S2048x512_0_0 _ (fun R hR => loaded8 c arg2 harg2 arg3 harg3 arg4 harg4 x b g arg9 R hR)
    , main_piece _ w arg5 harg5 6 1536 rfl inb_S2048x512_S256x512_1536_0 inb_S2048x512_S2048x512_0_0 _ (fun R hR => loaded7 c arg2 harg2 arg3 harg3 arg4 harg4 x b g arg9 R hR)
    , main_piece _ w arg5 harg5 5 1280 rfl inb_S2048x512_S256x512_1280_0 inb_S2048x512_S2048x512_0_0 _ (fun R hR => loaded6 c arg2 harg2 arg3 harg3 arg4 harg4 x b g arg9 R hR)
    , main_piece _ w arg5 harg5 4 1024 rfl inb_S2048x512_S256x512_1024_0 inb_S2048x512_S2048x512_0_0 _ (fun R hR => loaded5 c arg2 harg2 arg3 harg3 arg4 harg4 x b g arg9 R hR)
    , main_piece _ w arg5 harg5 3 768 rfl inb_S2048x512_S256x512_768_0 inb_S2048x512_S2048x512_0_0 _ (fun R hR => loaded4 c arg2 harg2 arg3 harg3 arg4 harg4 x b g arg9 R hR)
    , main_piece _ w arg5 harg5 2 512 rfl inb_S2048x512_S256x512_512_0 inb_S2048x512_S2048x512_0_0 _ (fun R hR => loaded3 c arg2 harg2 arg3 harg3 arg4 harg4 x b g arg9 R hR)
    , main_piece _ w arg5 harg5 1 256 rfl inb_S2048x512_S256x512_256_0 inb_S2048x512_S2048x512_0_0 _ (fun R hR => loaded2 c arg2 harg2 arg3 harg3 arg4 harg4 x b g arg9 R hR)
    , main_piece _ w arg5 harg5 0 0 rfl inb_S2048x512_S256x512_0_0 inb_S2048x512_S2048x512_0_0 _ (fun R hR => loaded1 c arg2 harg2 arg3 harg3 arg4 harg4 x b g arg9 R hR), trivial⟩

theorem first_side : View.PiecesOf (sideRows (hidden x b g) w') (runFirst (F := F) c i h1 h2 arg2 harg2 arg3 harg3 arg4 harg4 arg5 harg5 arg6 harg6 arg7 harg7 arg8 harg8 arg9 harg9 x b g w w').2.1 :=
  ⟨side_piece _ w' arg6 harg6 7 1792 rfl inb_S2048x128_S256x128_1792_0 inb_S2048x128_S2048x128_0_0 _ (fun R hR => loaded8 c arg2 harg2 arg3 harg3 arg4 harg4 x b g arg9 R hR)
    , side_piece _ w' arg6 harg6 6 1536 rfl inb_S2048x128_S256x128_1536_0 inb_S2048x128_S2048x128_0_0 _ (fun R hR => loaded7 c arg2 harg2 arg3 harg3 arg4 harg4 x b g arg9 R hR)
    , side_piece _ w' arg6 harg6 5 1280 rfl inb_S2048x128_S256x128_1280_0 inb_S2048x128_S2048x128_0_0 _ (fun R hR => loaded6 c arg2 harg2 arg3 harg3 arg4 harg4 x b g arg9 R hR)
    , side_piece _ w' arg6 harg6 4 1024 rfl inb_S2048x128_S256x128_1024_0 inb_S2048x128_S2048x128_0_0 _ (fun R hR => loaded5 c arg2 harg2 arg3 harg3 arg4 harg4 x b g arg9 R hR)
    , side_piece _ w' arg6 harg6 3 768 rfl inb_S2048x128_S256x128_768_0 inb_S2048x128_S2048x128_0_0 _ (fun R hR => loaded4 c arg2 harg2 arg3 harg3 arg4 harg4 x b g arg9 R hR)
    , side_piece _ w' arg6 harg6 2 512 rfl inb_S2048x128_S256x128_512_0 inb_S2048x128_S2048x128_0_0 _ (fun R hR => loaded3 c arg2 harg2 arg3 harg3 arg4 harg4 x b g arg9 R hR)
    , side_piece _ w' arg6 harg6 1 256 rfl inb_S2048x128_S256x128_256_0 inb_S2048x128_S2048x128_0_0 _ (fun R hR => loaded2 c arg2 harg2 arg3 harg3 arg4 harg4 x b g arg9 R hR)
    , side_piece _ w' arg6 harg6 0 0 rfl inb_S2048x128_S256x128_0_0 inb_S2048x128_S2048x128_0_0 _ (fun R hR => loaded1 c arg2 harg2 arg3 harg3 arg4 harg4 x b g arg9 R hR), trivial⟩

theorem first_hidden : View.PiecesOf (hidden x b g) (runFirst (F := F) c i h1 h2 arg2 harg2 arg3 harg3 arg4 harg4 arg5 harg5 arg6 harg6 arg7 harg7 arg8 harg8 arg9 harg9 x b g w w').2.2.1 := stored8 c arg2 harg2 arg3 harg3 arg4 harg4 x b g

theorem first_main_read (f) : arg7.view.read (Elt F) (arg7.view.writes (Elt F) f (runFirst (F := F) c i h1 h2 arg2 harg2 arg3 harg3 arg4 harg4 arg5 harg5 arg6 harg6 arg7 harg7 arg8 harg8 arg9 harg9 x b g w w').1) = mainRows (hidden x b g) w :=
  funext fun y => (View.read_writes_apply_eq_canon arg7.view f y _ (first_cover7 y)).trans
    (View.canon_apply_of_pieces _ _ (View.PiecesOf.mem (first_main c i h1 h2 arg2 harg2 arg3 harg3 arg4 harg4 arg5 harg5 arg6 harg6 arg7 harg7 arg8 harg8 arg9 harg9 x b g w w')) y (first_cover7 y))
where
  first_cover7 (y : S2048x512.Idx) : ∃ p ∈ (runFirst (F := F) c i h1 h2 arg2 harg2 arg3 harg3 arg4 harg4 arg5 harg5 arg6 harg6 arg7 harg7 arg8 harg8 arg9 harg9 x b g w w').1, y ∈ p.1.set :=
    cover_units inb_S2048x512_S256x512_0_0 _ inb_S2048x512_S256x512_256_0 _ inb_S2048x512_S256x512_512_0 _ inb_S2048x512_S256x512_768_0 _ inb_S2048x512_S256x512_1024_0 _ inb_S2048x512_S256x512_1280_0 _ inb_S2048x512_S256x512_1536_0 _ inb_S2048x512_S256x512_1792_0 _ y

theorem first_side_read (f) : arg8.view.read (Elt F) (arg8.view.writes (Elt F) f (runFirst (F := F) c i h1 h2 arg2 harg2 arg3 harg3 arg4 harg4 arg5 harg5 arg6 harg6 arg7 harg7 arg8 harg8 arg9 harg9 x b g w w').2.1) = sideRows (hidden x b g) w' :=
  funext fun y => (View.read_writes_apply_eq_canon arg8.view f y _ (first_cover8 y)).trans
    (View.canon_apply_of_pieces _ _ (View.PiecesOf.mem (first_side c i h1 h2 arg2 harg2 arg3 harg3 arg4 harg4 arg5 harg5 arg6 harg6 arg7 harg7 arg8 harg8 arg9 harg9 x b g w w')) y (first_cover8 y))
where
  first_cover8 (y : S2048x128.Idx) : ∃ p ∈ (runFirst (F := F) c i h1 h2 arg2 harg2 arg3 harg3 arg4 harg4 arg5 harg5 arg6 harg6 arg7 harg7 arg8 harg8 arg9 harg9 x b g w w').2.1, y ∈ p.1.set :=
    cover_units inb_S2048x128_S256x128_0_0 _ inb_S2048x128_S256x128_256_0 _ inb_S2048x128_S256x128_512_0 _ inb_S2048x128_S256x128_768_0 _ inb_S2048x128_S256x128_1024_0 _ inb_S2048x128_S256x128_1280_0 _ inb_S2048x128_S256x128_1536_0 _ inb_S2048x128_S256x128_1792_0 _ y

theorem first_hidden_read (f) : arg9.view.read (Elt F) (arg9.view.writes (Elt F) f (runFirst (F := F) c i h1 h2 arg2 harg2 arg3 harg3 arg4 harg4 arg5 harg5 arg6 harg6 arg7 harg7 arg8 harg8 arg9 harg9 x b g w w').2.2.1) = hidden x b g :=
  funext fun y => (View.read_writes_apply_eq_canon arg9.view f y _ (first_cover9 y)).trans
    (View.canon_apply_of_pieces _ _ (View.PiecesOf.mem (first_hidden c i h1 h2 arg2 harg2 arg3 harg3 arg4 harg4 arg5 harg5 arg6 harg6 arg7 harg7 arg8 harg8 arg9 harg9 x b g w w')) y (first_cover9 y))
where
  first_cover9 (y : S2048x2048.Idx) : ∃ p ∈ (runFirst (F := F) c i h1 h2 arg2 harg2 arg3 harg3 arg4 harg4 arg5 harg5 arg6 harg6 arg7 harg7 arg8 harg8 arg9 harg9 x b g w w').2.2.1, y ∈ p.1.set :=
    cover_units inb_S2048x2048_S256x2048_0_0 _ inb_S2048x2048_S256x2048_256_0 _ inb_S2048x2048_S256x2048_512_0 _ inb_S2048x2048_S256x2048_768_0 _ inb_S2048x2048_S256x2048_1024_0 _ inb_S2048x2048_S256x2048_1280_0 _ inb_S2048x2048_S256x2048_1536_0 _ inb_S2048x2048_S256x2048_1792_0 _ y

end

theorem next_read (c : Dev nD) (i : grid0.Coords) (h1 : ¬ k0_cond1 i = 1#1) (h2 : k0_cond2 i = 1#1)
  (arg2 : Memref sig .tc .vmem S2048x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S2048x512 .bf16) (harg5 : arg5.IsWhole)
  (arg6 : Memref sig .tc .vmem S2048x128 .bf16) (harg6 : arg6.IsWhole) (arg7 : Memref sig .tc .vmem S2048x512 .bf16) (harg7 : arg7.IsWhole)
  (arg8 : Memref sig .tc .vmem S2048x128 .f32) (harg8 : arg8.IsWhole) (arg9 : Memref sig .tc .vmem S2048x2048 .bf16) (harg9 : arg9.IsWhole)
    (w : Vec F S2048x512 .bf16) (h : Vec F S2048x2048 .bf16) (f) :
    arg7.view.read (Elt F) (arg7.view.writes (Elt F) f (runNext (F := F) c i h1 h2 arg2 harg2 arg3 harg3 arg4 harg4 arg5 harg5 arg6 harg6 arg7 harg7 arg8 harg8 arg9 harg9 w h).1) = k0_pay2 h w := by
  have z0 : ∀ i, (![0, 0] : Fin 2 → Nat) i = 0 := fun i => match i with | ⟨0, _⟩ => rfl | ⟨1, _⟩ => rfl
  have cover : ∀ y : S2048x512.Idx, ∃ p ∈ (runNext (F := F) c i h1 h2 arg2 harg2 arg3 harg3 arg4 harg4 arg5 harg5 arg6 harg6 arg7 harg7 arg8 harg8 arg9 harg9 w h).1, y ∈ p.1.set := fun y =>
    ⟨_, .head _, (Rect.mem_set_unit (inb := inb_S2048x512_S2048x512_0_0)).2 fun i => ⟨(z0 i).symm ▸ Nat.zero_le _, by rw [z0, Nat.zero_add]; exact (y i).isLt⟩⟩
  have stored : ∀ z : S2048x512.Idx, k0_pay2 (View.readAt (Elt F) arg9.view (Rect.unit (s := S2048x2048) ![0, 0] S2048x2048.size inb_S2048x2048_S2048x2048_0_0).toLoadRect (harg9.unread h))
      (View.readAt (Elt F) arg5.view (Rect.unit (s := S2048x512) ![0, 0] S2048x512.size inb_S2048x512_S2048x512_0_0).toLoadRect (harg5.unread w)) z
      = k0_pay2 h w ((Rect.unit (s := S2048x512) ![0, 0] S2048x512.size inb_S2048x512_S2048x512_0_0).emb z) := fun z => by
    rw [load_whole arg9 harg9 h _ z0 inb_S2048x2048_S2048x2048_0_0, load_whole arg5 harg5 w _ z0 inb_S2048x512_S2048x512_0_0]
    exact congrArg (k0_pay2 h w) (funext fun j => Fin.ext (by
      match j with
      | ⟨0, _⟩ => show (z 0).val = 0 + 1 * (z 0).val; omega
      | ⟨1, _⟩ => show (z 1).val = 0 + 1 * (z 1).val; omega))
  have all : View.PiecesOf (k0_pay2 h w) (runNext (F := F) c i h1 h2 arg2 harg2 arg3 harg3 arg4 harg4 arg5 harg5 arg6 harg6 arg7 harg7 arg8 harg8 arg9 harg9 w h).1 := ⟨stored, trivial⟩
  exact funext fun y => (View.read_writes_apply_eq_canon arg7.view f y _ (cover y)).trans
    (View.canon_apply_of_pieces (k0_pay2 h w) _ (View.PiecesOf.mem all) y (cover y))

end Inproj

end
-- ==== Proof.Inproj.Launch.lean ====
/-
  The launch: the body's triple at every grid point, the run, and the frame, over any values. The scratch buffer holds the row block's
  normalised rows from its first point on, and the second output's buffer their product, which its last point writes back.
-/
module

public import proofs.«01_k».proof.Proof.Inproj.Left
public import Idealize.ShloMosaic.Lib.Pipeline.TableIdle
public import Idealize.ShloMosaic.Lib.Claim

@[expose] public section

set_option maxRecDepth 16384

noncomputable section

namespace Inproj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, k0_cond1 (grid0.coords t) = 1#1 ↔ t.val % 13 = 0 :=
  (by decide +kernel : ∀ t : Fin grid0.N, k0_cond1 (grid0.coords t) = 1#1 ↔ t.val % 13 = 0)
theorem next_iff : ∀ t : Fin cfg0.N, k0_cond2 (grid0.coords t) = 1#1 ↔ ¬ t.val % 13 = 0 :=
  (by decide +kernel : ∀ t : Fin grid0.N, k0_cond2 (grid0.coords t) = 1#1 ↔ ¬ t.val % 13 = 0)

theorem idle5 (t : Fin cfg0.N) : cfg0.idle 5 (cfg0.grid.coords t) = false := by
  show (!(k0_cond1 (grid0.coords t) == 1#1) && !(k0_cond2 (grid0.coords t) == 1#1)) = false
  by_cases h : t.val % 13 = 0
  · rw [(first_iff t).2 h]; rfl
  · rw [(next_iff t).2 h, Bool.and_eq_false_iff]; exact .inr rfl

theorem idle6_first (t : Fin cfg0.N) (h : t.val % 13 = 0) : cfg0.idle 6 (cfg0.grid.coords t) = false := by
  show (!(k0_cond1 (grid0.coords t) == 1#1)) = false
  rw [(first_iff t).2 h]; rfl

theorem idle6_next (t : Fin cfg0.N) (h : ¬ t.val % 13 = 0) : cfg0.idle 6 (cfg0.grid.coords t) = true := by
  show (!(k0_cond1 (grid0.coords t) == 1#1)) = true
  rw [Bool.not_eq_true', beq_eq_false_iff_ne]
  exact fun e => h ((first_iff t).1 e)

/-- the scratch buffer -/
abbrev scr : Memref sig .tc .vmem S2048x2048 .bf16 := Memref.whole cc0_scratch0

theorem carried (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; rfl

/-- the normalised rows of point `t`'s row block -/
def hid (c : Dev nD) (t : Fin cfg0.N) : Vec F S2048x2048 .bf16 := hidden (iblk m c 0 t) (iblk m c 1 t) (iblk m c 2 t)

/-- the first output's block at point `t` -/
def mainAt (c : Dev nD) (t : Fin cfg0.N) : Vec F S2048x512 .bf16 :=
  if t.val % 13 = 0 then mainRows (hid m c t) (X0_3 m c t) else k0_pay2 (hid m c t) (X0_3 m c t)

/-- the second output's -/
def sideAt (c : Dev nD) (t : Fin cfg0.N) : Vec F S2048x128 .f32 := sideRows (hid m c t) (iblk m c 4 t)

/-- before point `n` the scratch buffer holds the rows of the block begun, if one is -/
def scratch (c : Dev nD) (n : Nat) (hn : n ≤ cfg0.N) : sProp 𝕄 :=
  if h : n % 13 = 0 then Pipeline.ΦA spec0 c
  else iprop(owns (c : Thread nD τ) scr fullShare (hid m c ⟨n - 1, by omega⟩) ∗ (∃ r, prngReg c r))

/-- the pipeline's proof data -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => mainAt m c t
    | ⟨6, _⟩ => sideAt m c t
  Φ t := scratch m c t.val (Nat.le_of_lt_succ t.isLt)
  q w := Pipeline.shareOf spec0 w
  owed _ := 0

theorem dats_A (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = X0_3 m c t := by dsimp only [dats]
theorem left4 (c : Dev nD) (t : Fin cfg0.N) : (dats m 0 c).after 4 t = iblk m c 4 t := by dsimp only [dats]
theorem left5 (c : Dev nD) (t : Fin cfg0.N) : (dats m 0 c).after 5 t = mainAt m c t := by dsimp only [dats]
theorem left6 (c : Dev nD) (t : Fin cfg0.N) : (dats m 0 c).after 6 t = sideAt m c t := by dsimp only [dats]

theorem found0 (c : Dev nD) (t : Fin cfg0.N) (d) : (dats m 0 c).before 0 t d = iblk m c 0 t := before0_0_of m (dats m 0 c) (dats_A m c 0) (left0 m c) t d
theorem found1 (c : Dev nD) (t : Fin cfg0.N) (d) : (dats m 0 c).before 1 t d = iblk m c 1 t := before0_1_of m (dats m 0 c) (dats_A m c 1) (left1 m c) t d
theorem found2 (c : Dev nD) (t : Fin cfg0.N) (d) : (dats m 0 c).before 2 t d = iblk m c 2 t := before0_2_of m (dats m 0 c) (dats_A m c 2) (left2 m c) t d
theorem found3 (c : Dev nD) (t : Fin cfg0.N) (d) : (dats m 0 c).before 3 t d = X0_3 m c t := before0_3_of m (dats m 0 c) (dats_A m c 3) (left3 m c) t d
theorem found4 (c : Dev nD) (t : Fin cfg0.N) (d) : (dats m 0 c).before 4 t d = iblk m c 4 t := before0_4_of m (dats m 0 c) (dats_A m c 4) (left4 m c) t d

/-! Within a row block the input windows but the weights' stay where they are. -/

/-- the point before -/
abbrev prev (t : Fin cfg0.N) : Fin cfg0.N := ⟨t.val - 1, Nat.lt_of_le_of_lt (Nat.sub_le _ _) t.isLt⟩

theorem unmoved (t : Fin cfg0.N) (h : ¬ t.val % 13 = 0) (w : Fin cfg0.W) (hin : (cfg0.win w).isOut = false) (n : Nat) (hn : n % 13 = 0)
    (hf : (cfg0.win w).fetch t = true ↔ t.val % n = 0) : (cfg0.win w).index t = (cfg0.win w).index (prev t) :=
  (Pipeline.Window.index_eq_of_fetch (cfg0.win w) hin t (by
    rw [← Bool.not_eq_true, hf]
    exact fun e => h (Nat.mod_eq_zero_of_dvd (Nat.dvd_trans (Nat.dvd_of_mod_eq_zero hn) (Nat.dvd_of_mod_eq_zero e))))).2

theorem same0 (c : Dev nD) (t : Fin cfg0.N) (h : ¬ t.val % 13 = 0) : iblk m c 0 t = iblk m c 0 (prev t) := by
  have e := (dats m 0 c).fetched_congr 0 (unmoved t h 0 rfl 13 rfl (fetch0_0 t)) rfl (iblk m c 0 t)
  unfold Dat.fetched Dat.blockOf at e; rw [dats_A] at e; exact e
theorem same1 (c : Dev nD) (t : Fin cfg0.N) (h : ¬ t.val % 13 = 0) : iblk m c 1 t = iblk m c 1 (prev t) := by
  have e := (dats m 0 c).fetched_congr 1 (unmoved t h 1 rfl 26 rfl (fetch0_1 t)) rfl (iblk m c 1 t)
  unfold Dat.fetched Dat.blockOf at e; rw [dats_A] at e; exact e
theorem same2 (c : Dev nD) (t : Fin cfg0.N) (h : ¬ t.val % 13 = 0) : iblk m c 2 t = iblk m c 2 (prev t) := by
  have e := (dats m 0 c).fetched_congr 2 (unmoved t h 2 rfl 26 rfl (fetch0_2 t)) rfl (iblk m c 2 t)
  unfold Dat.fetched Dat.blockOf at e; rw [dats_A] at e; exact e
theorem same4 (c : Dev nD) (t : Fin cfg0.N) (h : ¬ t.val % 13 = 0) : iblk m c 4 t = iblk m c 4 (prev t) := by
  have e := (dats m 0 c).fetched_congr 4 (unmoved t h 4 rfl 104 rfl (fetch0_4 t)) rfl (iblk m c 4 t)
  unfold Dat.fetched Dat.blockOf at e; rw [dats_A] at e; exact e

theorem hid_prev (c : Dev nD) (t : Fin cfg0.N) (h : ¬ t.val % 13 = 0) : hid m c t = hid m c (prev t) := by
  unfold hid; rw [same0 m c t h, same1 m c t h, same2 m c t h]

theorem sideAt_prev (c : Dev nD) (t : Fin cfg0.N) (h : ¬ t.val % 13 = 0) : sideAt m c t = sideAt m c (prev t) := by
  unfold sideAt; rw [hid_prev m c t h, same4 m c t h]

theorem fresh6 (n : Nat) (hn : n ≤ cfg0.N) : cfg0.fresh 6 n = decide (n % 13 = 0) :=
  cfg0.fresh_tab 6 (fun n => decide (n % 13 = 0)) rfl (fun t => by
    by_cases h : t.val % 13 = 0
    · rw [idle6_first t h, Bool.false_and, Bool.or_false, Bool.eq_iff_iff, decide_eq_true_iff, flush0_6 t]; omega
    · rw [idle6_next t h, Bool.true_and, decide_eq_false h, Bool.or_false, Bool.eq_iff_iff, decide_eq_true_iff, flush0_6 t]; omega) n hn

theorem found6 (c : Dev nD) (t : Fin cfg0.N) (h : ¬ t.val % 13 = 0) (d) : (dats m 0 c).before 6 t d = sideAt m c t := by
  rw [(dats m 0 c).before_out_traj 6 rfl (fun _ _ => rfl) (fun u hu _ hf => by
    rw [left6, left6]
    exact sideAt_prev m c u (fun e => by rw [fresh6 u.val (Nat.le_of_lt u.isLt), decide_eq_true e] at hf; exact Bool.noConfusion hf)) t.val t rfl d,
    fresh6 t.val (Nat.le_of_lt t.isLt), if_neg (by rw [decide_eq_true_iff]; exact h), left6]
  exact (sideAt_prev m c t h).symm

/-- what the body is called with -/
def entry (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns -/
def exit (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem scratch_first (c : Dev nD) (n : Nat) (hn : n ≤ cfg0.N) (h : n % 13 = 0) :
    scratch m c n hn = iprop((∃ d, owns (c : Thread nD τ) scr fullShare d) ∗ (∃ r, prngReg c r)) := by
  unfold scratch; rw [dif_pos h, carried]

theorem scratch_next (c : Dev nD) (n : Nat) (hn : n ≤ cfg0.N) (h : ¬ n % 13 = 0) :
    scratch m c n hn = iprop(owns (c : Thread nD τ) scr fullShare (hid m c ⟨n - 1, by omega⟩) ∗ (∃ r, prngReg c r)) := by
  unfold scratch; rw [dif_neg h]

/-- Known contents are some contents. -/
theorem scratch_after (c : Dev nD) (t : Fin cfg0.N) :
    iprop(owns (c : Thread nD τ) scr fullShare (hid m c t) ∗ (∃ r, prngReg c r)) ⊢ scratch m c (t.val + 1) t.isLt := by
  by_cases h : (t.val + 1) % 13 = 0
  · rw [scratch_first m c _ _ h]
    iintro ⟨H, Hg⟩
    isplitl [H]; · iexists _; iexact H
    iexact Hg
  · rw [scratch_next m c _ _ h]
    exact .rfl

set_option maxHeartbeats 1600000 in
theorem point_first (c : Dev nD) (t : Fin cfg0.N) (h : t.val % 13 = 0) :
    entry m c t ⊢ wp frame (wpE (defs₀ (F := F)) Variants.none c none) Set.univ (bodyAt0 t) (fun _ => exit m c t) := by
  have h1 := (first_iff t).2 h
  have h2 : ¬ k0_cond2 (grid0.coords t) = 1#1 := fun e => (next_iff t).1 e h
  unfold entry exit bodyAt0
  simp only [found0, found1, found2, found3, found4]
  rw [show (dats m 0 c).Φ t.succ = scratch m c (t.val + 1) t.isLt from rfl, show (dats m 0 c).Φ t.castSucc = scratch m c t.val (Nat.le_of_lt t.isLt) from rfl,
    show (dats m 0 c).owesAt () t.succ = (dats m 0 c).owesAt () t.castSucc from rfl, left0, left1, left2, left3, left4, left5, left6, scratch_first m c _ _ h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((runFirst c (grid0.coords t) h1 h2 _ _ _ _ _ _ _ _ _ _ _ _ _ _ _ _ (iblk m c 0 t) (iblk m c 1 t) (iblk m c 2 t) (X0_3 m c t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, ⟨%e5, H5⟩, ⟨%e6, H6⟩, ⟨%eS, HS⟩⟩
  isplitl [HS Hg]
  · iapply (scratch_after m c t)
    isplitl [HS]
    · unfold owns; iexists _; isplitr
      swap; · iexact HS
      ipureintro; exact first_hidden_read c (grid0.coords t) h1 h2 _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (first_main_read c (grid0.coords t) h1 h2 _ _ _ _ _ _ _ _ _ _ _ _ _ _ _ _ _ _ _ _ _ _).trans (if_pos h).symm
  unfold owns; iexists _; isplitr
  swap; · iexact H6
  ipureintro; exact first_side_read c (grid0.coords t) h1 h2 _ _ _ _ _ _ _ _ _ _ _ _ _ _ _ _ _ _ _ _ _ _

set_option maxHeartbeats 1600000 in
theorem point_next (c : Dev nD) (t : Fin cfg0.N) (h : ¬ t.val % 13 = 0) :
    entry m c t ⊢ wp frame (wpE (defs₀ (F := F)) Variants.none c none) Set.univ (bodyAt0 t) (fun _ => exit m c t) := by
  have h1 : ¬ k0_cond1 (grid0.coords t) = 1#1 := fun e => h ((first_iff t).1 e)
  have h2 := (next_iff t).2 h
  unfold entry exit bodyAt0
  simp only [found0, found1, found2, found3, found4, found6 m c t h]
  rw [show (dats m 0 c).Φ t.succ = scratch m c (t.val + 1) t.isLt from rfl, show (dats m 0 c).Φ t.castSucc = scratch m c t.val (Nat.le_of_lt t.isLt) from rfl,
    show (dats m 0 c).owesAt () t.succ = (dats m 0 c).owesAt () t.castSucc from rfl, left0, left1, left2, left3, left4, left5, left6, scratch_next m c _ _ h,
    show hid m c ⟨t.val - 1, _⟩ = hid m c t from (hid_prev m c t h).symm]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((runNext c (grid0.coords t) h1 h2 _ (hstage0_0 ((cfg0.slots t 0).cast nbuf0_0)) _ (hstage0_1 ((cfg0.slots t 1).cast nbuf0_1)) _ (hstage0_2 ((cfg0.slots t 2).cast nbuf0_2)) _ _ _ (hstage0_4 ((cfg0.slots t 4).cast nbuf0_4)) _ _ _ (hstage0_6 ((cfg0.slots t 6).cast nbuf0_6)) _ _ (X0_3 m c t) (hid m c t)).2 Set.univ _)
  isplitl [H3]; · iexact H3
  isplitl [H5]; · iexists _; iexact H5
  isplitl [HS]; · iexact HS
  iintro ⟨H3, ⟨%e5, H5⟩, HS⟩
  isplitl [HS Hg]
  · iapply (scratch_after m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (next_read c (grid0.coords t) h1 h2 _ _ _ _ _ _ _ _ _ _ _ _ _ _ _ _ _ _ _).trans (if_neg h).symm
  iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  have i5 : idle0 5 (grid0.coords t) = false := idle5 t
  by_cases h : t.val % 13 = 0
  · have i6 : idle0 6 (grid0.coords t) = false := idle6_first t h
    simp only [i5, i6]
    exact triple_restated (point_first m c t h) rfl .rfl fun _ => .rfl
  · have i6 : idle0 6 (grid0.coords t) = true := idle6_next t h
    simp only [i5, i6]
    cases hf : (cfg0.win 6).flush t
    · refine triple_restated (point_next m c t h) rfl .rfl fun _ => ?_
      unfold exit
      rw [left6, ← found6 m c t h (sideAt m c t)]
      iintro ⟨HS, Ho, H0, H1, H2, H3, H4, H5, H6⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · exact triple_restated (point_next m c t h) rfl .rfl fun _ => .rfl

set_option backward.isDefEq.respectTransparency.types false in
/-- every run ends with the arrays at what the pipeline leaves, and the counters at zero -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m) (hmain := hmain m Variants.none)
    (hA := dats_A m) (hin := fun c => by rw [show (dats m 0 c).Φ 0 = scratch m c 0 (Nat.zero_le _) from rfl]; unfold scratch; rw [dif_pos rfl])
    (hout := fun c => by
      rw [show (dats m 0 c).Φ (Fin.last cfg0.N) = scratch m c cfg0.N (Nat.le_refl _) from rfl]
      unfold scratch; rw [dif_pos (by rw [show cfg0.N = 104 from N_0])])

/-- after the run the argument arrays are as launched -/
abbrev Kept (μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)

theorem kept : θ_run defs (onTc (τ := τ) (main (F := F))) ⟨m, fun _ => 0, ρ⟩ (fun r => ∀ c : Dev nD, Kept m r.2.mem c) :=
  frame_of m ρ (dats m) (dats_A m) ((θ_run defs _ _).mono (fun _ h => h.1) (run_quiescent m ρ))

theorem args_kept : θ_run defs (onTc (τ := τ) (main (F := F))) ⟨m, fun _ => 0, ρ⟩ (fun r => (∀ c : Dev nD, Kept m r.2.mem c) ∧ r.2.sem = fun _ => 0) :=
  θ_run_and (kept m ρ) ((θ_run defs _ _).mono (fun _ h => h.2) (run_quiescent m ρ))

/-- the run with the result arrays named -/
theorem run_named (G : (c : Dev nD) → Buf (Elt F) ((c.tc : Thread nD τ).loc main_v5_0)) (G' : (c : Dev nD) → Buf (Elt F) ((c.tc : Thread nD τ).loc main_v5_1))
    (hG : ∀ c, (dats m 0 c).arrAt 5 cfg0.N = G c) (hG' : ∀ c, (dats m 0 c).arrAt 6 cfg0.N = G' c) :
    θ_run defs (onTc (τ := τ) (main (F := F))) ⟨m, fun _ => 0, ρ⟩ (fun r => ∀ c : Dev nD,
      (r.2.mem ((c.tc : Thread nD τ).loc main_v5_0) = G c ∧ r.2.mem ((c.tc : Thread nD τ).loc main_v5_1) = G' c) ∧ Kept m r.2.mem c) :=
  (θ_run defs _ _).mono (fun _ h c => ⟨⟨((h.1.1 c).1 5).trans (hG c), ((h.1.1 c).1 6).trans (hG' c)⟩, h.2 c⟩) (θ_run_and (run_quiescent m ρ) (kept m ρ))

end Inproj

end
-- ==== Proof.Inproj.Spec.lean ====
/-
  The input projection at a batch, a position and a lane, from its arguments: a layer norm without gain, the modulation, and the product
  with the weights.
-/
module

public import proofs.«01_k».proof.Proof.Gen.InprojIdeal.Skeleton
public import proofs.«01_k».proof.Proof.Outproj.Row

@[expose] public section

noncomputable section

namespace Inproj

open Cert.InprojIdeal
open Outproj (rms centred n2048)
open Idealize.ShloMosaic hiding ix1 ix2 ix3 ix4 ix5
open Idealize.ShloMosaic.ValueIdx

def unit : EReal := Ideal.ofBits .f32 0x3F800000#32

/-- a row normalised, then scaled by one more than `g` and shifted by `b` -/
def modulated (x g b : Fin 2048 → EReal) (e : Fin 2048) : EReal := rms n2048 (centred n2048 x) e * (unit + g e) + b e

section
variable (x0 : FVec Ideal S4x4096x2048 .f32) (x1 : FVec Ideal S8x6144 .f32) (x2 : FVec Ideal S2048x6672 .f32)

/-- the modulated row of a position: the shift is the first third of the batch's modulation, the scale the second -/
def normRow (b : Fin 4) (s : Fin 4096) : Fin 2048 → EReal :=
  modulated (fun k => x0 (ix3 b s k)) (fun k => x1 (ix2 (⟨b.val, by omega⟩ : Fin 8) (⟨2048 + k.val, by omega⟩ : Fin 6144)))
    (fun k => x1 (ix2 (⟨b.val, by omega⟩ : Fin 8) (⟨k.val, by omega⟩ : Fin 6144)))

/-- lane `q` of the product -/
def lane (b : Fin 4) (s : Fin 4096) (q : Fin 6672) : EReal := ∑ k : Fin 2048, normRow x0 x1 b s k * x2 (ix2 k q)

/-- the first result: the product's first 6656 lanes -/
def mainSpec (R : Fin 16384) (e : Fin 6656) : EReal := lane x0 x1 x2 ⟨R.val / 4096, by omega⟩ ⟨R.val % 4096, by omega⟩ ⟨e.val, by omega⟩

/-- the second result: the product's last 16 lanes, then zeros -/
def sideSpec (R : Fin 16384) (e : Fin 128) : EReal :=
  if h : e.val < 16 then lane x0 x1 x2 ⟨R.val / 4096, by omega⟩ ⟨R.val % 4096, by omega⟩ ⟨6656 + e.val, by omega⟩ else 0

end

end Inproj

end
-- ==== Proof.Inproj.Row.lean ====
/-
  The values that the stores of the input projection take, at a row and a lane, over the extended reals.
-/
module

public import proofs.«01_k».proof.Proof.Inproj.Rows
public import proofs.«01_k».proof.Proof.Inproj.Spec

@[expose] public section

noncomputable section

namespace Inproj

open Cert.InprojIdeal Cert.InprojIdeal.Gen
open Outproj (rms centred n2048 eps sum2048 spread stack one_row)
open Idealize.ShloMosaic hiding ix1 ix2 ix3 ix4 ix5
open Idealize.ShloMosaic.ValueIdx

/-- A unit's normalised, modulated rows. -/
theorem unit_apply (x : FVec Ideal S256x2048 .f32) (g b : FVec Ideal S1x1x2048 .f32) (r : Fin 256) (e : Fin 2048) :
    (k0_pay3 x g b : FVec Ideal S256x2048 .bf16) (ix2 r e)
      = modulated (fun k => x (ix2 r k)) (fun k => g (ix3 (0 : Fin 1) (0 : Fin 1) k)) (fun k => b (ix3 (0 : Fin 1) (0 : Fin 1) k)) e := by
  unfold k0_pay3
  simp only [shapeCast_self]
  have mid : ∀ k : Fin 2048, subf (F := Ideal) x (broadcastTo S256x2048 (divf (shapeCast S256x1 (multiReduction .add [1] S256 x 0x00000000#32 reduces_S256x2048_S256 (.inl rfl) rfl) shapeCasts_S256_S256x1) (broadcast S256x1 (Scalar.ofBits (F := Ideal) .f32 0x45000000#32))) broadcasts_S256x1_S256x2048) (ix2 r k)
      = centred n2048 (fun k => x (ix2 r k)) k := fun k => by
    show _ - broadcastTo S256x2048 _ _ _ = _
    rw [spread (by decide)]
    show _ - Ideal.div (shapeCast S256x1 _ _ _) n2048 = _
    rw [sum2048]
    rfl
  generalize subf (F := Ideal) x (broadcastTo S256x2048 (divf (shapeCast S256x1 (multiReduction .add [1] S256 x 0x00000000#32 reduces_S256x2048_S256 (.inl rfl) rfl) shapeCasts_S256_S256x1) (broadcast S256x1 (Scalar.ofBits (F := Ideal) .f32 0x45000000#32))) broadcasts_S256x1_S256x2048) = u at mid ⊢
  show (u (ix2 r e) * broadcastTo (α := EReal) S256x2048 _ _ (ix2 r e)) * broadcastTo (α := EReal) S256x2048 _ _ (ix2 r e) + broadcastTo (α := EReal) S256x2048 _ _ (ix2 r e) = _
  rw [spread (by decide), stack (by decide), stack (by decide)]
  show (u (ix2 r e) * Ideal.rsqrt (Ideal.div (shapeCast (α := EReal) S256x1 _ _ _) n2048 + eps)) * (unit + shapeCast (α := EReal) S1x2048 _ _ _) + _ = _
  rw [sum2048, one_row, one_row]
  show (u (ix2 r e) * Ideal.rsqrt (Ideal.div (∑ k : Fin 2048, u (ix2 r k) * u (ix2 r k)) n2048 + eps)) * _ + _ = _
  simp only [mid]
  rfl

theorem dot512 (h : FVec Ideal S256x2048 .bf16) (w : FVec Ideal S2048x512 .bf16) (r : Fin 256) (e : Fin 512) :
    (k0_pay5 h w : FVec Ideal S256x512 .bf16) (ix2 r e) = ∑ k : Fin 2048, h (ix2 r k) * w (ix2 k e) := by
  unfold k0_pay5
  simp only [shapeCast_self, matmul, truncf]
  rw [Ideal.matmul_constant_zero_apply, DotDims.sum_contr₁ dot_S256x2048_S2048x512_S256x512_1_0_0_1_n_n (a := 1) rfl (K := 2048) rfl]
  show (∑ k : Fin 2048, _ : EReal) = _
  refine Finset.sum_congr rfl fun k _ => ?_
  congr 2
  · funext y
    match y with
    | ⟨0, _⟩ => rfl
    | ⟨1, _⟩ => rfl
  · funext y
    match y with
    | ⟨0, _⟩ => rfl
    | ⟨1, _⟩ => rfl

theorem dot128 (h : FVec Ideal S256x2048 .bf16) (w : FVec Ideal S2048x128 .bf16) (r : Fin 256) (e : Fin 128) :
    (k0_pay4 h w : FVec Ideal S256x128 .f32) (ix2 r e) = ∑ k : Fin 2048, h (ix2 r k) * w (ix2 k e) := by
  unfold k0_pay4
  simp only [shapeCast_self, matmul]
  rw [Ideal.matmul_constant_zero_apply, DotDims.sum_contr₁ dot_S256x2048_S2048x128_S256x128_1_0_0_1_n_n (a := 1) rfl (K := 2048) rfl]
  refine Finset.sum_congr rfl fun k _ => ?_
  congr 2
  · funext y
    match y with
    | ⟨0, _⟩ => rfl
    | ⟨1, _⟩ => rfl
  · funext y
    match y with
    | ⟨0, _⟩ => rfl
    | ⟨1, _⟩ => rfl

theorem dotWhole (h : FVec Ideal S2048x2048 .bf16) (w : FVec Ideal S2048x512 .bf16) (r : Fin 2048) (e : Fin 512) :
    (k0_pay2 h w : FVec Ideal S2048x512 .bf16) (ix2 r e) = ∑ k : Fin 2048, h (ix2 r k) * w (ix2 k e) := by
  unfold k0_pay2
  simp only [shapeCast_self, matmul, truncf]
  rw [Ideal.matmul_constant_zero_apply, DotDims.sum_contr₁ dot_S2048x2048_S2048x512_S2048x512_1_0_0_1_n_n (a := 1) rfl (K := 2048) rfl]
  show (∑ k : Fin 2048, _ : EReal) = _
  refine Finset.sum_congr rfl fun k _ => ?_
  congr 2
  · funext y
    match y with
    | ⟨0, _⟩ => rfl
    | ⟨1, _⟩ => rfl
  · funext y
    match y with
    | ⟨0, _⟩ => rfl
    | ⟨1, _⟩ => rfl

/-- A row of its unit. -/
theorem unitOf_apply {α : Type} {n : Nat} (a : (⟨2, ![2048, n]⟩ : Shape).Idx → α) (R : Fin 2048) (k : Fin n) :
    unitOf a R (ix2 (⟨R.val % 256, Nat.mod_lt _ (by omega)⟩ : Fin 256) k) = a (ix2 R k) :=
  congrArg a (congrArg₂ ix2 (Fin.ext (show 256 * (R.val / 256) + R.val % 256 = R.val by omega)) rfl)

theorem hidden_apply (x : FVec Ideal S2048x2048 .f32) (b g : FVec Ideal S1x1x2048 .f32) (R e : Fin 2048) :
    (hidden (F := Ideal) x b g : FVec Ideal S2048x2048 .bf16) (ix2 R e)
      = modulated (fun k => x (ix2 R k)) (fun k => g (ix3 (0 : Fin 1) (0 : Fin 1) k)) (fun k => b (ix3 (0 : Fin 1) (0 : Fin 1) k)) e :=
  (unit_apply (unitOf x R) g b ⟨R.val % 256, Nat.mod_lt _ (by omega)⟩ e).trans
    (congrArg (fun v => modulated v (fun k => g (ix3 (0 : Fin 1) (0 : Fin 1) k)) (fun k => b (ix3 (0 : Fin 1) (0 : Fin 1) k)) e)
      (funext fun k => unitOf_apply x R k))

theorem mainRows_apply (h : FVec Ideal S2048x2048 .bf16) (w : FVec Ideal S2048x512 .bf16) (R : Fin 2048) (e : Fin 512) :
    (mainRows (F := Ideal) h w : FVec Ideal S2048x512 .bf16) (ix2 R e) = ∑ k : Fin 2048, h (ix2 R k) * w (ix2 k e) :=
  (dot512 (unitOf h R) w ⟨R.val % 256, Nat.mod_lt _ (by omega)⟩ e).trans
    (Finset.sum_congr rfl fun k _ => congrArg (fun v : EReal => v * w (ix2 k e)) (unitOf_apply h R k))

theorem sideRows_apply (h : FVec Ideal S2048x2048 .bf16) (w : FVec Ideal S2048x128 .bf16) (R : Fin 2048) (e : Fin 128) :
    (sideRows (F := Ideal) h w : FVec Ideal S2048x128 .f32) (ix2 R e) = ∑ k : Fin 2048, h (ix2 R k) * w (ix2 k e) :=
  (dot128 (unitOf h R) w ⟨R.val % 256, Nat.mod_lt _ (by omega)⟩ e).trans
    (Finset.sum_congr rfl fun k _ => congrArg (fun v : EReal => v * w (ix2 k e)) (unitOf_apply h R k))

end Inproj

end
-- ==== Proof.Inproj.Value.lean ====
/-
  The kernel's result arrays, over the extended reals: each grid point writes 2048 rows of 512 lanes of the first, and each row block
  2048 rows of the second.
-/
module

public import proofs.«01_k».proof.Proof.Inproj.Launch
public import proofs.«01_k».proof.Proof.Inproj.Row
public import Idealize.ShloMosaic.Lib.KernelVsHost
public import Idealize.ShloMosaic.Lib.Pipeline.ValueKit.Geometry

@[expose] public section

set_option maxRecDepth 16384

noncomputable section

namespace Inproj

open Cert.InprojIdeal Cert.InprojIdeal.Gen
open Idealize.ShloMosaic hiding ix1 ix2 ix3 ix4 ix5
open Idealize.ShloMosaic.ValueIdx Idealize.ShloMosaic.TcCoe Idealize.ShloMosaic.Tactic
open Idealize.SL Idealize.SL.Sem

/-- batches and positions as one axis of rows -/
theorem rows_apply {α : Type} (x : S4x4096x2048.Idx → α) (h : S4x4096x2048.ShapeCasts S16384x2048) (R : Fin 16384) (z : Fin 2048) :
    shapeCast S16384x2048 x h (ix2 R z) = x (ix3 (⟨R.val / 4096, by omega⟩ : Fin 4) (⟨R.val % 4096, by omega⟩ : Fin 4096) z) := by
  refine shapeCast_apply x h (ix2 R z) _ ?_
  rw [Shape.rowMajor_val_three, Shape.rowMajor_val_two]
  show (R.val / 4096 * 4096 + R.val % 4096) * 2048 + z.val = R.val * 2048 + z.val
  omega

/-- the modulation with an axis of one row -/
theorem mod_apply {α : Type} (x : S8x6144.Idx → α) (h : S8x6144.ShapeCasts S8x1x6144) (b : Fin 8) (z : Fin 6144) :
    shapeCast S8x1x6144 x h (ix3 b (0 : Fin 1) z) = x (ix2 b z) := by
  refine shapeCast_apply x h (ix3 b (0 : Fin 1) z) (ix2 b z) ?_
  rw [Shape.rowMajor_val_two, Shape.rowMajor_val_three]
  show b.val * 6144 + z.val = (b.val * 1 + 0) * 6144 + z.val
  omega

theorem int_zero (φ : FTy) : (sitofp (F := Ideal) φ (constantI S_ 32 0#32) : FVec Ideal S_ φ) (Shape.Idx.first h_S_) = (0 : EReal) := by
  show (((BitVec.toInt 0#32 : ℤ) : ℝ) : EReal) = 0
  simp

variable (m : (ℓ : Loc nD τ sig) → Buf (Elt Ideal) ℓ) (c : Dev nD)

abbrev a0 : FVec Ideal S4x4096x2048 .f32 := m ((c : Thread nD τ).loc main_arg0)
abbrev a1 : FVec Ideal S8x6144 .f32 := m ((c : Thread nD τ).loc main_arg1)
abbrev a2 : FVec Ideal S2048x6672 .f32 := m ((c : Thread nD τ).loc main_arg2)

/-! The arrays that the host hands to the kernel. -/

theorem V0 : (V m c main_v0 : FVec Ideal S2048x6672 .bf16) = truncf .bf16 (a2 m c) bitsLt_bf16_f32 := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl
theorem V2 : (V m c main_v2 : FVec Ideal S2048x128 .bf16)
    = pad S2048x128 ![0, 0] ![0, 112] ![0, 0] (extractStridedSlice S2048x16 ![0, 6656] (truncf (F := Ideal) .bf16 (a2 m c) bitsLt_bf16_f32) slices_S2048x6672_S2048x16_0_6656)
        (sitofp (F := Ideal) .bf16 (constantI S_ 32 0#32)) pads_S2048x16_S2048x128_000_01120 h_S_ := by
  show StableHlo.after (List.flatten [hostOps0, hostOps0_1, hostOps0_2]) _ (Proc.devRef .tc main_v2) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl
theorem V3 : (V m c main_v3 : FVec Ideal S16384x2048 .f32) = shapeCast S16384x2048 (a0 m c) shapeCasts_S4x4096x2048_S16384x2048 := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl
theorem V4 : (V m c main_v4 : FVec Ideal S8x1x6144 .f32) = shapeCast S8x1x6144 (a1 m c) shapeCasts_S8x6144_S8x1x6144 := by
  show StableHlo.after (List.flatten [hostOps0, hostOps0_1, hostOps0_2]) _ (Proc.devRef .tc main_v4) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- the side weights: the last 16 columns, then zeros -/
def sideWeight (k : Fin 2048) (e : Fin 128) : EReal := if h : e.val < 16 then a2 m c (ix2 k (⟨6656 + e.val, by omega⟩ : Fin 6672)) else 0

theorem side_weights (k : Fin 2048) (e : Fin 128) : (V m c main_v2 : FVec Ideal S2048x128 .bf16) (ix2 k e) = sideWeight m c k e := by
  rw [V2]
  unfold sideWeight
  by_cases h : e.val < 16
  · rw [dif_pos h]
    refine (pad_apply_of_inside (s := S2048x16) (t := S2048x128) ![0, 0] ![0, 112] ![0, 0] _ _ pads_S2048x16_S2048x128_000_01120 h_S_ (ix2 k e) (ix2 k (⟨e.val, h⟩ : Fin 16)) fun a => ?_).trans
      (extractStridedSlice_apply ![0, 6656] _ slices_S2048x6672_S2048x16_0_6656 (ix2 k (⟨e.val, h⟩ : Fin 16)) (ix2 k (⟨6656 + e.val, by omega⟩ : Fin 6672)) fun a => ?_)
    · match a with
      | ⟨0, _⟩ => show k.val = 0 + k.val * (0 + 1); omega
      | ⟨1, _⟩ => show e.val = 0 + e.val * (0 + 1); omega
    · match a with
      | ⟨0, _⟩ => show k.val = 0 + k.val; omega
      | ⟨1, _⟩ => rfl
  · rw [dif_neg h]
    refine (pad_apply_of_not_inside (s := S2048x16) (t := S2048x128) ![0, 0] ![0, 112] ![0, 0] _ _ pads_S2048x16_S2048x128_000_01120 h_S_ (ix2 k e) (1 : Fin 2) fun hin => h ?_).trans (int_zero .bf16)
    have h2 : (e.val - 0) / (0 + 1) < 16 := hin.2.2
    omega

/-! The windows' blocks at a grid point. -/

theorem index0 : ∀ t : Fin cfg0.N, win0_0.index t = ![(grid0.coords t 0).val, 0] := (by decide +kernel : ∀ t : Fin grid0.N, _)
theorem index1 : ∀ t : Fin cfg0.N, win0_1.index t = ![(grid0.coords t 0).val / 2, 0, 0] := (by decide +kernel : ∀ t : Fin grid0.N, _)
theorem index2 : ∀ t : Fin cfg0.N, win0_2.index t = ![(grid0.coords t 0).val / 2, 0, 1] := (by decide +kernel : ∀ t : Fin grid0.N, _)
theorem index3 : ∀ t : Fin cfg0.N, win0_3.index t = ![0, (grid0.coords t 1).val] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![(grid0.coords t 0).val, (grid0.coords t 1).val] := (by decide +kernel : ∀ t : Fin grid0.N, _)
theorem index6 : ∀ t : Fin cfg0.N, win0_6.index t = ![(grid0.coords t 0).val, 0] := (by decide +kernel : ∀ t : Fin grid0.N, _)

variable (t : Fin cfg0.N)

/-- the point's row block and lane block -/
abbrev pi : Fin 8 := grid0.coords t 0
abbrev pj : Fin 13 := grid0.coords t 1
/-- row `R` of the point's row block, among all the rows -/
abbrev gr (R : Fin 2048) : Fin 16384 := ⟨(pi t).val * 2048 + R.val, by omega⟩

/-- an index of a block in its array -/
theorem place {N W : Nat} (f : (⟨2, ![N, W]⟩ : Shape).Idx) (R : Fin N) (Z : Fin W) (h0 : (f 0).val = R.val) (h1 : (f 1).val = Z.val) : f = ix2 R Z :=
  funext fun a => Fin.ext (match a with
    | ⟨0, _⟩ => h0
    | ⟨1, _⟩ => h1)

theorem block0 (R k : Fin 2048) : (iblk m c 0 t : FVec Ideal S2048x2048 .f32) (ix2 R k)
    = a0 m c (ix3 (⟨(gr t R).val / 4096, by omega⟩ : Fin 4) (⟨(gr t R).val % 4096, by omega⟩ : Fin 4096) k) := by
  refine (congrArg (V m c main_v3) (place _ (gr t R) k ?_ ?_)).trans ((congrFun (V3 m c) _).trans (rows_apply _ _ (gr t R) k))
  · show win0_0.index t (0 : Fin 2) * 2048 + 1 * R.val = (pi t).val * 2048 + R.val; rw [index0, Nat.one_mul]; rfl
  · show win0_0.index t (1 : Fin 2) * 2048 + 1 * k.val = k.val; rw [index0, Nat.one_mul]; show 0 * 2048 + k.val = _; omega

theorem block1 (R k : Fin 2048) : (iblk m c 1 t : FVec Ideal S1x1x2048 .f32) (ix3 (0 : Fin 1) (0 : Fin 1) k)
    = a1 m c (ix2 (⟨(gr t R).val / 4096, by omega⟩ : Fin 8) (⟨k.val, by omega⟩ : Fin 6144)) := by
  refine (congrArg (V m c main_v4) (funext fun a => Fin.ext ?_)).trans ((congrFun (V4 m c) _).trans (mod_apply _ _ _ _))
  match a with
  | ⟨0, _⟩ => show win0_1.index t (0 : Fin 3) * 1 + 1 * 0 = ((pi t).val * 2048 + R.val) / 4096; rw [index1]; show (pi t).val / 2 * 1 + 1 * 0 = _; omega
  | ⟨1, _⟩ => show win0_1.index t (1 : Fin 3) * 1 + 1 * 0 = 0; rw [index1]; rfl
  | ⟨2, _⟩ => show win0_1.index t (2 : Fin 3) * 2048 + 1 * k.val = k.val; rw [index1]; show 0 * 2048 + 1 * k.val = _; omega

theorem block2 (R k : Fin 2048) : (iblk m c 2 t : FVec Ideal S1x1x2048 .f32) (ix3 (0 : Fin 1) (0 : Fin 1) k)
    = a1 m c (ix2 (⟨(gr t R).val / 4096, by omega⟩ : Fin 8) (⟨2048 + k.val, by omega⟩ : Fin 6144)) := by
  refine (congrArg (V m c main_v4) (funext fun a => Fin.ext ?_)).trans ((congrFun (V4 m c) _).trans (mod_apply _ _ _ _))
  match a with
  | ⟨0, _⟩ => show win0_2.index t (0 : Fin 3) * 1 + 1 * 0 = ((pi t).val * 2048 + R.val) / 4096; rw [index2]; show (pi t).val / 2 * 1 + 1 * 0 = _; omega
  | ⟨1, _⟩ => show win0_2.index t (1 : Fin 3) * 1 + 1 * 0 = 0; rw [index2]; rfl
  | ⟨2, _⟩ => show win0_2.index t (2 : Fin 3) * 2048 + 1 * k.val = 2048 + k.val; rw [index2]; show 1 * 2048 + 1 * k.val = _; omega

theorem block3 (k : Fin 2048) (e : Fin 512) : (X0_3 m c t : FVec Ideal S2048x512 .bf16) (ix2 k e)
    = a2 m c (ix2 k (⟨(pj t).val * 512 + e.val, by omega⟩ : Fin 6672)) := by
  unfold X0_3 Pipeline.Window.fill
  rw [dif_pos (moved0_3 t _)]
  refine (congrArg (V m c main_v0) (place _ k (⟨(pj t).val * 512 + e.val, by omega⟩ : Fin 6672) ?_ ?_)).trans (congrFun (V0 m c) _)
  · show win0_3.index t (0 : Fin 2) * 2048 + 1 * k.val = k.val; rw [index3]; show 0 * 2048 + 1 * k.val = _; omega
  · show win0_3.index t (1 : Fin 2) * 512 + 1 * e.val = (pj t).val * 512 + e.val; rw [index3, Nat.one_mul]; rfl

theorem block4 (k : Fin 2048) (e : Fin 128) : (iblk m c 4 t : FVec Ideal S2048x128 .bf16) (ix2 k e) = sideWeight m c k e := by
  refine (congrArg (V m c main_v2) (place _ k e ?_ ?_)).trans (side_weights m c k e)
  · show win0_4.index t (0 : Fin 2) * 2048 + 1 * k.val = k.val; rw [index4]; show 0 * 2048 + 1 * k.val = _; omega
  · show win0_4.index t (1 : Fin 2) * 128 + 1 * e.val = e.val; rw [index4]; show 0 * 128 + 1 * e.val = _; omega

/-! What the body leaves, of the arguments. -/

theorem hid_apply (R k : Fin 2048) : (hid m c t : FVec Ideal S2048x2048 .bf16) (ix2 R k)
    = normRow (a0 m c) (a1 m c) ⟨(gr t R).val / 4096, by omega⟩ ⟨(gr t R).val % 4096, by omega⟩ k := by
  refine (hidden_apply (iblk m c 0 t) (iblk m c 1 t) (iblk m c 2 t) R k).trans ?_
  unfold normRow
  simp only [block0, block1 m c t R, block2 m c t R]

theorem main_apply (R : Fin 2048) (e : Fin 512) : (mainAt m c t : FVec Ideal S2048x512 .bf16) (ix2 R e)
    = mainSpec (a0 m c) (a1 m c) (a2 m c) (gr t R) ⟨(pj t).val * 512 + e.val, by omega⟩ := by
  have body : (∑ k : Fin 2048, (hid m c t : FVec Ideal S2048x2048 .bf16) (ix2 R k) * (X0_3 m c t : FVec Ideal S2048x512 .bf16) (ix2 k e) : EReal)
      = mainSpec (a0 m c) (a1 m c) (a2 m c) (gr t R) ⟨(pj t).val * 512 + e.val, by omega⟩ := by
    unfold mainSpec lane
    exact Finset.sum_congr rfl fun k _ => congrArg₂ (fun p q : EReal => p * q) (hid_apply m c t R k) (block3 m c t k e)
  unfold mainAt
  by_cases h : t.val % 13 = 0
  · rw [if_pos h]
    exact (mainRows_apply (hid m c t) (X0_3 m c t) R e).trans body
  · rw [if_neg h]
    exact (dotWhole (hid m c t) (X0_3 m c t) R e).trans body

theorem side_apply (R : Fin 2048) (e : Fin 128) : (sideAt m c t : FVec Ideal S2048x128 .f32) (ix2 R e)
    = sideSpec (a0 m c) (a1 m c) (a2 m c) (gr t R) e := by
  refine (sideRows_apply (hid m c t) (iblk m c 4 t) R e).trans ?_
  refine (Finset.sum_congr rfl fun k _ => congrArg₂ (fun p q : EReal => p * q) (hid_apply m c t R k) (block4 m c t k e)).trans ?_
  unfold sideSpec sideWeight lane
  by_cases h : e.val < 16
  · simp only [dif_pos h]
  · simp only [dif_neg h, mul_zero, Finset.sum_const_zero]

/-- the first result array -/
def G : FVec Ideal S16384x6656 .bf16 := fun y => mainSpec (a0 m c) (a1 m c) (a2 m c) (y 0) (y 1)
/-- the second result array -/
def G' : FVec Ideal S16384x128 .f32 := fun y => sideSpec (a0 m c) (a1 m c) (a2 m c) (y 0) (y 1)

theorem array5 : (dats m 0 c).arrAt 5 cfg0.N = G m c := by
  refine (dats m 0 c).arrAt_eq_of_covers 5 _ (by decide +kernel) fun t hf y => ?_
  rw [left5]
  show mainAt m c t y = G m c (((cfg0.win 5).blk t).view.emb y)
  obtain ⟨R, e, rfl⟩ : ∃ (R : Fin 2048) (e : Fin 512), y = ix2 R e := ⟨y 0, y 1, ValueIdx.eq_ix2 y⟩
  refine (main_apply m c t R e).trans (congrArg (G m c) (place (N := 16384) (W := 6656) _ (gr t R) ⟨(pj t).val * 512 + e.val, by omega⟩ ?_ ?_)).symm
  · show win0_5.index t (0 : Fin 2) * 2048 + 1 * R.val = (pi t).val * 2048 + R.val; rw [index5, Nat.one_mul]; rfl
  · show win0_5.index t (1 : Fin 2) * 512 + 1 * e.val = (pj t).val * 512 + e.val; rw [index5, Nat.one_mul]; rfl

theorem array6 : (dats m 0 c).arrAt 6 cfg0.N = G' m c := by
  refine (dats m 0 c).arrAt_eq_of_covers 6 _ (by decide +kernel) fun t hf y => ?_
  rw [left6]
  show sideAt m c t y = G' m c (((cfg0.win 6).blk t).view.emb y)
  obtain ⟨R, e, rfl⟩ : ∃ (R : Fin 2048) (e : Fin 128), y = ix2 R e := ⟨y 0, y 1, ValueIdx.eq_ix2 y⟩
  refine (side_apply m c t R e).trans (congrArg (G' m c) (place (N := 16384) (W := 128) _ (gr t R) e ?_ ?_)).symm
  · show win0_6.index t (0 : Fin 2) * 2048 + 1 * R.val = (pi t).val * 2048 + R.val; rw [index6, Nat.one_mul]; rfl
  · show win0_6.index t (1 : Fin 2) * 128 + 1 * e.val = e.val; rw [index6]; show 0 * 128 + 1 * e.val = _; omega

end Inproj

end
-- ==== Proof.Inproj.Ref.lean ====
/-
  The reference's results at an element.
-/
module

public import proofs.«01_k».proof.Proof.Inproj.Spec
public import proofs.«01_k».proof.Proof.Outproj.Ref
public import proofs.«01_k».proof.Proof.Gen.InprojRefIdeal.Read
public import Idealize.ShloMosaic.Lib.KernelVsHost

@[expose] public section

noncomputable section

namespace Inproj.Ref

open Cert.InprojRefIdeal Cert.InprojRefIdeal.Gen Cert.InprojRefIdeal.Read
open Outproj (rms centred n2048 eps)
open Outproj.Ref (at3 zero)
open Idealize.ShloMosaic hiding ix1 ix2 ix3 ix4 ix5
open Idealize.ShloMosaic.ValueIdx

variable (x0 : FVec Ideal S4x4096x2048 .f32) (x1 : FVec Ideal S8x6144 .f32) (x2 : FVec Ideal S2048x6672 .f32)

theorem centred_apply (b : Fin 4) (s : Fin 4096) (k : Fin 2048) :
    (val_main_v7 (F := Ideal) x0 (ix3 b s k) : EReal) = centred n2048 (fun k => x0 (ix3 b s k)) k := by
  rw [val_main_v7_apply, val_main_v6_apply, val_main_v5_apply, val_main_v4_apply, val_main_cst_0_apply, val_main_v3_apply, val_main_v2_apply,
    val_main_cst_apply]
  show _ - Ideal.div (Ideal.ofBits .f32 0x00000000#32 + _) n2048 = _
  rw [zero, zero_add]
  refine congrArg (fun q : EReal => x0 (ix3 b s k) - Ideal.div q n2048) (Finset.sum_congr rfl fun j _ => ?_)
  rw [at3 (idx_main_v2 (idx_main_v3 (idx_main_v6 (ix3 b s k))) j) b s j rfl rfl rfl]

theorem normed_apply (b : Fin 4) (s : Fin 4096) (k : Fin 2048) :
    (val_main_v17 (F := Ideal) x0 (ix3 b s k) : EReal) = rms n2048 (centred n2048 fun k => x0 (ix3 b s k)) k := by
  rw [val_main_v17_apply, centred_apply, val_main_v16_apply, val_main_v15_apply, val_main_v14_apply, val_main_v13_apply, val_main_cst_3_apply, val_main_v12_apply,
    val_main_v11_apply, val_main_cst_2_apply, val_main_v10_apply, val_main_v9_apply, val_main_cst_1_apply]
  show _ * Ideal.rsqrt (Ideal.div (Ideal.ofBits .f32 0x00000000#32 + _) n2048 + eps) = _
  rw [zero, zero_add]
  refine congrArg (fun q : EReal => centred n2048 (fun k => x0 (ix3 b s k)) k * Ideal.rsqrt (Ideal.div q n2048 + eps)) (Finset.sum_congr rfl fun j _ => ?_)
  rw [at3 (idx_main_v9 (idx_main_v10 (idx_main_v16 (ix3 b s k))) j) b s j rfl rfl rfl, val_main_v8_apply, centred_apply]
  rfl

theorem scale (b : Fin 4) (s : Fin 4096) (k : Fin 2048) :
    (val_main_v21 (F := Ideal) x1 (ix3 b s k) : EReal) = unit + x1 (ix2 (⟨b.val, by omega⟩ : Fin 8) (⟨2048 + k.val, by omega⟩ : Fin 6144)) := by
  rw [val_main_v21_apply, val_main_v20_apply, val_main_v19_apply, val_main_cst_4_apply, val_main_v18_apply, val_main_v1_apply]
  exact congrArg (fun q => unit + x1 q) (funext fun a => match a with
    | ⟨0, _⟩ => rfl
    | ⟨1, _⟩ => rfl)

theorem shift (b : Fin 4) (s : Fin 4096) (k : Fin 2048) :
    (val_main_v24 (F := Ideal) x1 (ix3 b s k) : EReal) = x1 (ix2 (⟨b.val, by omega⟩ : Fin 8) (⟨k.val, by omega⟩ : Fin 6144)) := by
  rw [val_main_v24_apply, val_main_v23_apply, val_main_v0_apply]
  exact congrArg x1 (funext fun a => match a with
    | ⟨0, _⟩ => rfl
    | ⟨1, _⟩ => rfl)

theorem row_apply (b : Fin 4) (s : Fin 4096) (k : Fin 2048) : (val_main_v25 (F := Ideal) x0 x1 (ix3 b s k) : EReal) = normRow x0 x1 b s k := by
  rw [val_main_v25_apply, val_main_v22_apply, normed_apply, scale, shift]
  rfl

theorem dot (b : Fin 4) (s : Fin 4096) (q : Fin 6672) : (val_main_v26 (F := Ideal) x0 x1 x2 (ix3 b s q) : EReal) = lane x0 x1 x2 b s q := by
  rw [val_main_v26_apply]
  refine Finset.sum_congr rfl fun k _ => ?_
  rw [at3 (lidx_main_v26 (ix3 b s q) k) b s k rfl rfl rfl, row_apply]
  exact congrArg (fun q => normRow x0 x1 b s k * x2 q) (funext fun a => match a with
    | ⟨0, _⟩ => rfl
    | ⟨1, _⟩ => rfl)

theorem main_apply (R : Fin 16384) (e : Fin 6656) : (val_main_v31 (F := Ideal) x0 x1 x2 (ix2 R e) : EReal) = mainSpec x0 x1 x2 R e := by
  refine (show (val_main_v31 (F := Ideal) x0 x1 x2 (ix2 R e) : EReal) = val_main_v30 (F := Ideal) x0 x1 x2 (ix2 R e) from rfl).trans ?_
  rw [val_main_v30_apply, val_main_v27_apply,
    at3 (idx_main_v27 (idx_main_v30 (ix2 R e))) ⟨R.val / 4096, by omega⟩ ⟨R.val % 4096, by omega⟩ (⟨e.val, by omega⟩ : Fin 6672), dot]
  · rfl
  · show (R.val * 6656 + e.val) / 27262976 = R.val / 4096; omega
  · show (R.val * 6656 + e.val) / 6656 % 4096 = R.val % 4096; omega
  · show (R.val * 6656 + e.val) % 6656 = e.val; omega

theorem int_zero : (val_main_call0_v0 (F := Ideal) (Shape.Idx.first h_S_) : EReal) = 0 := by
  show (((BitVec.toInt 0#32 : ℤ) : ℝ) : EReal) = 0
  simp

theorem side_apply (R : Fin 16384) (e : Fin 128) : (val_main_v32 (F := Ideal) x0 x1 x2 (ix2 R e) : EReal) = sideSpec x0 x1 x2 R e := by
  have hi := at3 (idx_main_v32 (ix2 R e)) ⟨R.val / 4096, by omega⟩ ⟨R.val % 4096, by omega⟩ e
    (by show (R.val * 128 + e.val) / 524288 = R.val / 4096; omega) (by show (R.val * 128 + e.val) / 128 % 4096 = R.val % 4096; omega)
    (by show (R.val * 128 + e.val) % 128 = e.val; omega)
  rw [val_main_v32_apply, hi]
  unfold val_main_v29 sideSpec
  by_cases h : e.val < 16
  · rw [dif_pos h]
    refine (pad_apply_of_inside (s := S4x4096x16) (t := S4x4096x128) ![0, 0, 0] ![0, 0, 112] ![0, 0, 0] _ _ pads_S4x4096x16_S4x4096x128_000_000_01120 h_S_
      (ix3 (⟨R.val / 4096, by omega⟩ : Fin 4) (⟨R.val % 4096, by omega⟩ : Fin 4096) e)
      (ix3 (⟨R.val / 4096, by omega⟩ : Fin 4) (⟨R.val % 4096, by omega⟩ : Fin 4096) (⟨e.val, h⟩ : Fin 16)) fun a => ?_).trans ?_
    · match a with
      | ⟨0, _⟩ => show R.val / 4096 = 0 + R.val / 4096 * (0 + 1); omega
      | ⟨1, _⟩ => show R.val % 4096 = 0 + R.val % 4096 * (0 + 1); omega
      | ⟨2, _⟩ => show e.val = 0 + e.val * (0 + 1); omega
    · rw [val_main_v28_apply]
      exact (congrArg (val_main_v26 (F := Ideal) x0 x1 x2) (at3 _ ⟨R.val / 4096, by omega⟩ ⟨R.val % 4096, by omega⟩ (⟨6656 + e.val, by omega⟩ : Fin 6672) rfl rfl rfl)).trans (dot x0 x1 x2 _ _ _)
  · rw [dif_neg h]
    refine (pad_apply_of_not_inside (s := S4x4096x16) (t := S4x4096x128) ![0, 0, 0] ![0, 0, 112] ![0, 0, 0] _ _ pads_S4x4096x16_S4x4096x128_000_000_01120 h_S_
      (ix3 (⟨R.val / 4096, by omega⟩ : Fin 4) (⟨R.val % 4096, by omega⟩ : Fin 4096) e) (2 : Fin 3) fun hin => h ?_).trans int_zero
    have h2 : (e.val - 0) / (0 + 1) < 16 := hin.2.2
    omega

end Inproj.Ref

end
-- ==== Proof.lean ====
/-
  The claims. One run of the kernel over any values (Proof/Gqa/Launch.lean) gives the frame of both kernel programs, whose texts are the
  same; over the extended reals its result array is the reference's value of the kernel's arguments (Proof/Gqa/Value.lean). The output
  projection's result array, over the extended reals, is `Outproj.G` of its arguments (Proof/Outproj/Value.lean), and so is its
  reference's (Proof/Outproj/Ref.lean). The input projection's two result arrays are `Inproj.G` and `Inproj.G'` of its arguments
  (Proof/Inproj/Value.lean), and so are its reference's (Proof/Inproj/Ref.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gqa.Same
public import proofs.«01_k».proof.Proof.Gqa.Finite
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Outproj.Value
public import proofs.«01_k».proof.Proof.Outproj.Ref
public import proofs.«01_k».proof.Proof.Gen.Inproj
public import proofs.«01_k».proof.Proof.Gen.InprojIdeal
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Inproj.Same
public import proofs.«01_k».proof.Proof.Inproj.Value
public import proofs.«01_k».proof.Proof.Inproj.Ref
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel (hKernel := Cert.Kernel.Gen.facts) := fun m ρ _ => by
  rw [← defs_same (F := Bits)]
  exact (θ_run Cert.KernelIdeal.defs _ _).mono (fun _ h => h) (Cert.KernelIdeal.Attn.args_kept (F := Bits) m ρ)

theorem frame_ideal : Cert.quiescent_KernelIdeal (hKernelIdeal := Cert.KernelIdeal.Gen.facts) := fun m ρ _ =>
  Cert.KernelIdeal.Attn.args_kept (F := Ideal) m ρ

theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

theorem algebraic : Cert.algebraic_KernelIdeal_ReferenceIdeal_pre_scores_finite (hKernelIdeal := Cert.KernelIdeal.Gen.facts)
    (hReferenceIdeal := Cert.ReferenceIdeal.Gen.facts) (hPre_scores_finite := pre_facts) := fun m ρ m' ρ' hp hag =>
  ⟨fun c => Cert.KernelIdeal.Attn.attn m c,
    Cert.KernelIdeal.Attn.run_named m ρ _ (fun c => Cert.KernelIdeal.Attn.array m c (pre_real m hp c).1 (pre_real m hp c).2.1 (pre_real m hp c).2.2),
    (θ_run Cert.ReferenceIdeal.defs _ _).mono (fun _ h c => ⟨(h c).1.trans (by
      rw [Cert.ReferenceIdeal.Read.val_main_v28_eq m' c, (hag c).1, (hag c).2.1, (hag c).2.2.1, (hag c).2.2.2.1, (hag c).2.2.2.2]), (h c).2⟩)
      (Cert.ReferenceIdeal.Value.run (F := Ideal) m' ρ')⟩

/-! ## The output projection -/

theorem frame_outproj : Cert.quiescent_Outproj (hOutproj := Cert.Outproj.Gen.facts) := fun m ρ _ => Cert.Outproj.Gen.frame (F := Bits) m ρ

theorem frame_outproj_ideal : Cert.quiescent_OutprojIdeal (hOutprojIdeal := Cert.OutprojIdeal.Gen.facts) := fun m ρ _ =>
  Cert.OutprojIdeal.Gen.frame (F := Ideal) m ρ

theorem frame_outproj_reference : Cert.quiescent_OutprojRefIdeal (hOutprojRefIdeal := Cert.OutprojRefIdeal.Gen.facts) := fun m ρ _ =>
  (θ_run Cert.OutprojRefIdeal.defs _ _).mono
    (fun r h => ⟨fun c => (h c).2, Idealize.ShloMosaic.sem_eq_zero_of_no_sems (by decide) r.2⟩) (Cert.OutprojRefIdeal.Value.run (F := Ideal) m ρ)

/-- The reference's result, of the kernel's arguments. -/
theorem outproj_result (m : (ℓ : Loc Cert.OutprojIdeal.nD Cert.OutprojIdeal.τ Cert.OutprojIdeal.sig) → Buf (Elt Ideal) ℓ) (c : Dev Cert.OutprojIdeal.nD) :
    Cert.OutprojRefIdeal.Read.val_main_v60 (F := Ideal) (Outproj.a0 m c) (Outproj.a1 m c) (Outproj.a2 m c) (Outproj.a3 m c) (Outproj.a4 m c) (Outproj.a5 m c)
      (Outproj.a6 m c) (Outproj.a7 m c) (Outproj.a8 m c) (Outproj.a9 m c) (Outproj.a10 m c) = Outproj.G m c := by
  funext y
  obtain ⟨R, e, rfl⟩ : ∃ (R : Fin 16384) (e : Fin 2048), y = ValueIdx.ix2 R e := ⟨y 0, y 1, ValueIdx.eq_ix2 y⟩
  exact Outproj.Ref.ref_apply _ _ _ _ _ _ _ _ _ _ _ R e

theorem algebraic_outproj : Cert.algebraic_OutprojIdeal_OutprojRefIdeal (hOutprojIdeal := Cert.OutprojIdeal.Gen.facts)
    (hOutprojRefIdeal := Cert.OutprojRefIdeal.Gen.facts) := fun m ρ m' ρ' _ hag =>
  ⟨fun c => Outproj.G m c,
    (θ_run Cert.OutprojIdeal.defs _ _).mono (fun _ h c => ⟨(h c).1.trans (Outproj.final m c), (h c).2⟩) (Cert.OutprojIdeal.Value.run_blocks m ρ),
    (θ_run Cert.OutprojRefIdeal.defs _ _).mono (fun _ h c => ⟨(h c).1.trans (by
      obtain ⟨h0, h1, h2, h3, h4, h5, h6, h7, h8, h9, h10⟩ := hag c
      rw [Cert.OutprojRefIdeal.Read.val_main_v60_eq m' c, h0, h1, h2, h3, h4, h5, h6, h7, h8, h9, h10]
      exact outproj_result m c), (h c).2⟩) (Cert.OutprojRefIdeal.Value.run (F := Ideal) m' ρ')⟩

/-! ## The input projection -/

theorem frame_inproj : Cert.quiescent_Inproj (hInproj := Cert.Inproj.Gen.facts) := fun m ρ _ => by
  rw [← Inproj.defs_same (F := Bits)]
  exact (θ_run Cert.InprojIdeal.defs _ _).mono (fun _ h => h) (Inproj.args_kept (F := Bits) m ρ)

theorem frame_inproj_ideal : Cert.quiescent_InprojIdeal (hInprojIdeal := Cert.InprojIdeal.Gen.facts) := fun m ρ _ => Inproj.args_kept (F := Ideal) m ρ

theorem frame_inproj_reference : Cert.quiescent_InprojRefIdeal (hInprojRefIdeal := Cert.InprojRefIdeal.Gen.facts) := fun m ρ _ =>
  (θ_run Cert.InprojRefIdeal.defs _ _).mono
    (fun r h => ⟨fun c => (h c).2.2, Idealize.ShloMosaic.sem_eq_zero_of_no_sems (by decide) r.2⟩) (Cert.InprojRefIdeal.Value.run (F := Ideal) m ρ)

/-- The reference's first result, of the kernel's arguments. -/
theorem inproj_main (m : (ℓ : Loc Cert.InprojIdeal.nD Cert.InprojIdeal.τ Cert.InprojIdeal.sig) → Buf (Elt Ideal) ℓ) (c : Dev Cert.InprojIdeal.nD) :
    Cert.InprojRefIdeal.Read.val_main_v31 (F := Ideal) (Inproj.a0 m c) (Inproj.a1 m c) (Inproj.a2 m c) = Inproj.G m c := by
  funext y
  obtain ⟨R, e, rfl⟩ : ∃ (R : Fin 16384) (e : Fin 6656), y = ValueIdx.ix2 R e := ⟨y 0, y 1, ValueIdx.eq_ix2 y⟩
  exact Inproj.Ref.main_apply _ _ _ R e

/-- The reference's second result, of the kernel's arguments. -/
theorem inproj_side (m : (ℓ : Loc Cert.InprojIdeal.nD Cert.InprojIdeal.τ Cert.InprojIdeal.sig) → Buf (Elt Ideal) ℓ) (c : Dev Cert.InprojIdeal.nD) :
    Cert.InprojRefIdeal.Read.val_main_v32 (F := Ideal) (Inproj.a0 m c) (Inproj.a1 m c) (Inproj.a2 m c) = Inproj.G' m c := by
  funext y
  obtain ⟨R, e, rfl⟩ : ∃ (R : Fin 16384) (e : Fin 128), y = ValueIdx.ix2 R e := ⟨y 0, y 1, ValueIdx.eq_ix2 y⟩
  exact Inproj.Ref.side_apply _ _ _ R e

theorem algebraic_inproj : Cert.algebraic_InprojIdeal_InprojRefIdeal (hInprojIdeal := Cert.InprojIdeal.Gen.facts)
    (hInprojRefIdeal := Cert.InprojRefIdeal.Gen.facts) := fun m ρ m' ρ' _ hag =>
  ⟨fun c => Inproj.G m c, fun c => Inproj.G' m c,
    (θ_run Cert.InprojIdeal.defs _ _).mono (fun _ h c => ⟨(h c).1.1, (h c).1.2, (h c).2⟩)
      (Inproj.run_named m ρ _ _ (fun c => Inproj.array5 m c) (fun c => Inproj.array6 m c)),
    (θ_run Cert.InprojRefIdeal.defs _ _).mono (fun _ h c => by
      obtain ⟨h0, h1, h2⟩ := hag c
      refine ⟨(h c).1.trans ?_, (h c).2.1.trans ?_, (h c).2.2⟩
      · rw [Cert.InprojRefIdeal.Read.val_main_v31_eq, h0, h1, h2]
        exact inproj_main m c
      · rw [Cert.InprojRefIdeal.Read.val_main_v32_eq, h0, h1, h2]
        exact inproj_side m c) (Cert.InprojRefIdeal.Value.run (F := Ideal) m' ρ')⟩

theorem claim : Cert.Claim :=
  ⟨Cert.Kernel.Gen.facts, Cert.KernelIdeal.Gen.facts, Cert.ReferenceIdeal.Gen.facts, Cert.Outproj.Gen.facts, Cert.OutprojIdeal.Gen.facts,
    Cert.OutprojRefIdeal.Gen.facts, Cert.Inproj.Gen.facts, Cert.InprojIdeal.Gen.facts, Cert.InprojRefIdeal.Gen.facts, pre_facts,
    frame_kernel, frame_ideal, fun m ρ _ => frame_ideal m ρ trivial, frame_reference, fun m ρ _ => frame_reference m ρ trivial,
    frame_outproj, frame_outproj_ideal, frame_outproj_reference, frame_inproj, frame_inproj_ideal, frame_inproj_reference,
    trivial, algebraic, trivial, algebraic_outproj, trivial, algebraic_inproj⟩

end Cert.Proof

end
